-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v155_0)) (v1 : (c : Dev Cert.KernelIdeal.nD) → Buf (Elt Ideal) ((c.tc : Thread Cert.KernelIdeal.nD Cert.KernelIdeal.τ).loc Cert.KernelIdeal.main_v155_1)) (v2 : (c : Dev Cert.KernelIdeal.nD) → Buf (Elt Ideal) ((c.tc : Thread Cert.KernelIdeal.nD Cert.KernelIdeal.τ).loc Cert.KernelIdeal.main_v155_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155_0) = v0 c
          ∧ r.2.mem ((c.tc : Thread Cert.KernelIdeal.nD Cert.KernelIdeal.τ).loc Cert.KernelIdeal.main_v155_1) = v1 c
          ∧ r.2.mem ((c.tc : Thread Cert.KernelIdeal.nD Cert.KernelIdeal.τ).loc Cert.KernelIdeal.main_v155_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v42) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S8192x2048 : Shape := ⟨2, ![8192, 2048]⟩
abbrev S8704x2048 : Shape := ⟨2, ![8704, 2048]⟩
abbrev S16x192 : Shape := ⟨2, ![16, 192]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8704x2048 : S_.BroadcastsInDim S8704x2048 (![] : Fin 0 → Fin S8704x2048.rank)
  bcast_S_S16x192 : S_.BroadcastsInDim S16x192 (![] : Fin 0 → Fin S16x192.rank)

variable [Facts]

def fn {F : FTy → Type} [FloatOps F] (main_arg0 : FVec F S8192x2048 .bf16) (main_arg1 : FVec F S8704x2048 .bf16) (main_arg2 : FVec F S8704x2048 .bf16) (main_arg3 : FVec F S16x192 .f32) (main_arg4 : FVec F S8192x2048 .bf16) : IVec S8192x2048 1 × IVec S8704x2048 1 × IVec S16x192 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8704x2048 .f32 := (extf .f32 · bitsLt_bf16_f32) main_arg1
  let main_v5 : FVec F S8704x2048 .f32 := Host.absf main_v4
  let main_cst_0 : FVec F S_ .f32 := constant S_ .f32 0x7F800000#32
  let main_v6 : FVec F S8704x2048 .f32 := broadcastInDim S8704x2048 ![] bcast_S_S8704x2048 main_cst_0
  let main_v7 : IVec S8704x2048 1 := cmpf .olt main_v5 main_v6
  let main_v8 : FVec F S16x192 .f32 := Host.absf main_arg3
  let main_cst_1 : FVec F S_ .f32 := constant S_ .f32 0x7F800000#32
  let main_v9 : FVec F S16x192 .f32 := broadcastInDim S16x192 ![] bcast_S_S16x192 main_cst_1
  let main_v10 : IVec S16x192 1 := cmpf .olt main_v8 main_v9
  (main_v3, main_v7, main_v10)
-- ==== Pre_finite3.lean ====
abbrev S8192x2048 : Shape := ⟨2, ![8192, 2048]⟩
abbrev S1x2048 : Shape := ⟨2, ![1, 2048]⟩
abbrev S8192x5632 : Shape := ⟨2, ![8192, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S8192x5632 : S_.BroadcastsInDim S8192x5632 (![] : Fin 0 → Fin S8192x5632.rank)
  bcast_S_S5632x2048 : S_.BroadcastsInDim S5632x2048 (![] : Fin 0 → Fin S5632x2048.rank)

variable [Facts]

def fn {F : FTy → Type} [FloatOps F] (main_arg0 : FVec F S8192x2048 .f32) (main_arg1 : FVec F S8192x2048 .f32) (main_arg2 : FVec F S1x2048 .f32) (main_arg3 : FVec F S8192x5632 .bf16) (main_arg4 : FVec F S8192x5632 .bf16) (main_arg5 : FVec F S5632x2048 .bf16) (main_arg6 : FVec F S5632x2048 .bf16) (main_arg7 : FVec F S5632x2048 .bf16) : IVec S8192x2048 1 × IVec S8192x5632 1 × IVec S5632x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x5632 .f32 := (extf .f32 · bitsLt_bf16_f32) main_arg4
  let main_v4 : FVec F S8192x5632 .f32 := Host.absf main_v3
  let main_cst_0 : FVec F S_ .f32 := constant S_ .f32 0x7F800000#32
  let main_v5 : FVec F S8192x5632 .f32 := broadcastInDim S8192x5632 ![] bcast_S_S8192x5632 main_cst_0
  let main_v6 : IVec S8192x5632 1 := cmpf .olt main_v4 main_v5
  let main_v7 : FVec F S5632x2048 .f32 := (extf .f32 · bitsLt_bf16_f32) main_arg7
  let main_v8 : FVec F S5632x2048 .f32 := Host.absf main_v7
  let main_cst_1 : FVec F S_ .f32 := constant S_ .f32 0x7F800000#32
  let main_v9 : FVec F S5632x2048 .f32 := broadcastInDim S5632x2048 ![] bcast_S_S5632x2048 main_cst_1
  let main_v10 : IVec S5632x2048 1 := cmpf .olt main_v8 main_v9
  (main_v2, main_v6, main_v10)
-- ==== Kernel.lean ====
abbrev S8192x2048 : Shape := ⟨2, ![8192, 2048]⟩
abbrev S8704x2048 : Shape := ⟨2, ![8704, 2048]⟩
abbrev S16x192 : Shape := ⟨2, ![16, 192]⟩
abbrev S16x1 : Shape := ⟨2, ![16, 1]⟩
abbrev S16x448 : Shape := ⟨2, ![16, 448]⟩
abbrev S16x191 : Shape := ⟨2, ![16, 191]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S_ : Shape := ⟨0, ![]⟩
abbrev S16x256x768 : Shape := ⟨3, ![16, 256, 768]⟩
abbrev S1 : Shape := ⟨1, ![1]⟩
abbrev S2 : Shape := ⟨1, ![2]⟩
abbrev S2048x128 : Shape := ⟨2, ![2048, 128]⟩
abbrev S8704x128 : Shape := ⟨2, ![8704, 128]⟩
abbrev S1x256x768 : Shape := ⟨3, ![1, 256, 768]⟩
abbrev S256x768 : Shape := ⟨2, ![256, 768]⟩
abbrev S256x128 : Shape := ⟨2, ![256, 128]⟩
abbrev S768x128 : Shape := ⟨2, ![768, 128]⟩
abbrev S1x768 : Shape := ⟨2, ![1, 768]⟩
abbrev S256 : Shape := ⟨1, ![256]⟩
abbrev S256x1 : Shape := ⟨2, ![256, 1]⟩

abbrev nBuf : Space → Nat
  | .hbm => 173
  | .vmem => 18
  | .smem => 0
  | _ => 0

abbrev hbmTy0_0 (i : Nat) : BufTy := match i % 128 with
  | 0 => ⟨S8192x2048, .bf16⟩
  | 1 => ⟨S8704x2048, .bf16⟩
  | 2 => ⟨S8704x2048, .bf16⟩
  | 3 => ⟨S16x192, .f32⟩
  | 4 => ⟨S8192x2048, .bf16⟩
  | 5 => ⟨S16x1, .f32⟩
  | 6 => ⟨S16x448, .f32⟩
  | 7 => ⟨S16x191, .f32⟩
  | 8 => ⟨S16x191, .f32⟩
  | 9 => ⟨S16x639, .f32⟩
  | 10 => ⟨S16x576, .f32⟩
  | 11 => ⟨S16x576, .f32⟩
  | 12 => ⟨S16x576, .f32⟩
  | 13 => ⟨S16x576, .f32⟩
  | 14 => ⟨S16x576, .f32⟩
  | 15 => ⟨S16x576, .f32⟩
  | 16 => ⟨S16x576, .f32⟩
  | 17 => ⟨S16x576, .f32⟩
  | 18 => ⟨S16x576, .f32⟩
  | 19 => ⟨S16x576, .f32⟩
  | 20 => ⟨S16x576, .f32⟩
  | 21 => ⟨S16x576, .f32⟩
  | 22 => ⟨S16x576, .f32⟩
  | 23 => ⟨S16x576, .f32⟩
  | 24 => ⟨S16x576, .f32⟩
  | 25 => ⟨S16x576, .f32⟩
  | 26 => ⟨S16x576, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x1x576, .f32⟩
  | 75 => ⟨S16x1x576, .f32⟩
  | 76 => ⟨S16x1x576, .f32⟩
  | 77 => ⟨S16x1x576, .f32⟩
  | 78 => ⟨S16x1x576, .f32⟩
  | 79 => ⟨S16x1x576, .f32⟩
  | 80 => ⟨S16x1x576, .f32⟩
  | 81 => ⟨S16x1x576, .f32⟩
  | 82 => ⟨S16x1x576, .f32⟩
  | 83 => ⟨S16x1x576, .f32⟩
  | 84 => ⟨S16x1x576, .f32⟩
  | 85 => ⟨S16x1x576, .f32⟩
  | 86 => ⟨S16x1x576, .f32⟩
  | 87 => ⟨S16x1x576, .f32⟩
  | 88 => ⟨S16x1x576, .f32⟩
  | 89 => ⟨S16x1x576, .f32⟩
  | 90 => ⟨S16x1x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S8192x2048, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x16x576, .f32⟩
  | 11 => ⟨S16x16x576, .f32⟩
  | 12 => ⟨S16x16x576, .f32⟩
  | 13 => ⟨S16x16x576, .f32⟩
  | 14 => ⟨S16x64x576, .f32⟩
  | 15 => ⟨S_, .f32⟩
  | 16 => ⟨S16x256x768, .f32⟩
  | 17 => ⟨S_, .i32⟩
  | 18 => ⟨S1, .i32⟩
  | 19 => ⟨S_, .i32⟩
  | 20 => ⟨S1, .i32⟩
  | 21 => ⟨S2, .i32⟩
  | 22 => ⟨S16x256x768, .f32⟩
  | 23 => ⟨S_, .i32⟩
  | 24 => ⟨S1, .i32⟩
  | 25 => ⟨S_, .i32⟩
  | 26 => ⟨S1, .i32⟩
  | 27 => ⟨S2, .i32⟩
  | 28 => ⟨S16x256x768, .f32⟩
  | 29 => ⟨S_, .i32⟩
  | 30 => ⟨S1, .i32⟩
  | 31 => ⟨S_, .i32⟩
  | 32 => ⟨S1, .i32⟩
  | 33 => ⟨S2, .i32⟩
  | 34 => ⟨S16x256x768, .f32⟩
  | 35 => ⟨S_, .i32⟩
  | 36 => ⟨S1, .i32⟩
  | 37 => ⟨S_, .i32⟩
  | 38 => ⟨S1, .i32⟩
  | 39 => ⟨S2, .i32⟩
  | 40 => ⟨S16x256x768, .f32⟩
  | 41 => ⟨S8192x2048, .f32⟩
  | 42 => ⟨S8704x2048, .f32⟩
  | 43 => ⟨S8704x2048, .f32⟩
  | 44 => ⟨S16x256x768, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S1x256x768, .f32⟩
  | .local _ .vmem, ⟨7, _⟩ => ⟨S1x256x768, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S8704x128, .f32⟩
  | .local _ .vmem, ⟨13, _⟩ => ⟨S8704x128, .f32⟩
  | .local _ .vmem, ⟨14, _⟩ => ⟨S8704x128, .f32⟩
  | .local _ .vmem, ⟨15, _⟩ => ⟨S8704x128, .f32⟩
  | .local _ .vmem, ⟨16, _⟩ => ⟨S1x256x768, .f32⟩
  | .local _ .vmem, ⟨17, _⟩ => ⟨S1x256x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_cst : Ref sig .tc := ⟨.hbm, 143, rfl⟩
abbrev main_v138 : Ref sig .tc := ⟨.hbm, 144, rfl⟩
abbrev main_c : Ref sig .tc := ⟨.hbm, 145, rfl⟩
abbrev main_v139 : Ref sig .tc := ⟨.hbm, 146, rfl⟩
abbrev main_c_0 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_c_1 : Ref sig .tc := ⟨.hbm, 151, rfl⟩
abbrev main_v143 : Ref sig .tc := ⟨.hbm, 152, rfl⟩
abbrev main_c_2 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_c_3 : Ref sig .tc := ⟨.hbm, 157, rfl⟩
abbrev main_v147 : Ref sig .tc := ⟨.hbm, 158, rfl⟩
abbrev main_c_4 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_c_5 : Ref sig .tc := ⟨.hbm, 163, rfl⟩
abbrev main_v151 : Ref sig .tc := ⟨.hbm, 164, rfl⟩
abbrev main_c_6 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155_0 : Ref sig .tc := ⟨.hbm, 169, rfl⟩
abbrev main_v155_1 : Ref sig .tc := ⟨.hbm, 170, rfl⟩
abbrev main_v155_2 : Ref sig .tc := ⟨.hbm, 171, rfl⟩
abbrev main_v155_3 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c8_i32 : BitVec 32 := 8#32
  let v3 : BitVec 32 := Scalar.muli arg1 c8_i32
  let c0_i32_1 : BitVec 32 := 0#32
  let v4 : BitVec 32 := Scalar.addi v3 c0_i32_1
  let c256_i32 : BitVec 32 := 256#32
  let v5 : BitVec 32 := Scalar.muli v4 c256_i32
  v5
def k0_off1 (i : grid0.Coords) (c0_i32_1 : BitVec 32) : Fin 2 → Nat :=
  let arg1 : BitVec 32 := BitVec.ofNat 32 (i 1).val
  let c8_i32 : BitVec 32 := 8#32
  let v3 : BitVec 32 := Scalar.muli arg1 c8_i32
  let v4 : BitVec 32 := Scalar.addi v3 c0_i32_1
  let c256_i32 : BitVec 32 := 256#32
  let v5 : BitVec 32 := Scalar.muli v4 c256_i32
  let v6 : BitVec 32 := v5
  let v9 : Index := Scalar.indexCast v6
  let c0_5 : Index := 0#32
  ![v9.toNat, 0]
def k0_mult2 (i : grid0.Coords) : BitVec 32 :=
  let arg1 : BitVec 32 := BitVec.ofNat 32 (i 1).val
  let c8_i32_33 : BitVec 32 := 8#32
  let v72 : BitVec 32 := Scalar.muli arg1 c8_i32_33
  let c1_i32 : BitVec 32 := 1#32
  let v73 : BitVec 32 := Scalar.addi v72 c1_i32
  let c256_i32_34 : BitVec 32 := 256#32
  let v74 : BitVec 32 := Scalar.muli v73 c256_i32_34
  v74
def k0_mult3 (i : grid0.Coords) : BitVec 32 :=
  let arg1 : BitVec 32 := BitVec.ofNat 32 (i 1).val
  let c8_i32_68 : BitVec 32 := 8#32
  let v141 : BitVec 32 := Scalar.muli arg1 c8_i32_68
  let c2_i32 : BitVec 32 := 2#32
  let v142 : BitVec 32 := Scalar.addi v141 c2_i32
  let c256_i32_69 : BitVec 32 := 256#32
  let v143 : BitVec 32 := Scalar.muli v142 c256_i32_69
  v143
def k0_mult4 (i : grid0.Coords) : BitVec 32 :=
  let arg1 : BitVec 32 := BitVec.ofNat 32 (i 1).val
  let c8_i32_103 : BitVec 32 := 8#32
  let v210 : BitVec 32 := Scalar.muli arg1 c8_i32_103
  let c3_i32 : BitVec 32 := 3#32
  let v211 : BitVec 32 := Scalar.addi v210 c3_i32
  let c256_i32_104 : BitVec 32 := 256#32
  let v212 : BitVec 32 := Scalar.muli v211 c256_i32_104
  v212
def k0_mult5 (i : grid0.Coords) : BitVec 32 :=
  let arg1 : BitVec 32 := BitVec.ofNat 32 (i 1).val
  let c8_i32_138 : BitVec 32 := 8#32
  let v279 : BitVec 32 := Scalar.muli arg1 c8_i32_138
  let c4_i32 : BitVec 32 := 4#32
  let v280 : BitVec 32 := Scalar.addi v279 c4_i32
  let c256_i32_139 : BitVec 32 := 256#32
  let v281 : BitVec 32 := Scalar.muli v280 c256_i32_139
  v281
def k0_mult6 (i : grid0.Coords) : BitVec 32 :=
  let arg1 : BitVec 32 := BitVec.ofNat 32 (i 1).val
  let c8_i32_173 : BitVec 32 := 8#32
  let v348 : BitVec 32 := Scalar.muli arg1 c8_i32_173
  let c5_i32 : BitVec 32 := 5#32
  let v349 : BitVec 32 := Scalar.addi v348 c5_i32
  let c256_i32_174 : BitVec 32 := 256#32
  let v350 : BitVec 32 := Scalar.muli v349 c256_i32_174
  v350
def k0_mult7 (i : grid0.Coords) : BitVec 32 :=
  let arg1 : BitVec 32 := BitVec.ofNat 32 (i 1).val
  let c8_i32_208 : BitVec 32 := 8#32
  let v417 : BitVec 32 := Scalar.muli arg1 c8_i32_208
  let c6_i32 : BitVec 32 := 6#32
  let v418 : BitVec 32 := Scalar.addi v417 c6_i32
  let c256_i32_209 : BitVec 32 := 256#32
  let v419 : BitVec 32 := Scalar.muli v418 c256_i32_209
  v419
def k0_mult8 (i : grid0.Coords) : BitVec 32 :=
  let arg1 : BitVec 32 := BitVec.ofNat 32 (i 1).val
  let c8_i32_243 : BitVec 32 := 8#32
  let v486 : BitVec 32 := Scalar.muli arg1 c8_i32_243
  let c7_i32 : BitVec 32 := 7#32
  let v487 : BitVec 32 := Scalar.addi v486 c7_i32
  let c256_i32_244 : BitVec 32 := 256#32
  let v488 : BitVec 32 := Scalar.muli v487 c256_i32_244
  v488
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8704x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8704x2048 : Shape := ⟨2, ![8704, 2048]⟩
abbrev S16x192 : Shape := ⟨2, ![16, 192]⟩
abbrev S8192x16x128 : Shape := ⟨3, ![8192, 16, 128]⟩
abbrev S8704x16x128 : Shape := ⟨3, ![8704, 16, 128]⟩
abbrev S8192x8704 : Shape := ⟨2, ![8192, 8704]⟩
abbrev S_ : Shape := ⟨0, ![]⟩
abbrev S8192x8704x1 : Shape := ⟨3, ![8192, 8704, 1]⟩
abbrev S16x8192x8704 : Shape := ⟨3, ![16, 8192, 8704]⟩
abbrev S1x8192x8704 : Shape := ⟨3, ![1, 8192, 8704]⟩
abbrev S16x8192 : Shape := ⟨2, ![16, 8192]⟩
abbrev S16x8192x1 : Shape := ⟨3, ![16, 8192, 1]⟩
abbrev S16x128x8192 : Shape := ⟨3, ![16, 128, 8192]⟩
abbrev S16x128x8704 : Shape := ⟨3, ![16, 128, 8704]⟩
abbrev S16x8704x128 : Shape := ⟨3, ![16, 8704, 128]⟩
abbrev S16x8192x128 : Shape := ⟨3, ![16, 8192, 128]⟩

abbrev nBuf : Space → Nat
  | .hbm => 157
  | .vmem => 0
  | .smem => 0
  | _ => 0

abbrev hbmTy0_0 (i : Nat) : BufTy := match i % 128 with
  | 0 => ⟨S8192x2048, .bf16⟩
  | 1 => ⟨S8704x2048, .bf16⟩
  | 2 => ⟨S8704x2048, .bf16⟩
  | 3 => ⟨S16x192, .f32⟩
  | 4 => ⟨S8192x2048, .bf16⟩
  | 5 => ⟨S8192x2048, .f32⟩
  | 6 => ⟨S8704x2048, .f32⟩
  | 7 => ⟨S8704x2048, .f32⟩
  | 8 => ⟨S8192x16x128, .f32⟩
  | 9 => ⟨S8704x16x128, .f32⟩
  | 10 => ⟨S8704x16x128, .f32⟩
  | 11 => ⟨S8192x8704, .i32⟩
  | 12 => ⟨S8192x8704, .i32⟩
  | 13 => ⟨S8192x8704, .i32⟩
  | 14 => ⟨S_, .i32⟩
  | 15 => ⟨S8192x8704, .i32⟩
  | 16 => ⟨S8192x8704, .i32⟩
  | 17 => ⟨S_, .i32⟩
  | 18 => ⟨S_, .i32⟩
  | 19 => ⟨S_, .i32⟩
  | 20 => ⟨S8192x8704, .i32⟩
  | 21 => ⟨S8192x8704, .i32⟩
  | 22 => ⟨S_, .i32⟩
  | 23 => ⟨S8192x8704, .i32⟩
  | 24 => ⟨S8192x8704, .i32⟩
  | 25 => ⟨S_, .i32⟩
  | 26 => ⟨S8192x8704, .i32⟩
  | 27 => ⟨S8192x8704, .i32⟩
  | 28 => ⟨S_, .i32⟩
  | 29 => ⟨S8192x8704, .i32⟩
  | 30 => ⟨S8192x8704, .i1⟩
  | 31 => ⟨S_, .i32⟩
  | 32 => ⟨S8192x8704, .i32⟩
  | 33 => ⟨S8192x8704, .i32⟩
  | 34 => ⟨S8192x8704, .i32⟩
  | 35 => ⟨S8192x8704x1, .i32⟩
  | 36 => ⟨S16x8192x8704, .f32⟩
  | 37 => ⟨S_, .i32⟩
  | 38 => ⟨S_, .i32⟩
  | 39 => ⟨S8192x8704, .i32⟩
  | 40 => ⟨S8192x8704, .i32⟩
  | 41 => ⟨S8192x8704, .i32⟩
  | 42 => ⟨S_, .i32⟩
  | 43 => ⟨S8192x8704, .i32⟩
  | 44 => ⟨S8192x8704, .i1⟩
  | 45 => ⟨S8192x8704, .i32⟩
  | 46 => ⟨S8192x8704, .i32⟩
  | 47 => ⟨S_, .i32⟩
  | 48 => ⟨S8192x8704, .i32⟩
  | 49 => ⟨S8192x8704, .i1⟩
  | 50 => ⟨S8192x8704, .i1⟩
  | 51 => ⟨S_, .i32⟩
  | 52 => ⟨S8192x8704, .i32⟩
  | 53 => ⟨S8192x8704, .i32⟩
  | 54 => ⟨S8192x8704, .i32⟩
  | 55 => ⟨S_, .i32⟩
  | 56 => ⟨S8192x8704, .i32⟩
  | 57 => ⟨S8192x8704, .i32⟩
  | 58 => ⟨S8192x8704, .i32⟩
  | 59 => ⟨S_, .i32⟩
  | 60 => ⟨S8192x8704, .i32⟩
  | 61 => ⟨S8192x8704, .i1⟩
  | 62 => ⟨S_, .i32⟩
  | 63 => ⟨S8192x8704, .i32⟩
  | 64 => ⟨S8192x8704, .i1⟩
  | 65 => ⟨S8192x8704, .i1⟩
  | 66 => ⟨S_, .i32⟩
  | 67 => ⟨S8192x8704, .i32⟩
  | 68 => ⟨S8192x8704, .i1⟩
  | 69 => ⟨S8192x8704, .i1⟩
  | 70 => ⟨S16x8192x8704, .f32⟩
  | 71 => ⟨S_, .f32⟩
  | 72 => ⟨S16x8192x8704, .f32⟩
  | 73 => ⟨S16x8192x8704, .f32⟩
  | 74 => ⟨S16x8192x8704, .f32⟩
  | 75 => ⟨S1x8192x8704, .i1⟩
  | 76 => ⟨S_, .f32⟩
  | 77 => ⟨S_, .f32⟩
  | 78 => ⟨S16x8192x8704, .i1⟩
  | 79 => ⟨S16x8192x8704, .f32⟩
  | 80 => ⟨S16x8192x8704, .f32⟩
  | 81 => ⟨S_, .f32⟩
  | 82 => ⟨S16x8192x8704, .f32⟩
  | 83 => ⟨S_, .f32⟩
  | 84 => ⟨S16x8192, .f32⟩
  | 85 => ⟨S16x8192x1, .f32⟩
  | 86 => ⟨S16x8192x8704, .f32⟩
  | 87 => ⟨S16x8192x8704, .i1⟩
  | 88 => ⟨S16x8192x8704, .f32⟩
  | 89 => ⟨S_, .f32⟩
  | 90 => ⟨S16x8192, .f32⟩
  | 91 => ⟨S_, .f32⟩
  | 92 => ⟨S16x8192, .f32⟩
  | 93 => ⟨S16x8192, .f32⟩
  | 94 => ⟨S_, .f32⟩
  | 95 => ⟨S16x8192, .f32⟩
  | 96 => ⟨S16x8192, .i1⟩
  | 97 => ⟨S_, .f32⟩
  | 98 => ⟨S16x8192, .f32⟩
  | 99 => ⟨S16x8192, .i1⟩
  | 100 => ⟨S_, .f32⟩
  | 101 => ⟨S16x8192, .f32⟩
  | 102 => ⟨S_, .f32⟩
  | 103 => ⟨S16x8192, .f32⟩
  | 104 => ⟨S_, .f32⟩
  | 105 => ⟨S16x8192, .f32⟩
  | 106 => ⟨S16x8192, .f32⟩
  | 107 => ⟨S16x8192, .f32⟩
  | 108 => ⟨S16x8192x1, .f32⟩
  | 109 => ⟨S16x8192x8704, .f32⟩
  | 110 => ⟨S16x8192x8704, .f32⟩
  | 111 => ⟨S16x8192x8704, .f32⟩
  | 112 => ⟨S_, .f32⟩
  | 113 => ⟨S16x8192, .f32⟩
  | 114 => ⟨S16x8192x1, .f32⟩
  | 115 => ⟨S16x8192x8704, .f32⟩
  | 116 => ⟨S16x8192x8704, .f32⟩
  | 117 => ⟨S16x8192x1, .f32⟩
  | 118 => ⟨S_, .f32⟩
  | 119 => ⟨S16x8192x1, .f32⟩
  | 120 => ⟨S16x8192x1, .f32⟩
  | 121 => ⟨S16x128x8192, .f32⟩
  | 122 => ⟨S8192x16x128, .f32⟩
  | 123 => ⟨S8192x2048, .f32⟩
  | 124 => ⟨S8192x2048, .f32⟩
  | 125 => ⟨S8192x16x128, .f32⟩
  | 126 => ⟨S16x128x8192, .f32⟩
  | 127 => ⟨S16x8192x8704, .f32⟩
  | _ => ⟨S8192x2048, .bf16⟩

abbrev hbmTy0_1 (i : Nat) : BufTy := match i % 128 with
  | 0 => ⟨S16x128x8704, .f32⟩
  | 1 => ⟨S8704x16x128, .f32⟩
  | 2 => ⟨S16x8192x8704, .f32⟩
  | 3 => ⟨S16x8192x8704, .f32⟩
  | 4 => ⟨S16x8192x8704, .f32⟩
  | 5 => ⟨S_, .f32⟩
  | 6 => ⟨S16x8192, .f32⟩
  | 7 => ⟨S16x8192x1, .f32⟩
  | 8 => ⟨S16x8192x1, .f32⟩
  | 9 => ⟨S16x8192x8704, .f32⟩
  | 10 => ⟨S16x8192x8704, .f32⟩
  | 11 => ⟨S_, .f32⟩
  | 12 => ⟨S16x8192, .f32⟩
  | 13 => ⟨S16x8192x8704, .f32⟩
  | 14 => ⟨S16x8192x8704, .f32⟩
  | 15 => ⟨S16x8192x8704, .f32⟩
  | 16 => ⟨S_, .f32⟩
  | 17 => ⟨S16x8192x8704, .f32⟩
  | 18 => ⟨S16x8192x8704, .f32⟩
  | 19 => ⟨S_, .f32⟩
  | 20 => ⟨S16x8192x8704, .f32⟩
  | 21 => ⟨S16x8192x8704, .f32⟩
  | 22 => ⟨S16x8704x128, .f32⟩
  | 23 => ⟨S8704x16x128, .f32⟩
  | 24 => ⟨S16x8192x128, .f32⟩
  | 25 => ⟨S8192x16x128, .f32⟩
  | 26 => ⟨S8704x2048, .f32⟩
  | 27 => ⟨S8704x2048, .f32⟩
  | 28 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v21 : Ref sig .tc := ⟨.hbm, 54, rfl⟩
abbrev main_c_6 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_7 : Ref sig .tc := ⟨.hbm, 59, rfl⟩
abbrev main_v25 : Ref sig .tc := ⟨.hbm, 60, rfl⟩
abbrev main_v26 : Ref sig .tc := ⟨.hbm, 61, rfl⟩
abbrev main_c_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_10 : Ref sig .tc := ⟨.hbm, 76, rfl⟩
abbrev main_call2_v0 : Ref sig .tc := ⟨.hbm, 77, rfl⟩
abbrev main_v38_1 : Ref sig .tc := ⟨.hbm, 78, rfl⟩
abbrev main_call2_v2 : Ref sig .tc := ⟨.hbm, 79, rfl⟩
abbrev main_v38_0 : Ref sig .tc := ⟨.hbm, 80, rfl⟩
abbrev main_call2_cst : Ref sig .tc := ⟨.hbm, 81, rfl⟩
abbrev main_v38_2 : Ref sig .tc := ⟨.hbm, 82, rfl⟩
abbrev main_cst_11 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_12 : Ref sig .tc := ⟨.hbm, 89, rfl⟩
abbrev main_v44 : Ref sig .tc := ⟨.hbm, 90, rfl⟩
abbrev main_cst_13 : Ref sig .tc := ⟨.hbm, 91, rfl⟩
abbrev main_v45 : Ref sig .tc := ⟨.hbm, 92, rfl⟩
abbrev main_v46 : Ref sig .tc := ⟨.hbm, 93, rfl⟩
abbrev main_cst_14 : Ref sig .tc := ⟨.hbm, 94, rfl⟩
abbrev main_v47 : Ref sig .tc := ⟨.hbm, 95, rfl⟩
abbrev main_v48 : Ref sig .tc := ⟨.hbm, 96, rfl⟩
abbrev main_cst_15 : Ref sig .tc := ⟨.hbm, 97, rfl⟩
abbrev main_v49 : Ref sig .tc := ⟨.hbm, 98, rfl⟩
abbrev main_v50 : Ref sig .tc := ⟨.hbm, 99, rfl⟩
abbrev main_cst_16 : Ref sig .tc := ⟨.hbm, 100, rfl⟩
abbrev main_v51 : Ref sig .tc := ⟨.hbm, 101, rfl⟩
abbrev main_cst_17 : Ref sig .tc := ⟨.hbm, 102, rfl⟩
abbrev main_v52 : Ref sig .tc := ⟨.hbm, 103, rfl⟩
abbrev main_cst_18 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_19 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_20 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_21 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_22 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_call3_cst : Ref sig .tc := ⟨.hbm, 144, rfl⟩
abbrev main_call3_v0 : Ref sig .tc := ⟨.hbm, 145, rfl⟩
abbrev main_v88 : Ref sig .tc := ⟨.hbm, 146, rfl⟩
abbrev main_cst_23 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩

abbrev nD : Nat := 1
abbrev τ : Topo := Topo.v7x

variable {F : FTy → Type} [FloatOps F]

def κ : String → Option EReal := fun
  | "mask" => some ⊥
  | _ => none
-- ==== Kernel2.lean ====
abbrev S8192x2048 : Shape := ⟨2, ![8192, 2048]⟩
abbrev S8192x5632 : Shape := ⟨2, ![8192, 5632]⟩
abbrev S5632x2048 : Shape := ⟨2, ![5632, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 9
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .hbm, ⟨6, _⟩ => ⟨S5632x2048, .bf16⟩
  | .hbm, ⟨7, _⟩ => ⟨S5632x2048, .bf16⟩
  | .hbm, ⟨8, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x2048 : Shape := ⟨2, ![8192, 2048]⟩
abbrev S8192x5632 : Shape := ⟨2, ![8192, 5632]⟩
abbrev S_ : Shape := ⟨0, ![]⟩
abbrev S5632x2048 : Shape := ⟨2, ![5632, 2048]⟩
abbrev S2048x5632 : Shape := ⟨2, ![2048, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S5632x2048, .f32⟩
  | .hbm, ⟨14, _⟩ => ⟨S2048x5632, .f32⟩
  | .hbm, ⟨15, _⟩ => ⟨S8192x5632, .f32⟩
  | .hbm, ⟨16, _⟩ => ⟨S2048x5632, .f32⟩
  | .hbm, ⟨17, _⟩ => ⟨S8192x5632, .f32⟩
  | .hbm, ⟨18, _⟩ => ⟨S5632x2048, .f32⟩
  | .hbm, ⟨19, _⟩ => ⟨S2048x5632, .f32⟩
  | .hbm, ⟨20, _⟩ => ⟨S5632x2048, .f32⟩
  | .hbm, ⟨21, _⟩ => ⟨S5632x2048, .f32⟩
  | .hbm, ⟨22, _⟩ => ⟨S2048x5632, .f32⟩
  | .hbm, ⟨23, _⟩ => ⟨S5632x2048, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S2048x5632, .f32⟩
  | .hbm, ⟨36, _⟩ => ⟨S5632x2048, .f32⟩
  | .hbm, ⟨37, _⟩ => ⟨S5632x2048, .bf16⟩
  | .hbm, ⟨38, _⟩ => ⟨S5632x2048, .bf16⟩
  | .hbm, ⟨39, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S8192x5632 : Shape := ⟨2, ![8192, 5632]⟩
abbrev S5632x2048 : Shape := ⟨2, ![5632, 2048]⟩
abbrev S512x2048 : Shape := ⟨2, ![512, 2048]⟩
abbrev S512x512 : Shape := ⟨2, ![512, 512]⟩
abbrev S256x2048 : Shape := ⟨2, ![256, 2048]⟩
abbrev S512x256 : Shape := ⟨2, ![512, 256]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 13
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x5632, .bf16⟩
  | .hbm, ⟨4, _⟩ => ⟨S8192x5632, .bf16⟩
  | .hbm, ⟨5, _⟩ => ⟨S5632x2048, .bf16⟩
  | .hbm, ⟨6, _⟩ => ⟨S5632x2048, .bf16⟩
  | .hbm, ⟨7, _⟩ => ⟨S5632x2048, .bf16⟩
  | .hbm, ⟨8, _⟩ => ⟨S8192x2048, .f32⟩
  | .hbm, ⟨9, _⟩ => ⟨S8192x5632, .bf16⟩
  | .hbm, ⟨10, _⟩ => ⟨S8192x5632, .bf16⟩
  | .hbm, ⟨11, _⟩ => ⟨S8192x2048, .bf16⟩
  | .hbm, ⟨12, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | .local _ .vmem, ⟨23, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c10_i32 : BitVec 32 := 10#32
  let v65 : BitVec 1 := Scalar.cmpi .eq arg1 c10_i32
  let v66 : BitVec 32 := Scalar.extui v65
  let c0_i32_43 : BitVec 32 := 0#32
  let v67 : BitVec 1 := Scalar.cmpi .ne v66 c0_i32_43
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference3Ideal.lean ====
abbrev S8192x2048 : Shape := ⟨2, ![8192, 2048]⟩
abbrev S1x2048 : Shape := ⟨2, ![1, 2048]⟩
abbrev S8192x5632 : Shape := ⟨2, ![8192, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x5632, .bf16⟩
  | .hbm, ⟨4, _⟩ => ⟨S8192x5632, .bf16⟩
  | .hbm, ⟨5, _⟩ => ⟨S5632x2048, .bf16⟩
  | .hbm, ⟨6, _⟩ => ⟨S5632x2048, .bf16⟩
  | .hbm, ⟨7, _⟩ => ⟨S5632x2048, .bf16⟩
  | .hbm, ⟨8, _⟩ => ⟨S8192x5632, .f32⟩
  | .hbm, ⟨9, _⟩ => ⟨S8192x5632, .f32⟩
  | .hbm, ⟨10, _⟩ => ⟨S5632x2048, .f32⟩
  | .hbm, ⟨11, _⟩ => ⟨S5632x2048, .f32⟩
  | .hbm, ⟨12, _⟩ => ⟨S5632x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048x5632, .f32⟩
  | .hbm, ⟨33, _⟩ => ⟨S8192x5632, .f32⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S8192x5632, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x2048, .f32⟩
  | .hbm, ⟨80, _⟩ => ⟨S8192x2048, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x5632, .bf16⟩
  | .hbm, ⟨94, _⟩ => ⟨S8192x5632, .bf16⟩
  | .hbm, ⟨95, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v24_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v24_1 : Ref sig .tc := ⟨.hbm, 47, rfl⟩
abbrev main_v24_0 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S1024x256 : Shape := ⟨2, ![1024, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5632x2048, .bf16⟩
  | .hbm, ⟨3, _⟩ => ⟨S5632x2048, .bf16⟩
  | .hbm, ⟨4, _⟩ => ⟨S5632x2048, .bf16⟩
  | .hbm, ⟨5, _⟩ => ⟨S8192x2048, .f32⟩
  | .hbm, ⟨6, _⟩ => ⟨S8192x2048, .bf16⟩
  | .hbm, ⟨7, _⟩ => ⟨S8192x5632, .bf16⟩
  | .hbm, ⟨8, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .vmem, ⟨12, _⟩ => ⟨S1024x2048, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x2048 : Shape := ⟨2, ![8192, 2048]⟩
abbrev S1x2048 : Shape := ⟨2, ![1, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5632x2048, .bf16⟩
  | .hbm, ⟨3, _⟩ => ⟨S5632x2048, .bf16⟩
  | .hbm, ⟨4, _⟩ => ⟨S5632x2048, .bf16⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S8192x5632, .f32⟩
  | .hbm, ⟨25, _⟩ => ⟨S2048x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | .hbm, ⟨43, _⟩ => ⟨S8192x5632, .bf16⟩
  | .hbm, ⟨44, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.VecWindow

/-! # What one grid point of the attention gradient does, as plain functions

A grid point takes 2048 query rows in eight blocks of 256. Block `s` at coordinate `a` reads 768 rows of
the padded keys and values from row `2048 a + 256 s` on, and adds its share of the key and value gradients over the same rows. -/

@[expose] public section

noncomputable section

namespace Cert.KernelIdeal.Gen

open Idealize.ShloMosaic Idealize.SL.Sem

variable {F : FTy → Type} [FloatOps F] [Named F]

/-- The word of the first padded key row block `s` reads. -/
def startWord (i : grid0.Coords) (s : Fin 8) : BitVec 32 :=
  Scalar.muli (Scalar.addi (Scalar.muli (BitVec.ofNat 32 (i 1).val) 8#32) (BitVec.ofNat 32 s.val)) 256#32

/-- The offsets of the 768 padded rows block `s` reads. -/
abbrev keyOff (i : grid0.Coords) (s : Fin 8) : Fin 2 → ℕ := k0_off1 i (BitVec.ofNat 32 s.val)

/-- The offsets of the 256 query rows of block `s`. -/
def rowOff (s : Fin 8) : Fin 2 → ℕ := ![256 * s.val, 0]

theorem keyOff_inb (i : grid0.Coords) (s : Fin 8) : ∀ a, keyOff i s a + S768x128.size a ≤ S8704x128.size a := k0_off1_inb i s

theorem rowOff_inb (s : Fin 8) : ∀ a, rowOff s a + S256x128.size a ≤ S2048x128.size a := by
  have h2 := s.isLt
  intro a
  fin_cases a
  · show 256 * s.val + 256 ≤ 2048; omega
  · show 0 + 128 ≤ 128; omega

/-- The 768 rows of a padded array that block `s` reads. -/
abbrev keyRows {α : Type} (i : grid0.Coords) (s : Fin 8) (x : S8704x128.Idx → α) : S768x128.Idx → α :=
  VecWindow.window x (keyOff i s) S768x128.size (keyOff_inb i s)

/-- The 256 query rows of block `s`. -/
abbrev queryRows {α : Type} (s : Fin 8) (x : S2048x128.Idx → α) : S256x128.Idx → α :=
  VecWindow.window x (rowOff s) S256x128.size (rowOff_inb s)

/-- The whole bias block, as the body's load spells it. -/
abbrev biasRows {α : Type} (x : S1x256x768.Idx → α) : S1x256x768.Idx → α :=
  VecWindow.window x ![0, 0, 0] S1x256x768.size inb_S1x256x768_S1x256x768_0_0_0

/-- The scaled and biased scores of a block, masked at the keys before row 512. -/
def maskedScores (st : BitVec 32) (q : Vec F S256x128 .bf16) (k : Vec F S768x128 .bf16) (b : Vec F S1x256x768 .f32) : FVec F S256x768 .f32 :=
  select
    (broadcastTo S256x768 (shapeCast S1x768 (cmpi .sge (addi (broadcast S1x768 st) (iota .tc S1x768 32 [1] iota_S1x768_d1_w32)) (broadcast S1x768 512#32))
      shapeCasts_S1x768_S1x768) broadcasts_S1x768_S256x768)
    (addf (mulf (matmul dot_S256x128_S768x128_S256x768_1_1_0_0_n_n none q k (constant S256x768 .f32 0x00000000#32))
      (broadcast S256x768 (Scalar.ofBits .f32 0x3DB504F3#32))) (shapeCast S256x768 b shapeCasts_S1x256x768_S256x768))
    (broadcast S256x768 (Named.named κ "mask" 0xF149F2CA#32))

/-- The exponentials of a block's scores less their row's greatest. -/
def expScores (s : FVec F S256x768 .f32) : FVec F S256x768 .f32 :=
  exp (subf s (broadcastTo S256x768 (shapeCast S256x1
    (multiReduction .maximumf [1] S256 s 0xFF800000#32 reduces_S256x768_S256 (.inl rfl) rfl) shapeCasts_S256_S256x1) broadcasts_S256x1_S256x768))

/-- Rows divided by their sums. -/
def normRows (e : FVec F S256x768 .f32) : FVec F S256x768 .f32 :=
  divf e (broadcastTo S256x768 (shapeCast S256x1
    (multiReduction .add [1] S256 e 0x00000000#32 reduces_S256x768_S256 (.inl rfl) rfl) shapeCasts_S256_S256x1) broadcasts_S256x1_S256x768)

/-- A block's attention probabilities. -/
def probs (st : BitVec 32) (q : Vec F S256x128 .bf16) (k : Vec F S768x128 .bf16) (b : Vec F S1x256x768 .f32) : FVec F S256x768 .f32 :=
  normRows (expScores (maskedScores st q k b))

/-- The probabilities of block `s` at a grid point, from the point's staged blocks. -/
def probsAt (i : grid0.Coords) (s : Fin 8) (x0 : Vec F S2048x128 .bf16) (x1 : Vec F S8704x128 .bf16) (x3 : Vec F S1x256x768 .f32) : FVec F S256x768 .f32 :=
  probs (startWord i s) (queryRows s x0) (keyRows i s x1) (biasRows x3)

/-- Block `s`'s rows of the query gradient, put in place. -/
def dqStep (i : grid0.Coords) (x0 : Vec F S2048x128 .bf16) (x1 x2 : Vec F S8704x128 .bf16) (x3 : Vec F S1x256x768 .f32) (x4 : Vec F S2048x128 .bf16)
    (d : Vec F S2048x128 .f32) (s : Fin 8) : Vec F S2048x128 .f32 :=
  VecWindow.put d (rowOff s) S256x128.size (k0_pay8 (queryRows s x4) (keyRows i s x1) (keyRows i s x2) (probsAt i s x0 x1 x3))

/-- Block `s`'s share of the key gradient, added over its 768 rows. -/
def dkStep (i : grid0.Coords) (x0 : Vec F S2048x128 .bf16) (x1 x2 : Vec F S8704x128 .bf16) (x3 : Vec F S1x256x768 .f32) (x4 : Vec F S2048x128 .bf16)
    (d : Vec F S8704x128 .f32) (s : Fin 8) : Vec F S8704x128 .f32 :=
  VecWindow.put d (keyOff i s) S768x128.size (k0_pay9 (queryRows s x0) (queryRows s x4) (keyRows i s x2) (probsAt i s x0 x1 x3) (keyRows i s d))

/-- Block `s`'s share of the value gradient, added over its 768 rows. -/
def dvStep (i : grid0.Coords) (x0 : Vec F S2048x128 .bf16) (x1 : Vec F S8704x128 .bf16) (x3 : Vec F S1x256x768 .f32) (x4 : Vec F S2048x128 .bf16)
    (d : Vec F S8704x128 .f32) (s : Fin 8) : Vec F S8704x128 .f32 :=
  VecWindow.put d (keyOff i s) S768x128.size (k0_pay10 (queryRows s x4) (probsAt i s x0 x1 x3) (keyRows i s d))

/-- Block `s`'s share of the bias gradient, added. -/
def dbStep (i : grid0.Coords) (x0 : Vec F S2048x128 .bf16) (x1 x2 : Vec F S8704x128 .bf16) (x3 : Vec F S1x256x768 .f32) (x4 : Vec F S2048x128 .bf16)
    (d : Vec F S1x256x768 .f32) (s : Fin 8) : Vec F S1x256x768 .f32 :=
  k0_pay6 (queryRows s x4) (keyRows i s x2) (probsAt i s x0 x1 x3) d

/-- Eight blocks one after the other. -/
def eight {α : Type} (f : α → Fin 8 → α) (d : α) : α := f (f (f (f (f (f (f (f d 0) 1) 2) 3) 4) 5) 6) 7

end Cert.KernelIdeal.Gen

end
-- ==== Proof.Body.lean ====
module

public import proofs.«01_k».proof.Proof.Gen.KernelIdeal.Frame
public import proofs.«01_k».proof.Proof.Gen.KernelIdeal.Points
public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point is the first of its head: the key, value and bias gradients start from zero there. -/
abbrev isFirst (i : grid0.Coords) : Prop := (Scalar.cmpi .ne (Scalar.extui (Scalar.cmpi .eq (BitVec.ofNat 32 (i 1).val) 0#32)) 0#32) = 1#1

/-- A buffer of the query gradient after one more block's store. -/
theorem dq_cons (i : grid0.Coords) (x0 : Vec F S2048x128 .bf16) (x1 x2 : Vec F S8704x128 .bf16) (x3 : Vec F S1x256x768 .f32) (x4 : Vec F S2048x128 .bf16)
    {v : View sig .tc .vmem S2048x128 .f32} {f : v.ty.Contents (Elt F)} {L : List (View.Piece (Elt F) S2048x128 .f32)} {d : Vec F S2048x128 .f32} (s : Fin 8)
    (h : v.read (Elt F) (v.writes (Elt F) f L) = d) :
    v.read (Elt F) (v.writes (Elt F) f (⟨Rect.unit (rowOff s) S256x128.size (rowOff_inb s),
      k0_pay8 (queryRows s x4) (keyRows i s x1) (keyRows i s x2) (probsAt i s x0 x1 x3)⟩ :: L)) = dqStep i x0 x1 x2 x3 x4 d s := by
  rw [View.read_writes_cons_put v f _ _ L rfl, h]; rfl

/-- A buffer of the key gradient after one more block's addition. -/
theorem dk_cons (i : grid0.Coords) (x0 : Vec F S2048x128 .bf16) (x1 x2 : Vec F S8704x128 .bf16) (x3 : Vec F S1x256x768 .f32) (x4 : Vec F S2048x128 .bf16)
    {v : View sig .tc .vmem S8704x128 .f32} {f : v.ty.Contents (Elt F)} {L : List (View.Piece (Elt F) S8704x128 .f32)} {d : Vec F S8704x128 .f32} (s : Fin 8)
    (h : v.read (Elt F) (v.writes (Elt F) f L) = d) :
    v.read (Elt F) (v.writes (Elt F) f (⟨Rect.unit (keyOff i s) S768x128.size (keyOff_inb i s),
      k0_pay9 (queryRows s x0) (queryRows s x4) (keyRows i s x2) (probsAt i s x0 x1 x3)
        (v.readAt (Elt F) (Rect.unit (s := S8704x128) (keyOff i s) S768x128.size (keyOff_inb i s)).toLoadRect (v.writes (Elt F) f L))⟩ :: L)) = dkStep i x0 x1 x2 x3 x4 d s := by
  rw [View.read_writes_cons_put v f _ _ L rfl, View.readAt_unit v _ _ rfl (keyOff_inb i s), h]; rfl

/-- A buffer of the value gradient after one more block's addition. -/
theorem dv_cons (i : grid0.Coords) (x0 : Vec F S2048x128 .bf16) (x1 : Vec F S8704x128 .bf16) (x3 : Vec F S1x256x768 .f32) (x4 : Vec F S2048x128 .bf16)
    {v : View sig .tc .vmem S8704x128 .f32} {f : v.ty.Contents (Elt F)} {L : List (View.Piece (Elt F) S8704x128 .f32)} {d : Vec F S8704x128 .f32} (s : Fin 8)
    (h : v.read (Elt F) (v.writes (Elt F) f L) = d) :
    v.read (Elt F) (v.writes (Elt F) f (⟨Rect.unit (keyOff i s) S768x128.size (keyOff_inb i s),
      k0_pay10 (queryRows s x4) (probsAt i s x0 x1 x3)
        (v.readAt (Elt F) (Rect.unit (s := S8704x128) (keyOff i s) S768x128.size (keyOff_inb i s)).toLoadRect (v.writes (Elt F) f L))⟩ :: L)) = dvStep i x0 x1 x3 x4 d s := by
  rw [View.read_writes_cons_put v f _ _ L rfl, View.readAt_unit v _ _ rfl (keyOff_inb i s), h]; rfl

/-- The bias gradient's buffer after one more block's addition. -/
theorem db_cons (i : grid0.Coords) (x0 : Vec F S2048x128 .bf16) (x1 x2 : Vec F S8704x128 .bf16) (x3 : Vec F S1x256x768 .f32) (x4 : Vec F S2048x128 .bf16)
    {v : View sig .tc .vmem S1x256x768 .f32} {f : v.ty.Contents (Elt F)} {L : List (View.Piece (Elt F) S1x256x768 .f32)} {d : Vec F S1x256x768 .f32} (s : Fin 8)
    (h : v.read (Elt F) (v.writes (Elt F) f L) = d) :
    v.read (Elt F) (v.writes (Elt F) f (⟨Rect.unit ![0, 0, 0] S1x256x768.size inb_S1x256x768_S1x256x768_0_0_0,
      k0_pay6 (queryRows s x4) (keyRows i s x2) (probsAt i s x0 x1 x3)
        (v.readAt (Elt F) (Rect.unit ![0, 0, 0] S1x256x768.size inb_S1x256x768_S1x256x768_0_0_0).toLoadRect (v.writes (Elt F) f L))⟩ :: L)) = dbStep i x0 x1 x2 x3 x4 d s := by
  rw [View.read_writes_full v f _ _ L, View.readAt_full v _ _, h]; rfl

/-- The bias gradient's buffer after one more block's addition, the block read back from the store before it. -/
theorem db_cons_cov (i : grid0.Coords) (x0 : Vec F S2048x128 .bf16) (x1 x2 : Vec F S8704x128 .bf16) (x3 : Vec F S1x256x768 .f32) (x4 : Vec F S2048x128 .bf16)
    {v : View sig .tc .vmem S1x256x768 .f32} {f : v.ty.Contents (Elt F)} {w : Vec F S1x256x768 .f32} {L : List (View.Piece (Elt F) S1x256x768 .f32)} {d : Vec F S1x256x768 .f32} (s : Fin 8)
    (h : v.read (Elt F) (v.writes (Elt F) f (⟨Rect.unit ![0, 0, 0] S1x256x768.size inb_S1x256x768_S1x256x768_0_0_0, w⟩ :: L)) = d) :
    v.read (Elt F) (v.writes (Elt F) f (⟨Rect.unit ![0, 0, 0] S1x256x768.size inb_S1x256x768_S1x256x768_0_0_0,
      k0_pay6 (queryRows s x4) (keyRows i s x2) (probsAt i s x0 x1 x3)
        (v.readCov (⟨Rect.unit ![0, 0, 0] S1x256x768.size inb_S1x256x768_S1x256x768_0_0_0, w⟩ :: L) (Rect.unit ![0, 0, 0] S1x256x768.size inb_S1x256x768_S1x256x768_0_0_0).toLoadRect)⟩
        :: ⟨Rect.unit ![0, 0, 0] S1x256x768.size inb_S1x256x768_S1x256x768_0_0_0, w⟩ :: L)) = dbStep i x0 x1 x2 x3 x4 d s := by
  rw [View.read_writes_full v f _ w L] at h
  rw [View.read_writes_full v f _ _ _, View.readCov_full v, h]; rfl

/-- A buffer zeroed at the first point and left alone at the others. -/
theorem first_fill {s : Shape} {e : EltTy} (i : grid0.Coords) (v : View sig .tc .vmem s e) (f : v.ty.Contents (Elt F)) {off : Fin s.rank → ℕ}
    (inb : ∀ a, off a + s.size a ≤ s.size a) (w : s.Idx → Elt F e) {g : v.ty.Contents (Elt F)}
    (hg : g = if hc : isFirst i then v.writes (Elt F) f [⟨Rect.unit off s.size inb, w⟩] else f) :
    v.read (Elt F) (v.writes (Elt F) g []) = if isFirst i then w else v.read (Elt F) f := by
  subst hg
  rw [View.writes_nil]
  split
  · exact View.read_writes_full v f inb w []
  · rfl

set_option maxHeartbeats 400000 in
/-- The body at one grid point: each output buffer ends with the eight blocks' results. -/
theorem body_point (c : Dev nD) (i : grid0.Coords) (arg2 : Memref sig .tc .vmem S2048x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S1x256x768 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S8704x128 .f32) (harg8 : arg8.IsWhole) (arg9 : Memref sig .tc .vmem S8704x128 .f32) (harg9 : arg9.IsWhole) (arg10 : Memref sig .tc .vmem S1x256x768 .f32) (harg10 : arg10.IsWhole)
    (x0 : Vec F S2048x128 .bf16) (x1 : Vec F S8704x128 .bf16) (x2 : Vec F S8704x128 .bf16) (x3 : Vec F S1x256x768 .f32) (x4 : Vec F S2048x128 .bf16)
    (d5 : Vec F S2048x128 .f32) (d6 d7 : Vec F S8704x128 .f32) (d8 : Vec F S1x256x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (eight (dqStep i x0 x1 x2 x3 x4) d5) ∗ owns (c : Thread nD τ) arg8 fullShare (eight (dkStep i x0 x1 x2 x3 x4) (if isFirst i then k0_pay1 else d6)) ∗ owns (c : Thread nD τ) arg9 fullShare (eight (dvStep i x0 x1 x3 x4) (if isFirst i then k0_pay2 else d7)) ∗ owns (c : Thread nD τ) arg10 fullShare (eight (dbStep i x0 x1 x2 x3 x4) (if isFirst i then k0_pay3 else d8))) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst hf0 hf1 hf2 hf3 hf4 hf5 hf6 hf7 hf8
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      refine dq_cons i (arg2.view.read (Elt F) f0) (arg3.view.read (Elt F) f1) (arg4.view.read (Elt F) f2) (arg5.view.read (Elt F) f3) (arg6.view.read (Elt F) f4) 7 ?_
      refine dq_cons i (arg2.view.read (Elt F) f0) (arg3.view.read (Elt F) f1) (arg4.view.read (Elt F) f2) (arg5.view.read (Elt F) f3) (arg6.view.read (Elt F) f4) 6 ?_
      refine dq_cons i (arg2.view.read (Elt F) f0) (arg3.view.read (Elt F) f1) (arg4.view.read (Elt F) f2) (arg5.view.read (Elt F) f3) (arg6.view.read (Elt F) f4) 5 ?_
      refine dq_cons i (arg2.view.read (Elt F) f0) (arg3.view.read (Elt F) f1) (arg4.view.read (Elt F) f2) (arg5.view.read (Elt F) f3) (arg6.view.read (Elt F) f4) 4 ?_
      refine dq_cons i (arg2.view.read (Elt F) f0) (arg3.view.read (Elt F) f1) (arg4.view.read (Elt F) f2) (arg5.view.read (Elt F) f3) (arg6.view.read (Elt F) f4) 3 ?_
      refine dq_cons i (arg2.view.read (Elt F) f0) (arg3.view.read (Elt F) f1) (arg4.view.read (Elt F) f2) (arg5.view.read (Elt F) f3) (arg6.view.read (Elt F) f4) 2 ?_
      refine dq_cons i (arg2.view.read (Elt F) f0) (arg3.view.read (Elt F) f1) (arg4.view.read (Elt F) f2) (arg5.view.read (Elt F) f3) (arg6.view.read (Elt F) f4) 1 ?_
      refine dq_cons i (arg2.view.read (Elt F) f0) (arg3.view.read (Elt F) f1) (arg4.view.read (Elt F) f2) (arg5.view.read (Elt F) f3) (arg6.view.read (Elt F) f4) 0 ?_
      rfl
    isplitl [H6]
    · iexists _; isplitr; swap; · iexact H6
      ipureintro
      refine dk_cons i (arg2.view.read (Elt F) f0) (arg3.view.read (Elt F) f1) (arg4.view.read (Elt F) f2) (arg5.view.read (Elt F) f3) (arg6.view.read (Elt F) f4) 7 ?_
      refine dk_cons i (arg2.view.read (Elt F) f0) (arg3.view.read (Elt F) f1) (arg4.view.read (Elt F) f2) (arg5.view.read (Elt F) f3) (arg6.view.read (Elt F) f4) 6 ?_
      refine dk_cons i (arg2.view.read (Elt F) f0) (arg3.view.read (Elt F) f1) (arg4.view.read (Elt F) f2) (arg5.view.read (Elt F) f3) (arg6.view.read (Elt F) f4) 5 ?_
      refine dk_cons i (arg2.view.read (Elt F) f0) (arg3.view.read (Elt F) f1) (arg4.view.read (Elt F) f2) (arg5.view.read (Elt F) f3) (arg6.view.read (Elt F) f4) 4 ?_
      refine dk_cons i (arg2.view.read (Elt F) f0) (arg3.view.read (Elt F) f1) (arg4.view.read (Elt F) f2) (arg5.view.read (Elt F) f3) (arg6.view.read (Elt F) f4) 3 ?_
      refine dk_cons i (arg2.view.read (Elt F) f0) (arg3.view.read (Elt F) f1) (arg4.view.read (Elt F) f2) (arg5.view.read (Elt F) f3) (arg6.view.read (Elt F) f4) 2 ?_
      refine dk_cons i (arg2.view.read (Elt F) f0) (arg3.view.read (Elt F) f1) (arg4.view.read (Elt F) f2) (arg5.view.read (Elt F) f3) (arg6.view.read (Elt F) f4) 1 ?_
      refine dk_cons i (arg2.view.read (Elt F) f0) (arg3.view.read (Elt F) f1) (arg4.view.read (Elt F) f2) (arg5.view.read (Elt F) f3) (arg6.view.read (Elt F) f4) 0 ?_
      exact first_fill i _ _ _ _ rfl
    isplitl [H7]
    · iexists _; isplitr; swap; · iexact H7
      ipureintro
      refine dv_cons i (arg2.view.read (Elt F) f0) (arg3.view.read (Elt F) f1) (arg5.view.read (Elt F) f3) (arg6.view.read (Elt F) f4) 7 ?_
      refine dv_cons i (arg2.view.read (Elt F) f0) (arg3.view.read (Elt F) f1) (arg5.view.read (Elt F) f3) (arg6.view.read (Elt F) f4) 6 ?_
      refine dv_cons i (arg2.view.read (Elt F) f0) (arg3.view.read (Elt F) f1) (arg5.view.read (Elt F) f3) (arg6.view.read (Elt F) f4) 5 ?_
      refine dv_cons i (arg2.view.read (Elt F) f0) (arg3.view.read (Elt F) f1) (arg5.view.read (Elt F) f3) (arg6.view.read (Elt F) f4) 4 ?_
      refine dv_cons i (arg2.view.read (Elt F) f0) (arg3.view.read (Elt F) f1) (arg5.view.read (Elt F) f3) (arg6.view.read (Elt F) f4) 3 ?_
      refine dv_cons i (arg2.view.read (Elt F) f0) (arg3.view.read (Elt F) f1) (arg5.view.read (Elt F) f3) (arg6.view.read (Elt F) f4) 2 ?_
      refine dv_cons i (arg2.view.read (Elt F) f0) (arg3.view.read (Elt F) f1) (arg5.view.read (Elt F) f3) (arg6.view.read (Elt F) f4) 1 ?_
      refine dv_cons i (arg2.view.read (Elt F) f0) (arg3.view.read (Elt F) f1) (arg5.view.read (Elt F) f3) (arg6.view.read (Elt F) f4) 0 ?_
      exact first_fill i _ _ _ _ rfl
    iexists _; isplitr; swap; · iexact H8
    ipureintro
    refine db_cons_cov i (arg2.view.read (Elt F) f0) (arg3.view.read (Elt F) f1) (arg4.view.read (Elt F) f2) (arg5.view.read (Elt F) f3) (arg6.view.read (Elt F) f4) 7 ?_
    refine db_cons_cov i (arg2.view.read (Elt F) f0) (arg3.view.read (Elt F) f1) (arg4.view.read (Elt F) f2) (arg5.view.read (Elt F) f3) (arg6.view.read (Elt F) f4) 6 ?_
    refine db_cons_cov i (arg2.view.read (Elt F) f0) (arg3.view.read (Elt F) f1) (arg4.view.read (Elt F) f2) (arg5.view.read (Elt F) f3) (arg6.view.read (Elt F) f4) 5 ?_
    refine db_cons_cov i (arg2.view.read (Elt F) f0) (arg3.view.read (Elt F) f1) (arg4.view.read (Elt F) f2) (arg5.view.read (Elt F) f3) (arg6.view.read (Elt F) f4) 4 ?_
    refine db_cons_cov i (arg2.view.read (Elt F) f0) (arg3.view.read (Elt F) f1) (arg4.view.read (Elt F) f2) (arg5.view.read (Elt F) f3) (arg6.view.read (Elt F) f4) 3 ?_
    refine db_cons_cov i (arg2.view.read (Elt F) f0) (arg3.view.read (Elt F) f1) (arg4.view.read (Elt F) f2) (arg5.view.read (Elt F) f3) (arg6.view.read (Elt F) f4) 2 ?_
    refine db_cons_cov i (arg2.view.read (Elt F) f0) (arg3.view.read (Elt F) f1) (arg4.view.read (Elt F) f2) (arg5.view.read (Elt F) f3) (arg6.view.read (Elt F) f4) 1 ?_
    refine db_cons i (arg2.view.read (Elt F) f0) (arg3.view.read (Elt F) f1) (arg4.view.read (Elt F) f2) (arg5.view.read (Elt F) f3) (arg6.view.read (Elt F) f4) 0 ?_
    exact first_fill i _ _ _ _ rfl

end Cert.KernelIdeal.Gen

end
-- ==== Proof.Run.lean ====
module

public import proofs.«01_k».proof.Proof.Body
public import Idealize.ShloMosaic.Lib.WordCmp
public import Idealize.ShloMosaic.Lib.Claim

/-! # The run of the attention gradient

What the four output buffers hold after each grid point, and the whole run from it. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point is the first of its head when its number is divisible by four. -/
theorem isFirst_iff : ∀ t : Fin cfg0.N, isFirst (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)

/-- One more block's store keeps two query gradients equal on the rows already stored, and makes them equal on its own. -/
theorem dqStep_agree (i : grid0.Coords) (x0 : Vec F S2048x128 .bf16) (x1 x2 : Vec F S8704x128 .bf16) (x3 : Vec F S1x256x768 .f32) (x4 : Vec F S2048x128 .bf16)
    (d d' : Vec F S2048x128 .f32) (s : Fin 8) (h : ∀ y : S2048x128.Idx, (y 0).val < 256 * s.val → d y = d' y) :
    ∀ y : S2048x128.Idx, (y 0).val < 256 * (s.val + 1) → dqStep i x0 x1 x2 x3 x4 d s y = dqStep i x0 x1 x2 x3 x4 d' s y := by
  intro y hy
  unfold dqStep VecWindow.put
  by_cases hin : ∀ a, rowOff s a ≤ (y a).val ∧ (y a).val < rowOff s a + S256x128.size a
  · rw [dif_pos hin, dif_pos hin]
  · rw [dif_neg hin, dif_neg hin]
    refine h y ?_
    by_contra hlt
    apply hin
    intro a
    have h1 : (y 1).val < 128 := (y 1).isLt
    fin_cases a
    · show 256 * s.val ≤ (y 0).val ∧ (y 0).val < 256 * s.val + 256; omega
    · show 0 ≤ (y 1).val ∧ (y 1).val < 0 + 128; omega

/-- The eight blocks store every row: what the query gradient's buffer held before does not matter. -/
theorem dq_eight (i : grid0.Coords) (x0 : Vec F S2048x128 .bf16) (x1 x2 : Vec F S8704x128 .bf16) (x3 : Vec F S1x256x768 .f32) (x4 : Vec F S2048x128 .bf16)
    (d d' : Vec F S2048x128 .f32) : eight (dqStep i x0 x1 x2 x3 x4) d = eight (dqStep i x0 x1 x2 x3 x4) d' := by
  funext y
  have st := dqStep_agree i x0 x1 x2 x3 x4
  exact st _ _ 7 (st _ _ 6 (st _ _ 5 (st _ _ 4 (st _ _ 3 (st _ _ 2 (st _ _ 1 (st d d' 0 (fun y h => absurd h (Nat.not_lt_zero _)))))))))
    y (show (y 0).val < 2048 from (y 0).isLt)

/-- The query gradient's block after point `t`. -/
def dqAt (c : Dev nD) (t : Fin cfg0.N) : Vec F S2048x128 .f32 :=
  eight (dqStep (grid0.coords t) (iblk m c 0 t) (iblk m c 1 t) (iblk m c 2 t) (iblk m c 3 t) (iblk m c 4 t)) (broadcast S2048x128 (Scalar.ofBits .f32 0x00000000#32))

/-- The key gradient's block after point `n`: from zero at a head's first point, from the point before at the others. -/
def dkAt (c : Dev nD) : (n : ℕ) → n < cfg0.N → Vec F S8704x128 .f32
  | 0, h => eight (dkStep (grid0.coords ⟨0, h⟩) (iblk m c 0 ⟨0, h⟩) (iblk m c 1 ⟨0, h⟩) (iblk m c 2 ⟨0, h⟩) (iblk m c 3 ⟨0, h⟩) (iblk m c 4 ⟨0, h⟩)) k0_pay1
  | n + 1, h => eight (dkStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩))
      (if (n + 1) % 4 = 0 then k0_pay1 else dkAt c n (Nat.lt_of_succ_lt h))

/-- The value gradient's block after point `n`. -/
def dvAt (c : Dev nD) : (n : ℕ) → n < cfg0.N → Vec F S8704x128 .f32
  | 0, h => eight (dvStep (grid0.coords ⟨0, h⟩) (iblk m c 0 ⟨0, h⟩) (iblk m c 1 ⟨0, h⟩) (iblk m c 3 ⟨0, h⟩) (iblk m c 4 ⟨0, h⟩)) k0_pay2
  | n + 1, h => eight (dvStep (grid0.coords ⟨n + 1, h⟩) (iblk m c 0 ⟨n + 1, h⟩) (iblk m c 1 ⟨n + 1, h⟩) (iblk m c 3 ⟨n + 1, h⟩) (iblk m c 4 ⟨n + 1, h⟩))
      (if (n + 1) % 4 = 0 then k0_pay2 else dvAt c n (Nat.lt_of_succ_lt h))

/-- The bias gradient's block after point `n`. -/
def dbAt (c : Dev nD) : (n : ℕ) → n < cfg0.N → Vec F S1x256x768 .f32
  | 0, h => eight (dbStep (grid0.coords ⟨0, h⟩) (iblk m c 0 ⟨0, h⟩) (iblk m c 1 ⟨0, h⟩) (iblk m c 2 ⟨0, h⟩) (iblk m c 3 ⟨0, h⟩) (iblk m c 4 ⟨0, h⟩)) k0_pay3
  | n + 1, h => eight (dbStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩))
      (if (n + 1) % 4 = 0 then k0_pay3 else dbAt c n (Nat.lt_of_succ_lt h))

/-- The proof data: inputs stay at their blocks, outputs end as the functions above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t.val t.isLt
    | ⟨7, _⟩ => dvAt m c t.val t.isLt
    | ⟨8, _⟩ => dbAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqAt m c t := by dsimp only [dats]
theorem after0_6 (c : Dev nD) (t : Fin cfg0.N) : (dats m 0 c).after 6 t = dkAt m c t.val t.isLt := by dsimp only [dats]
theorem after0_7 (c : Dev nD) (t : Fin cfg0.N) : (dats m 0 c).after 7 t = dvAt m c t.val t.isLt := by dsimp only [dats]
theorem after0_8 (c : Dev nD) (t : Fin cfg0.N) : (dats m 0 c).after 8 t = dbAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The key gradient's buffer after a point, over whatever it held before it. -/
theorem dk_point (c : Dev nD) (t : Fin cfg0.N) (d) :
    eight (dkStep (grid0.coords t) (iblk m c 0 t) (iblk m c 1 t) (iblk m c 2 t) (iblk m c 3 t) (iblk m c 4 t))
      (if isFirst (grid0.coords t) then k0_pay1 else (dats m 0 c).before 6 t d) = dkAt m c t.val t.isLt := by
  obtain ⟨n, hn⟩ := t
  cases n with
  | zero => rw [if_pos ((isFirst_iff ⟨0, hn⟩).mpr rfl)]; rfl
  | succ n =>
    by_cases h0 : (n + 1) % 4 = 0
    · rw [if_pos ((isFirst_iff ⟨n + 1, hn⟩).mpr h0)]
      unfold dkAt; rw [if_pos h0]
    · rw [if_neg (fun h => h0 ((isFirst_iff ⟨n + 1, hn⟩).mp h))]
      rw [(dats m 0 c).before_out_kept 6 rfl ⟨n + 1, hn⟩ (Nat.succ_ne_zero n)
        (Bool.eq_false_iff.mpr fun h => h0 (by have := (flush0_6 _).mp h; change n % 4 = 3 at this; omega)) (fun _ => rfl) (fun _ _ => rfl), after0_6]
      conv_rhs => unfold dkAt
      rw [if_neg h0]; rfl

/-- The value gradient's buffer after a point, over whatever it held before it. -/
theorem dv_point (c : Dev nD) (t : Fin cfg0.N) (d) :
    eight (dvStep (grid0.coords t) (iblk m c 0 t) (iblk m c 1 t) (iblk m c 3 t) (iblk m c 4 t))
      (if isFirst (grid0.coords t) then k0_pay2 else (dats m 0 c).before 7 t d) = dvAt m c t.val t.isLt := by
  obtain ⟨n, hn⟩ := t
  cases n with
  | zero => rw [if_pos ((isFirst_iff ⟨0, hn⟩).mpr rfl)]; rfl
  | succ n =>
    by_cases h0 : (n + 1) % 4 = 0
    · rw [if_pos ((isFirst_iff ⟨n + 1, hn⟩).mpr h0)]
      unfold dvAt; rw [if_pos h0]
    · rw [if_neg (fun h => h0 ((isFirst_iff ⟨n + 1, hn⟩).mp h))]
      rw [(dats m 0 c).before_out_kept 7 rfl ⟨n + 1, hn⟩ (Nat.succ_ne_zero n)
        (Bool.eq_false_iff.mpr fun h => h0 (by have := (flush0_7 _).mp h; change n % 4 = 3 at this; omega)) (fun _ => rfl) (fun _ _ => rfl), after0_7]
      conv_rhs => unfold dvAt
      rw [if_neg h0]; rfl

/-- The bias gradient's buffer after a point, over whatever it held before it. -/
theorem db_point (c : Dev nD) (t : Fin cfg0.N) (d) :
    eight (dbStep (grid0.coords t) (iblk m c 0 t) (iblk m c 1 t) (iblk m c 2 t) (iblk m c 3 t) (iblk m c 4 t))
      (if isFirst (grid0.coords t) then k0_pay3 else (dats m 0 c).before 8 t d) = dbAt m c t.val t.isLt := by
  obtain ⟨n, hn⟩ := t
  cases n with
  | zero => rw [if_pos ((isFirst_iff ⟨0, hn⟩).mpr rfl)]; rfl
  | succ n =>
    by_cases h0 : (n + 1) % 4 = 0
    · rw [if_pos ((isFirst_iff ⟨n + 1, hn⟩).mpr h0)]
      unfold dbAt; rw [if_pos h0]
    · rw [if_neg (fun h => h0 ((isFirst_iff ⟨n + 1, hn⟩).mp h))]
      rw [(dats m 0 c).before_out_kept 8 rfl ⟨n + 1, hn⟩ (Nat.succ_ne_zero n)
        (Bool.eq_false_iff.mpr fun h => h0 (by have := (flush0_8 _).mp h; change n % 4 = 3 at this; omega)) (fun _ => rfl) (fun _ _ => rfl), after0_8]
      conv_rhs => unfold dbAt
      rw [if_neg h0]; rfl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point takes what the pipeline hands it to what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = (dats m 0 c).Φ t.castSucc from rfl]
  rw [after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← dk_point m c t d6, ← dv_point m c t d7, ← db_point m c t d8]
  rw [show dqAt m c t = _ from dq_eight _ _ _ _ _ _ _ ((dats m 0 c).before 5 t d5)]
  iapply (body_point c (grid0.coords t) _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row of the label's table is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the call ends at what the proof data give, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Spec.lean ====
module

public import Idealize.ShloMosaic.PureOps.Ideal.Laws

/-! # Rows of attention scores over the extended reals

A row of scores has one entry per key; a masked key's entry is `⊥`. These are its greatest entry, exponentials, sum and
probabilities, the gradient of a loss with respect to the scores in the two forms in which it is written down, and the fact that both
only see the entries that are not `⊥`, so that they may be computed over a window of keys that holds all of those. -/

@[expose] public section

noncomputable section

namespace Cert.AttnGrad

open Idealize.ShloMosaic
open scoped BigOperators

variable {ι κ : Type} [Fintype ι] [Fintype κ]

/-- A row's greatest entry. -/
def rowMax (s : ι → EReal) : EReal := Finset.univ.fold max ⊥ s

/-- The exponential of an entry less the greatest. -/
def rowExp (s : ι → EReal) (j : ι) : EReal := Ideal.exp (s j - rowMax s)

/-- The sum of the exponentials. -/
def rowSum (s : ι → EReal) : EReal := ∑ j, rowExp s j

/-- A key's probability. -/
def rowProb (s : ι → EReal) (j : ι) : EReal := Ideal.div (rowExp s j) (rowSum s)

/-- The gradient of the scores from that of the probabilities, written with the probabilities. -/
def scoreGrad (s dp : ι → EReal) (j : ι) : EReal := rowProb s j * (dp j - ∑ l, rowProb s l * dp l)

/-- The same gradient, as it comes of differentiating the quotient of an exponential by the sum. -/
def quotGrad (s dp : ι → EReal) (j : ι) : EReal :=
  (Ideal.div (dp j) (rowSum s) + -(∑ l, dp l * Ideal.div 1 (rowSum s * rowSum s) * rowExp s l)) * rowExp s j

/-- A row with no entry `⊤` and not all entries `⊥`. -/
def Good (s : ι → EReal) : Prop := (∀ j, s j ≠ ⊤) ∧ ∃ j, s j ≠ ⊥

theorem rowMax_eq_sup (s : ι → EReal) : rowMax s = Finset.univ.sup s := rfl

/-- The greatest entry of a good row is real. -/
theorem rowMax_real {s : ι → EReal} (h : Good s) : ∃ M : ℝ, rowMax s = (M : EReal) := by
  obtain ⟨j, hj⟩ := h.2
  have hb : rowMax s ≠ ⊥ := by
    rw [rowMax_eq_sup]
    intro e
    exact hj (le_bot_iff.mp (e ▸ Finset.le_sup (f := s) (Finset.mem_univ j)))
  have ht : rowMax s ≠ ⊤ := by
    rw [rowMax_eq_sup]
    have : Finset.univ.sup s < ⊤ := (Finset.sup_lt_iff bot_lt_top).mpr fun j _ => lt_top_iff_ne_top.mpr (h.1 j)
    exact this.ne
  exact ⟨(rowMax s).toReal, (EReal.coe_toReal ht hb).symm⟩

/-- The exponentials of a good row are real and not negative, zero where the entry is `⊥` and positive elsewhere. -/
theorem rowExp_real {s : ι → EReal} (h : Good s) (j : ι) :
    ∃ e : ℝ, rowExp s j = (e : EReal) ∧ 0 ≤ e ∧ (s j ≠ ⊥ → 0 < e) := by
  obtain ⟨M, hM⟩ := rowMax_real h
  unfold rowExp
  rw [hM]
  have ht := h.1 j
  induction hs : s j with
  | bot => exact ⟨0, by rw [EReal.bot_sub]; rfl, le_rfl, fun hb => absurd rfl hb⟩
  | top => exact absurd hs ht
  | coe r => exact ⟨Real.exp (r - M), by rw [← EReal.coe_sub]; rfl, (Real.exp_pos _).le, fun _ => Real.exp_pos _⟩

/-- The exponential of `⊥` is zero. -/
theorem rowExp_bot {s : ι → EReal} {j : ι} (hj : s j = ⊥) : rowExp s j = 0 := by
  unfold rowExp; rw [hj, EReal.bot_sub]; rfl

/-- A sum of reals is real. -/
theorem coe_sum (f : ι → ℝ) : (∑ j, ((f j : ℝ) : EReal)) = ((∑ j, f j : ℝ) : EReal) := by
  classical
  induction (Finset.univ : Finset ι) using Finset.induction_on with
  | empty => simp
  | insert a t ha ih => rw [Finset.sum_insert ha, Finset.sum_insert ha, ih, EReal.coe_add]

/-- The sum of a good row's exponentials is real and positive. -/
theorem rowSum_real {s : ι → EReal} (h : Good s) : ∃ Z : ℝ, rowSum s = (Z : EReal) ∧ 0 < Z := by
  choose e he hnn hpos using rowExp_real h
  refine ⟨∑ j, e j, ?_, ?_⟩
  · unfold rowSum
    rw [← coe_sum]
    exact Finset.sum_congr rfl fun j _ => he j
  · obtain ⟨j, hj⟩ := h.2
    exact Finset.sum_pos' (fun j _ => hnn j) ⟨j, Finset.mem_univ j, hpos j hj⟩

/-- Division by a positive real is multiplication by its inverse. -/
theorem div_coe (x : EReal) {Z : ℝ} (hZ : 0 < Z) : Ideal.div x (Z : EReal) = x * ((Z⁻¹ : ℝ) : EReal) := by
  unfold Ideal.div
  rw [if_neg (by simpa using hZ.ne'), EReal.coe_inv]

/-- A real that is not negative goes into a sum of two … -/
theorem coe_mul_add {u : ℝ} (hu : 0 ≤ u) (x y : EReal) : (u : EReal) * (x + y) = u * x + u * y :=
  EReal.left_distrib_of_nonneg_of_ne_top (by exact_mod_cast hu) (EReal.coe_ne_top u) x y

/-- … and into any sum. -/
theorem coe_mul_sum {u : ℝ} (hu : 0 ≤ u) (f : ι → EReal) : (u : EReal) * ∑ j, f j = ∑ j, u * f j := by
  classical
  induction (Finset.univ : Finset ι) using Finset.induction_on with
  | empty => simp
  | insert a t ha ih => rw [Finset.sum_insert ha, Finset.sum_insert ha, coe_mul_add hu, ih]

/-- A sum times a real that is not negative. -/
theorem sum_mul_coe {u : ℝ} (hu : 0 ≤ u) (f : ι → EReal) : (∑ j, f j) * (u : EReal) = ∑ j, f j * u := by
  rw [mul_comm, coe_mul_sum hu]
  exact Finset.sum_congr rfl fun j _ => mul_comm _ _

/-- The two forms of the gradient agree on a good row. -/
theorem quotGrad_eq {s : ι → EReal} (h : Good s) (dp : ι → EReal) (j : ι) : quotGrad s dp j = scoreGrad s dp j := by
  obtain ⟨Z, hZ, hpos⟩ := rowSum_real h
  have hu : (0 : ℝ) ≤ Z⁻¹ := (inv_pos.mpr hpos).le
  have hp : ∀ l, rowProb s l = rowExp s l * ((Z⁻¹ : ℝ) : EReal) := fun l => by unfold rowProb; rw [hZ, div_coe _ hpos]
  have hsq : Ideal.div 1 (rowSum s * rowSum s) = ((Z⁻¹ : ℝ) : EReal) * ((Z⁻¹ : ℝ) : EReal) := by
    rw [hZ, ← EReal.coe_mul, div_coe _ (mul_pos hpos hpos), one_mul, ← EReal.coe_mul, mul_inv]
  have hS : (∑ l, dp l * Ideal.div 1 (rowSum s * rowSum s) * rowExp s l) = ((Z⁻¹ : ℝ) : EReal) * ∑ l, rowProb s l * dp l := by
    rw [coe_mul_sum hu]
    refine Finset.sum_congr rfl fun l _ => ?_
    rw [hsq, hp]
    ac_rfl
  unfold quotGrad scoreGrad
  rw [hS, hp, hZ, div_coe _ hpos, mul_comm (dp j), ← mul_neg, ← coe_mul_add hu, sub_eq_add_neg]
  ac_rfl

/-- The gradient is zero where the score is `⊥`. -/
theorem quotGrad_bot {s : ι → EReal} (dp : ι → EReal) {j : ι} (hj : s j = ⊥) : quotGrad s dp j = 0 := by
  unfold quotGrad; rw [rowExp_bot hj, mul_zero]

/-- The probability is zero where the score of a good row is `⊥`. -/
theorem rowProb_bot {s : ι → EReal} (h : Good s) {j : ι} (hj : s j = ⊥) : rowProb s j = 0 := by
  obtain ⟨Z, hZ, hpos⟩ := rowSum_real h
  unfold rowProb
  rw [rowExp_bot hj, hZ, div_coe _ hpos, zero_mul]

/-! ## A window of keys -/

/-- A sum whose terms are zero off a window is the sum over the window. -/
theorem sum_window {M : Type} [AddCommMonoid M] {w : κ → ι} (hw : Function.Injective w) (f : ι → M) (h0 : ∀ j, (∀ c, w c ≠ j) → f j = 0) :
    ∑ j, f j = ∑ c, f (w c) := by
  classical
  rw [← Finset.sum_image (s := Finset.univ) (g := w) (f := f) (fun a _ b _ e => hw e)]
  refine (Finset.sum_subset (Finset.subset_univ _) fun j _ hj => h0 j fun c hc => hj ?_).symm
  exact Finset.mem_image.mpr ⟨c, Finset.mem_univ c, hc⟩

variable {s : ι → EReal} {w : κ → ι}

/-- The greatest entry of a row is that of a window holding every entry that is not `⊥`. -/
theorem rowMax_window (hout : ∀ j, (∀ c, w c ≠ j) → s j = ⊥) : rowMax (fun c => s (w c)) = rowMax s := by
  rw [rowMax_eq_sup, rowMax_eq_sup]
  refine le_antisymm (Finset.sup_le fun c _ => Finset.le_sup (f := s) (Finset.mem_univ (w c))) (Finset.sup_le fun j _ => ?_)
  by_cases h : ∃ c, w c = j
  · obtain ⟨c, rfl⟩ := h
    exact Finset.le_sup (f := fun c => s (w c)) (Finset.mem_univ c)
  · rw [hout j fun c hc => h ⟨c, hc⟩]
    exact bot_le

theorem rowExp_window (hout : ∀ j, (∀ c, w c ≠ j) → s j = ⊥) (c : κ) : rowExp (fun c => s (w c)) c = rowExp s (w c) := by
  unfold rowExp; rw [rowMax_window hout]

theorem rowSum_window (hw : Function.Injective w) (hout : ∀ j, (∀ c, w c ≠ j) → s j = ⊥) : rowSum (fun c => s (w c)) = rowSum s := by
  unfold rowSum
  rw [sum_window hw (fun j => rowExp s j) fun j hj => rowExp_bot (hout j hj)]
  exact Finset.sum_congr rfl fun c _ => rowExp_window hout c

/-- A window's probabilities are the row's. -/
theorem rowProb_window (hw : Function.Injective w) (hout : ∀ j, (∀ c, w c ≠ j) → s j = ⊥) (c : κ) :
    rowProb (fun c => s (w c)) c = rowProb s (w c) := by
  unfold rowProb; rw [rowExp_window hout, rowSum_window hw hout]

/-- A window's gradient is the row's. -/
theorem scoreGrad_window (hw : Function.Injective w) (hgood : Good s) (hout : ∀ j, (∀ c, w c ≠ j) → s j = ⊥) (dp : ι → EReal) (c : κ) :
    scoreGrad (fun c => s (w c)) (fun c => dp (w c)) c = quotGrad s dp (w c) := by
  rw [quotGrad_eq hgood]
  unfold scoreGrad
  rw [rowProb_window hw hout, sum_window hw (fun j => rowProb s j * dp j) fun j hj => by rw [rowProb_bot hgood (hout j hj), zero_mul]]
  exact congrArg (fun z => rowProb s (w c) * (dp (w c) - z)) (Finset.sum_congr rfl fun l _ => by rw [rowProb_window hw hout])

end Cert.AttnGrad

end
-- ==== Proof.Words.lean ====
module

public import Idealize.ShloMosaic.PureOps.Reduce

/-! # The index words of the attention mask

Query row `r` and padded key row `j` are 32-bit words. The table column read at `(r, j)` and the chunk of `r` are computed from them by the
operations of the programs; here each is the natural number it means. -/

@[expose] public section

namespace Cert.AttnGrad

open Idealize.ShloMosaic

/-- A word holding a small integer reads as that integer. -/
theorem toInt_word {z : ℤ} (h₁ : -100000 < z) (h₂ : z < 100000) : (BitVec.ofInt 32 z).toInt = z := by
  rw [BitVec.toInt_ofInt, Int.bmod_def]; omega

/-- Words holding small integers are ordered as these are. -/
theorem slt_word {x y : ℤ} (hx₁ : -100000 < x) (hx₂ : x < 100000) (hy₁ : -100000 < y) (hy₂ : y < 100000) :
    (BitVec.ofInt 32 x).slt (BitVec.ofInt 32 y) = decide (x < y) := by
  rw [BitVec.slt, toInt_word hx₁ hx₂, toInt_word hy₁ hy₂]

theorem sle_word {x y : ℤ} (hx₁ : -100000 < x) (hx₂ : x < 100000) (hy₁ : -100000 < y) (hy₂ : y < 100000) :
    (BitVec.ofInt 32 x).sle (BitVec.ofInt 32 y) = decide (x ≤ y) := by
  rw [BitVec.sle, toInt_word hx₁ hx₂, toInt_word hy₁ hy₂]

theorem ofNat_word (n : ℕ) : BitVec.ofNat 32 n = BitVec.ofInt 32 (n : ℤ) := (BitVec.ofInt_natCast 32 n).symm

theorem sub_word (x y : ℤ) : BitVec.ofInt 32 x - BitVec.ofInt 32 y = BitVec.ofInt 32 (x - y) := by
  rw [BitVec.sub_eq_add_neg, ← BitVec.ofInt_neg, ← BitVec.ofInt_add, ← Int.sub_eq_add_neg]

/-- A word's bit set exactly when a proposition holds picks accordingly. -/
theorem select_decide {α : Type} (p : Prop) [Decidable p] (x y : α) : Scalar.select (BitVec.ofBool (decide p)) x y = if p then x else y := by
  by_cases h : p <;> simp [h, Scalar.select]

/-- The table's column at query row `r` and key row `j`. -/
def relCol (r j : ℕ) : ℕ := min (r + 575 - j) 191

/-- The word of the table's column, as the clipped and shifted difference of rows, means that column. -/
theorem relWord (r j : ℕ) (hr : r < 8192) (hj : j < 8704) :
    (Scalar.select
      (IntOp.cmpi .slt (IntOp.addi (IntOp.minsi 128#32 (IntOp.maxsi 4294967233#32 (IntOp.addi (IntOp.subi (BitVec.ofNat 32 r) (BitVec.ofNat 32 j)) 512#32))) 63#32) 0#32)
      (IntOp.addi (IntOp.addi (IntOp.minsi 128#32 (IntOp.maxsi 4294967233#32 (IntOp.addi (IntOp.subi (BitVec.ofNat 32 r) (BitVec.ofNat 32 j)) 512#32))) 63#32) 192#32)
      (IntOp.addi (IntOp.minsi 128#32 (IntOp.maxsi 4294967233#32 (IntOp.addi (IntOp.subi (BitVec.ofNat 32 r) (BitVec.ofNat 32 j)) 512#32))) 63#32)).toInt.toNat
      = relCol r j := by
  have hw : IntOp.addi (IntOp.subi (BitVec.ofNat 32 r) (BitVec.ofNat 32 j)) 512#32 = BitVec.ofInt 32 ((r : ℤ) - j + 512) := by
    show BitVec.ofNat 32 r - BitVec.ofNat 32 j + 512#32 = _
    rw [ofNat_word, ofNat_word, sub_word, BitVec.ofInt_add]
    rfl
  have hmax : IntOp.maxsi 4294967233#32 (BitVec.ofInt 32 ((r : ℤ) - j + 512)) = BitVec.ofInt 32 (max (-63) ((r : ℤ) - j + 512)) := by
    have e : (4294967233#32 : BitVec 32) = BitVec.ofInt 32 (-63) := by decide
    unfold IntOp.maxsi
    rw [e, slt_word (by omega) (by omega) (by omega) (by omega)]
    by_cases h : (r : ℤ) - j + 512 < -63
    · rw [if_pos (by simpa using h), max_eq_left h.le]
    · rw [if_neg (by simpa using h), max_eq_right (not_lt.mp h)]
  have hmin : IntOp.minsi 128#32 (BitVec.ofInt 32 (max (-63) ((r : ℤ) - j + 512))) = BitVec.ofInt 32 (min 128 (max (-63) ((r : ℤ) - j + 512))) := by
    have e : (128#32 : BitVec 32) = BitVec.ofInt 32 128 := by decide
    unfold IntOp.minsi
    rw [e, slt_word (by omega) (by omega) (by omega) (by omega)]
    by_cases h : 128 < max (-63) ((r : ℤ) - j + 512)
    · rw [if_pos (by simpa using h), min_eq_left h.le]
    · rw [if_neg (by simpa using h), min_eq_right (not_lt.mp h)]
  have hadd : IntOp.addi (BitVec.ofInt 32 (min 128 (max (-63) ((r : ℤ) - j + 512)))) 63#32 = BitVec.ofInt 32 (relCol r j : ℤ) := by
    have e : (63#32 : BitVec 32) = BitVec.ofInt 32 63 := by decide
    show _ + 63#32 = _
    rw [e, ← BitVec.ofInt_add]
    congr 1
    unfold relCol; omega
  have hr' : (relCol r j : ℤ) ≤ 191 := by unfold relCol; omega
  rw [hw, hmax, hmin, hadd]
  have hneg : IntOp.cmpi .slt (BitVec.ofInt 32 (relCol r j : ℤ)) 0#32 = 0#1 := by
    have e : (0#32 : BitVec 32) = BitVec.ofInt 32 0 := by decide
    unfold IntOp.cmpi
    rw [e]
    show BitVec.ofBool ((BitVec.ofInt 32 (relCol r j : ℤ)).slt (BitVec.ofInt 32 0)) = _
    rw [slt_word (by omega) (by omega) (by omega) (by omega), decide_eq_false (by omega)]
    rfl
  rw [hneg]
  show (BitVec.ofInt 32 (relCol r j : ℤ)).toInt.toNat = _
  rw [toInt_word (by omega) (by omega)]
  rfl

/-- The chunk of query row `r`, as the floored quotient by 64. -/
theorem chunkWord (r : ℕ) (hr : r < 8192) :
    Scalar.select
      (IntOp.andi (IntOp.cmpi .ne (if BitVec.ofNat 32 r = 0 then (0 : BitVec 32) else if (BitVec.ofNat 32 r).msb then -1 else 1)
          (if (64#32 : BitVec 32) = 0 then (0 : BitVec 32) else if (64#32 : BitVec 32).msb then -1 else 1))
        (IntOp.cmpi .ne (IntOp.remsi .host (BitVec.ofNat 32 r) 64#32) 0#32))
      (IntOp.subi (IntOp.divsi .host (BitVec.ofNat 32 r) 64#32) 1#32)
      (IntOp.divsi .host (BitVec.ofNat 32 r) 64#32) = BitVec.ofNat 32 (r / 64) := by
  have hm : (BitVec.ofNat 32 r).msb = false := by
    rw [BitVec.msb_eq_false_iff_two_mul_lt, BitVec.toNat_ofNat]; omega
  have hc : ¬ IntOp.SDivCorner (BitVec.ofNat 32 r) 64#32 := by
    unfold IntOp.SDivCorner
    intro h
    rcases h with h | h
    · exact absurd h (by decide)
    · exact absurd h.2 (by decide)
  have hd : IntOp.divsi .host (BitVec.ofNat 32 r) 64#32 = BitVec.ofNat 32 (r / 64) := by
    unfold IntOp.divsi
    rw [if_neg hc, BitVec.sdiv_eq, hm]
    show (BitVec.ofNat 32 r).udiv 64#32 = _
    apply BitVec.eq_of_toNat_eq
    show (BitVec.ofNat 32 r / 64#32).toNat = _
    rw [BitVec.toNat_udiv, BitVec.toNat_ofNat, BitVec.toNat_ofNat, BitVec.toNat_ofNat, Nat.mod_eq_of_lt (show r < 2 ^ 32 by omega),
      Nat.mod_eq_of_lt (show r / 64 < 2 ^ 32 by omega)]
  rw [hd]
  by_cases h0 : r = 0
  · subst h0
    have : IntOp.remsi .host (BitVec.ofNat 32 0) 64#32 = 0#32 := by
      unfold IntOp.remsi; rw [if_neg hc]; decide
    rw [this]; rfl
  · have hne : BitVec.ofNat 32 r ≠ 0 := by
      intro h
      have := congrArg BitVec.toNat h
      rw [BitVec.toNat_ofNat] at this
      simp at this
      omega
    rw [if_neg hne, hm]
    have : IntOp.cmpi .ne (if false = true then (-1 : BitVec 32) else 1) (if (64#32 : BitVec 32) = 0 then (0 : BitVec 32) else if (64#32 : BitVec 32).msb then -1 else 1) = 0#1 := by decide
    rw [this]
    show Scalar.select (0#1 &&& _) _ _ = _
    rw [BitVec.zero_and]
    rfl

/-- A query row sees a key row when this lies in the row's chunk or the eight before it and is not padding. -/
def Sees (r j : ℕ) : Prop := 64 * (r / 64) ≤ j ∧ j < 64 * (r / 64) + 576 ∧ 512 ≤ j

instance (r j : ℕ) : Decidable (Sees r j) := by unfold Sees; infer_instance

/-- The mask's bit is set exactly where the row sees the key. -/
theorem seesWord (r j : ℕ) (hr : r < 8192) (hj : j < 8704) :
    IntOp.andi (IntOp.andi
        (IntOp.cmpi .sge (IntOp.subi (BitVec.ofNat 32 j) (IntOp.muli (BitVec.ofNat 32 (r / 64)) 64#32)) 0#32)
        (IntOp.cmpi .slt (IntOp.subi (BitVec.ofNat 32 j) (IntOp.muli (BitVec.ofNat 32 (r / 64)) 64#32)) 576#32))
      (IntOp.cmpi .sge (BitVec.ofNat 32 j) 512#32) = BitVec.ofBool (decide (Sees r j)) := by
  have hm : IntOp.muli (BitVec.ofNat 32 (r / 64)) 64#32 = BitVec.ofInt 32 (64 * (r / 64 : ℕ) : ℤ) := by
    show BitVec.ofNat 32 (r / 64) * 64#32 = _
    have e : (64#32 : BitVec 32) = BitVec.ofInt 32 64 := by decide
    rw [ofNat_word, e, ← BitVec.ofInt_mul, mul_comm]
  have hs : IntOp.subi (BitVec.ofNat 32 j) (IntOp.muli (BitVec.ofNat 32 (r / 64)) 64#32) = BitVec.ofInt 32 ((j : ℤ) - 64 * (r / 64 : ℕ)) := by
    rw [hm, ofNat_word]
    exact sub_word _ _
  have e0 : (0#32 : BitVec 32) = BitVec.ofInt 32 0 := by decide
  have e1 : (576#32 : BitVec 32) = BitVec.ofInt 32 576 := by decide
  have e2 : (512#32 : BitVec 32) = BitVec.ofInt 32 512 := by decide
  rw [hs, ofNat_word j, e0, e1, e2]
  unfold IntOp.cmpi
  show (BitVec.ofBool ((BitVec.ofInt 32 0).sle _) &&& BitVec.ofBool ((BitVec.ofInt 32 _).slt (BitVec.ofInt 32 576))) &&& BitVec.ofBool ((BitVec.ofInt 32 512).sle _) = _
  rw [sle_word (by omega) (by omega) (by omega) (by omega), slt_word (by omega) (by omega) (by omega) (by omega),
    sle_word (by omega) (by omega) (by omega) (by omega)]
  unfold Sees
  have h : ∀ p q s : Bool, (BitVec.ofBool p &&& BitVec.ofBool q) &&& BitVec.ofBool s = BitVec.ofBool (p && q && s) := by decide
  rw [h]
  congr 1
  rw [← Bool.decide_and, ← Bool.decide_and]
  refine decide_eq_decide.mpr ?_
  omega

end Cert.AttnGrad

end
-- ==== Proof.Model.lean ====
module

public import proofs.«01_k».proof.Proof.Spec
public import proofs.«01_k».proof.Proof.Words
public import Idealize.ShloMosaic.Lib.Pointwise.Index

/-! # The gradient of chunked attention, as sums

Sixteen heads of 128 lanes each, 8192 query rows, 8704 padded key rows of which the first 512 are padding, and a table of biases by head and
relative position. -/

@[expose] public section

noncomputable section

namespace Cert.AttnGrad

open Idealize.ShloMosaic
open scoped BigOperators

/-- An array of query rows, of padded key rows, and the table. -/
abbrev QueryArr : Type := (⟨2, ![8192, 2048]⟩ : Shape).Idx → EReal
abbrev KeyArr : Type := (⟨2, ![8704, 2048]⟩ : Shape).Idx → EReal
abbrev Table : Type := (⟨2, ![16, 192]⟩ : Shape).Idx → EReal

/-- The scale of the scores. -/
def scale : EReal := Ideal.ofBits .f32 0x3DB504F3#32

/-- The scale is a real and not negative. -/
theorem scale_real : ∃ u : ℝ, scale = (u : EReal) ∧ 0 ≤ u := by
  have he : (BitVec.extractLsb' 23 8 (0x3DB504F3#32 : BitVec 32)).toNat = 123 := by decide
  have hn : (BitVec.extractLsb' 31 1 (0x3DB504F3#32 : BitVec 32) == 1#1) = false := by decide
  have h : scale = Ideal.ieee 8 23 (0x3DB504F3#32 : BitVec 32) := rfl
  rw [h]
  unfold Ideal.ieee
  rw [he, hn]
  exact ⟨_, by rw [if_neg (by decide), if_neg (by decide)], by simp only [Bool.false_eq_true, if_false]; positivity⟩

/-- The pattern of minus infinity … -/
theorem ofBits_neg_inf : Ideal.ofBits .f32 0xFF800000#32 = ⊥ := by simp [Ideal.ofBits, Ideal.ieee]

/-- … and of infinity. -/
theorem ofBits_inf : Ideal.ofBits .f32 0x7F800000#32 = ⊤ := by simp [Ideal.ofBits, Ideal.ieee]

/-- Lane `d` of head `h`. -/
def lane (h : Fin 16) (d : Fin 128) : Fin 2048 := ⟨h.val * 128 + d.val, by omega⟩

/-- The table's column for a query row and a key row. -/
def relFin (r j : ℕ) : Fin 192 := ⟨relCol r j, by unfold relCol; omega⟩

/-- The score of query row `r` against key row `j` in head `h`. -/
def score (q : QueryArr) (k : KeyArr) (tab : Table) (h : Fin 16) (r : Fin 8192) (j : Fin 8704) : EReal :=
  if Sees r.val j.val then (∑ d, q (ix2 r (lane h d)) * k (ix2 j (lane h d))) * scale + tab (ix2 h (relFin r.val j.val)) else ⊥

/-- The gradient of the probability of key row `j` at query row `r`. -/
def probGrad (v : KeyArr) (o : QueryArr) (h : Fin 16) (r : Fin 8192) (j : Fin 8704) : EReal :=
  ∑ d, o (ix2 r (lane h d)) * v (ix2 j (lane h d))

/-- The scaled gradient of a score. -/
def scaledGrad (q : QueryArr) (k v : KeyArr) (tab : Table) (o : QueryArr) (h : Fin 16) (r : Fin 8192) (j : Fin 8704) : EReal :=
  quotGrad (score q k tab h r) (probGrad v o h r) j * scale

/-- The gradient of the queries. -/
def gradQ (q : QueryArr) (k v : KeyArr) (tab : Table) (o : QueryArr) (h : Fin 16) (r : Fin 8192) (d : Fin 128) : EReal :=
  ∑ j, scaledGrad q k v tab o h r j * k (ix2 j (lane h d))

/-- The gradient of the keys. -/
def gradK (q : QueryArr) (k v : KeyArr) (tab : Table) (o : QueryArr) (h : Fin 16) (j : Fin 8704) (d : Fin 128) : EReal :=
  ∑ r, scaledGrad q k v tab o h r j * q (ix2 r (lane h d))

/-- The gradient of the values. -/
def gradV (q : QueryArr) (k : KeyArr) (tab : Table) (o : QueryArr) (h : Fin 16) (j : Fin 8704) (d : Fin 128) : EReal :=
  ∑ r, o (ix2 r (lane h d)) * rowProb (score q k tab h r) j

/-- An array with no infinite element. -/
def Finite {α : Type} (x : α → EReal) : Prop := ∀ i, x i ≠ ⊤ ∧ x i ≠ ⊥

/-- A finite array's sum of products is real. -/
theorem sum_mul_real {n : ℕ} (f g : Fin n → EReal) (hf : ∀ d, f d ≠ ⊤ ∧ f d ≠ ⊥) (hg : ∀ d, g d ≠ ⊤ ∧ g d ≠ ⊥) :
    ∃ x : ℝ, (∑ d, f d * g d) = (x : EReal) := by
  refine ⟨∑ d, (f d).toReal * (g d).toReal, ?_⟩
  rw [← coe_sum]
  refine Finset.sum_congr rfl fun d _ => ?_
  rw [EReal.coe_mul, EReal.coe_toReal (hf d).1 (hf d).2, EReal.coe_toReal (hg d).1 (hg d).2]

/-- Where the arrays are finite a score is real at the keys the row sees. -/
theorem score_real {q : QueryArr} {k : KeyArr} {tab : Table} (hq : Finite q) (hk : Finite k) (ht : Finite tab)
    (h : Fin 16) (r : Fin 8192) (j : Fin 8704) (hs : Sees r.val j.val) : ∃ x : ℝ, score q k tab h r j = (x : EReal) := by
  obtain ⟨x, hx⟩ := sum_mul_real (fun d => q (ix2 r (lane h d))) (fun d => k (ix2 j (lane h d))) (fun d => hq _) (fun d => hk _)
  obtain ⟨u, hu, _⟩ := scale_real
  refine ⟨x * u + (tab (ix2 h (relFin r.val j.val))).toReal, ?_⟩
  unfold score
  rw [if_pos hs, hx, hu, EReal.coe_add, EReal.coe_mul, EReal.coe_toReal (ht _).1 (ht _).2]

/-- A key the row does not see has the score `⊥`. -/
theorem score_bot (q : QueryArr) (k : KeyArr) (tab : Table) (h : Fin 16) (r : Fin 8192) (j : Fin 8704) (hs : ¬ Sees r.val j.val) :
    score q k tab h r j = ⊥ := if_neg hs

/-- Every query row sees its own frame's key, so its scores form a good row. -/
theorem score_good {q : QueryArr} {k : KeyArr} {tab : Table} (hq : Finite q) (hk : Finite k) (ht : Finite tab) (h : Fin 16) (r : Fin 8192) :
    Good (score q k tab h r) := by
  refine ⟨fun j => ?_, ⟨⟨512 + r.val, by omega⟩, ?_⟩⟩
  · by_cases hs : Sees r.val j.val
    · obtain ⟨x, hx⟩ := score_real hq hk ht h r j hs
      rw [hx]; exact EReal.coe_ne_top x
    · rw [score_bot q k tab h r j hs]; exact bot_ne_top
  · obtain ⟨x, hx⟩ := score_real hq hk ht h r ⟨512 + r.val, by omega⟩ (by unfold Sees; dsimp only; omega)
    rw [hx]; exact EReal.coe_ne_bot x

end Cert.AttnGrad

end
-- ==== Proof.BlockRead.lean ====
module

public import proofs.«01_k».proof.Proof.Step
public import proofs.«01_k».proof.Proof.Model
public import Idealize.ShloMosaic.Lib.Pointwise

/-! # One block's arithmetic, read at an index over the extended reals -/

@[expose] public section

noncomputable section

namespace Cert.KernelIdeal.Gen

open Idealize.ShloMosaic Cert.AttnGrad
open scoped BigOperators

/-- A block of queries, a window of keys, and a block of scores. -/
abbrev QBlock : Type := S256x128.Idx → EReal
abbrev KBlock : Type := S768x128.Idx → EReal
abbrev SBlock : Type := S256x768.Idx → EReal

/-- A column of row values spread over a block. -/
theorem column_read (M : S256.Idx → EReal) (r : Fin 256) (c : Fin 768) :
    broadcastTo S256x768 (shapeCast S256x1 M shapeCasts_S256_S256x1) broadcasts_S256x1_S256x768 (ix2 r c) = M (ix1 r) := by
  pointwise []

/-- A row's greatest score. -/
theorem max_read (s : SBlock) (r : Fin 256) :
    multiReduction (F := Ideal) (φ := .f32) .maximumf [1] S256 s 0xFF800000#32 reduces_S256x768_S256 (.inl rfl) rfl (ix1 r) = rowMax (fun c => s (ix2 r c)) := by
  refine (Ideal.multiReduction_maximumf_single s _ _ _ _ _).trans ?_
  unfold rowMax
  rw [show (FloatOps.ofBits .f32 0xFF800000#32 : Ideal .f32) = (⊥ : EReal) from ofBits_neg_inf]
  refine Finset.fold_congr fun c _ => congrArg s (funext fun a => Fin.ext ?_)
  match a with
  | ⟨0, _⟩ => rfl
  | ⟨1, _⟩ => rfl

/-- A row's sum. -/
theorem sum_read (s : SBlock) (r : Fin 256) :
    multiReduction (F := Ideal) (φ := .f32) .add [1] S256 s 0x00000000#32 reduces_S256x768_S256 (.inl rfl) rfl (ix1 r) = ∑ c, s (ix2 r c) := by
  refine (Ideal.multiReduction_add_single s _ _ _ _ _).trans ?_
  refine Finset.sum_congr rfl fun c _ => congrArg s (funext fun a => Fin.ext ?_)
  match a with
  | ⟨0, _⟩ => rfl
  | ⟨1, _⟩ => rfl

/-- Rows against rows. -/
theorem rows_read (q : QBlock) (k : KBlock) (r : Fin 256) (c : Fin 768) :
    matmul (F := Ideal) (φ₁ := .bf16) (φ₂ := .bf16) dot_S256x128_S768x128_S256x768_1_1_0_0_n_n none q k (constant S256x768 .f32 0x00000000#32) (ix2 r c)
      = ∑ d, q (ix2 r d) * k (ix2 c d) := by
  pointwise []

/-- A block of scores against a window of keys. -/
theorem keys_read (p : SBlock) (k : KBlock) (r : Fin 256) (d : Fin 128) :
    matmul (F := Ideal) (φ₁ := .bf16) (φ₂ := .bf16) dot_S256x768_S768x128_S256x128_1_0_0_1_n_n none p k (constant S256x128 .f32 0x00000000#32) (ix2 r d)
      = ∑ c, p (ix2 r c) * k (ix2 c d) := by
  pointwise []

/-- A block of scores, transposed, against a block of queries. -/
theorem queries_read (p : SBlock) (q : QBlock) (c : Fin 768) (d : Fin 128) :
    matmul (F := Ideal) (φ₁ := .bf16) (φ₂ := .bf16) dot_S256x768_S256x128_S768x128_0_0_1_1_n_n none p q (constant S768x128 .f32 0x00000000#32) (ix2 c d)
      = ∑ r, p (ix2 r c) * q (ix2 r d) := by
  pointwise []

/-- The word of the first key row of a window. -/
theorem startWord_eq (i : grid0.Coords) (s : Fin 8) : startWord i s = BitVec.ofNat 32 (2048 * (i 1).val + 256 * s.val) := by
  have ha : (i 1).val < 4 := (i 1).isLt
  have hs := s.isLt
  apply BitVec.eq_of_toNat_eq
  unfold startWord
  simp only [Scalar.muli, Scalar.addi, IntOp.muli, IntOp.addi, BitVec.toNat_mul, BitVec.toNat_add, BitVec.toNat_ofNat]
  omega

/-- A key row of a window is past the padding. -/
theorem pastWord (n c : ℕ) (hn : n ≤ 8192) (hc : c < 768) :
    IntOp.cmpi .sge (IntOp.addi (BitVec.ofNat 32 n) (BitVec.ofNat 32 c)) 512#32 = BitVec.ofBool (decide (512 ≤ n + c)) := by
  have e : (512#32 : BitVec 32) = BitVec.ofInt 32 512 := by decide
  have e2 : IntOp.addi (BitVec.ofNat 32 n) (BitVec.ofNat 32 c) = BitVec.ofInt 32 ((n : ℤ) + c) := by
    show BitVec.ofNat 32 n + BitVec.ofNat 32 c = _
    rw [ofNat_word, ofNat_word, BitVec.ofInt_add]
  rw [e2, e]
  show BitVec.ofBool ((BitVec.ofInt 32 512).sle (BitVec.ofInt 32 ((n : ℤ) + c))) = _
  rw [sle_word (by omega) (by omega) (by omega) (by omega)]
  refine congrArg BitVec.ofBool (decide_eq_decide.mpr ?_)
  omega

/-- A block's masked scores. -/
def blockScore (n : ℕ) (q : QBlock) (k : KBlock) (b : S1x256x768.Idx → EReal) (r : Fin 256) (c : Fin 768) : EReal :=
  if 512 ≤ n + c.val then (∑ d, q (ix2 r d) * k (ix2 c d)) * scale + b (ix3 0 r c) else ⊥

theorem scores_read (n : ℕ) (hn : n ≤ 8192) (q : QBlock) (k : KBlock) (b : S1x256x768.Idx → EReal) (r : Fin 256) (c : Fin 768) :
    maskedScores (F := Ideal) (BitVec.ofNat 32 n) q k b (ix2 r c) = blockScore n q k b r c := by
  have hd := rows_read q k r c
  have hb : shapeCast S256x768 b shapeCasts_S1x256x768_S256x768 (ix2 r c) = b (ix3 0 r c) := by pointwise []
  have hm : broadcastTo S256x768 (shapeCast S1x768 (cmpi .sge (addi (broadcast S1x768 (BitVec.ofNat 32 n)) (iota .tc S1x768 32 [1] iota_S1x768_d1_w32))
      (broadcast S1x768 512#32)) shapeCasts_S1x768_S1x768) broadcasts_S1x768_S256x768 (ix2 r c) = BitVec.ofBool (decide (512 ≤ n + c.val)) := by
    rw [← pastWord n c.val hn c.isLt]
    pointwise []
  unfold maskedScores
  show Scalar.select _ (_ * scale + _) (⊥ : EReal) = _
  rw [hd, hb, hm, select_decide]
  rfl

/-- The exponentials. -/
theorem exp_read (s : SBlock) (r : Fin 256) (c : Fin 768) : expScores (F := Ideal) s (ix2 r c) = rowExp (fun c => s (ix2 r c)) c := by
  have h := (column_read _ r c).trans (max_read s r)
  unfold expScores
  show Ideal.exp (s (ix2 r c) - _) = _
  rw [h]
  rfl

/-- The probabilities. -/
theorem prob_read (s : SBlock) (r : Fin 256) (c : Fin 768) : normRows (F := Ideal) (expScores s) (ix2 r c) = rowProb (fun c => s (ix2 r c)) c := by
  have h := (column_read _ r c).trans (sum_read (expScores (F := Ideal) s) r)
  unfold normRows
  show Ideal.div (expScores (F := Ideal) s (ix2 r c)) _ = _
  rw [h, exp_read]
  unfold rowProb rowSum
  exact congrArg (Ideal.div _) (Finset.sum_congr rfl fun l _ => exp_read s r l)

theorem probs_read (n : ℕ) (hn : n ≤ 8192) (q : QBlock) (k : KBlock) (b : S1x256x768.Idx → EReal) (r : Fin 256) (c : Fin 768) :
    probs (F := Ideal) (BitVec.ofNat 32 n) q k b (ix2 r c) = rowProb (blockScore n q k b r) c := by
  refine (prob_read _ r c).trans ?_
  rw [funext (scores_read n hn q k b r)]

/-- The gradient of a block's probabilities. -/
def blockGrad (o : QBlock) (v : KBlock) (r : Fin 256) (c : Fin 768) : EReal := ∑ d, o (ix2 r d) * v (ix2 c d)

/-- The gradient of a block's scores. -/
theorem ds_read (s : Fin 256 → Fin 768 → EReal) (o : QBlock) (v : KBlock) (p : SBlock) (hp : ∀ r c, p (ix2 r c) = rowProb (s r) c) (r : Fin 256) (c : Fin 768) :
    k0_pay5 (F := Ideal) o v p (ix2 r c) = scoreGrad (s r) (blockGrad o v r) c := by
  have hd := rows_read o v r
  have h := (column_read _ r c).trans (sum_read (mulf (F := Ideal) (φ := .f32) p
    (matmul (F := Ideal) (φ₁ := .bf16) (φ₂ := .bf16) dot_S256x128_S768x128_S256x768_1_1_0_0_n_n none o v (constant S256x768 .f32 0x00000000#32))) r)
  unfold k0_pay5
  show p (ix2 r c) * (_ - _) = _
  rw [h, hd, hp]
  unfold scoreGrad
  refine congrArg (fun z => rowProb (s r) c * (_ - z)) (Finset.sum_congr rfl fun l _ => ?_)
  show p (ix2 r l) * _ = _
  rw [hp, hd]
  rfl

/-- A block's query gradient. -/
theorem dq_read (s : Fin 256 → Fin 768 → EReal) (o : QBlock) (k v : KBlock) (p : SBlock) (hp : ∀ r c, p (ix2 r c) = rowProb (s r) c) (r : Fin 256) (d : Fin 128) :
    k0_pay8 (F := Ideal) o k v p (ix2 r d) = (∑ c, scoreGrad (s r) (blockGrad o v r) c * k (ix2 c d)) * scale := by
  have h := keys_read (k0_pay7 (F := Ideal) o v p) k r d
  unfold k0_pay8
  show _ * scale = _
  rw [h]
  exact congrArg (· * scale) (Finset.sum_congr rfl fun c _ => congrArg (· * _) (ds_read s o v p hp r c))

/-- A block's share of the key gradient. -/
theorem dk_read (s : Fin 256 → Fin 768 → EReal) (q o : QBlock) (v : KBlock) (p : SBlock) (hp : ∀ r c, p (ix2 r c) = rowProb (s r) c)
    (x : KBlock) (c : Fin 768) (d : Fin 128) :
    k0_pay9 (F := Ideal) q o v p x (ix2 c d) = x (ix2 c d) + (∑ r, scoreGrad (s r) (blockGrad o v r) c * q (ix2 r d)) * scale := by
  have h := queries_read (k0_pay7 (F := Ideal) o v p) q c d
  have hx : shapeCast S768x128 x shapeCasts_S768x128_S768x128 (ix2 c d) = x (ix2 c d) := by pointwise []
  unfold k0_pay9
  show _ + _ * scale = _
  rw [h, hx]
  exact congrArg (fun z => x (ix2 c d) + z * scale) (Finset.sum_congr rfl fun r _ => congrArg (· * _) (ds_read s o v p hp r c))

/-- A block's share of the value gradient. -/
theorem dv_read (s : Fin 256 → Fin 768 → EReal) (o : QBlock) (p : SBlock) (hp : ∀ r c, p (ix2 r c) = rowProb (s r) c)
    (x : KBlock) (c : Fin 768) (d : Fin 128) :
    k0_pay10 (F := Ideal) o p x (ix2 c d) = x (ix2 c d) + ∑ r, rowProb (s r) c * o (ix2 r d) := by
  have h := queries_read p o c d
  have hx : shapeCast S768x128 x shapeCasts_S768x128_S768x128 (ix2 c d) = x (ix2 c d) := by pointwise []
  unfold k0_pay10
  show _ + _ = _
  rw [hx]
  exact congrArg (x (ix2 c d) + ·) (h.trans (Finset.sum_congr rfl fun r _ => congrArg (· * _) (hp r c)))

end Cert.KernelIdeal.Gen

end
-- ==== Proof.Bias.lean ====
module

public import proofs.«01_k».proof.Proof.Gen.KernelIdeal.Frame
public import proofs.«01_k».proof.Proof.Model
public import Idealize.ShloMosaic.Lib.Pointwise
public import Idealize.ShloMosaic.Lib.StableHlo.ReadAt
public import Idealize.ShloMosaic.Lib.Routing.OpsSet
public import Idealize.ShloMosaic.Lib.Routing.OpsPair

/-! # The band of biases that the host lays out

The host spreads the table of biases over a block of 256 query rows and 768 key rows: query row `r` of the block sees the 576 key rows from row
`64 (r / 64)` on, each at its relative position's column; every other key row has minus infinity. -/

@[expose] public section

noncomputable section

namespace Cert.KernelIdeal.Gen

open Idealize.ShloMosaic Cert.AttnGrad

/-- The host operations before the launch. -/
abbrev hostLine : List (HloOp τ sig (Elt Ideal)) := List.flatten [hostOps0, hostOps0_1, hostOps0_2]

variable (W : Valuation τ sig (Elt Ideal))

/-- The table of biases. -/
abbrev tabOf : AttnGrad.Table := W (Proc.devRef .tc main_arg3)

/-- The table reversed behind copies of its last column. -/
def tail : S16x639.Idx → EReal :=
  concatenate S16x639 1 [⟨S16x448, StableHlo.upto hostLine W 4 (Proc.devRef .tc main_v1)⟩, ⟨S16x191, StableHlo.upto hostLine W 4 (Proc.devRef .tc main_v3)⟩]
    concatenates_S16x448_S16x191_S16x639_d1

/-- Two pieces laid end to end, read at a position. -/
theorem pair_read (a : S16x448.Idx → EReal) (b : S16x191.Idx → EReal) (h : Fin 16) (x : Fin 639) :
    concatenate S16x639 1 [⟨S16x448, a⟩, ⟨S16x191, b⟩] concatenates_S16x448_S16x191_S16x639_d1 (ix2 h x)
      = if hx : x.val < 448 then a (ix2 h ⟨x.val, hx⟩) else b (ix2 h ⟨x.val - 448, by omega⟩) := by
  pointwise []

/-- The last column, copied. -/
theorem last_read (tab : AttnGrad.Table) (h : Fin 16) (x : Fin 448) :
    broadcastInDim S16x448 ![0, 1] bcast_S16x1_S16x448_0_1 (extractStridedSlice (s := S16x192) S16x1 ![0, 191] tab slices_S16x192_S16x1_0_191) (ix2 h x)
      = tab (ix2 h ⟨191, by omega⟩) := by
  pointwise []

/-- The other columns, reversed. -/
theorem flip_read (tab : AttnGrad.Table) (h : Fin 16) (x : Fin 191) :
    Host.reverse [1] (extractStridedSlice (s := S16x192) S16x191 ![0, 0] tab slices_S16x192_S16x191_0_0) (ix2 h x)
      = tab (ix2 h ⟨190 - x.val, by omega⟩) := by
  refine congrArg tab (funext fun a => Fin.ext ?_)
  match a with
  | ⟨0, _⟩ => exact Nat.zero_add _
  | ⟨1, _⟩ => exact (Nat.zero_add _).trans (by show 191 - (x.val + 1) = 190 - x.val; omega)

/-- It holds at position `x` the table's column `638 - x`, clipped to the last. -/
theorem tail_read (h : Fin 16) (x : Fin 639) : tail W (ix2 h x) = tabOf W (ix2 h ⟨min (638 - x.val) 191, by omega⟩) := by
  have h1 : StableHlo.upto hostLine W 4 (Proc.devRef .tc main_v1)
      = broadcastInDim S16x448 ![0, 1] bcast_S16x1_S16x448_0_1 (extractStridedSlice (s := S16x192) S16x1 ![0, 191] (tabOf W) slices_S16x192_S16x1_0_191) := by
    after_reads_simp
  have h3 : StableHlo.upto hostLine W 4 (Proc.devRef .tc main_v3)
      = Host.reverse [1] (extractStridedSlice (s := S16x192) S16x191 ![0, 0] (tabOf W) slices_S16x192_S16x191_0_0) := by
    after_reads_simp
    rfl
  refine (pair_read _ _ h x).trans ?_
  rw [h1, h3]
  split
  · next hx =>
    refine (last_read (tabOf W) h ⟨x.val, hx⟩).trans (congrArg (tabOf W) (congrArg (ix2 h) (Fin.ext ?_)))
    show 191 = min (638 - x.val) 191
    omega
  · next hx =>
    refine (flip_read (tabOf W) h ⟨x.val - 448, by omega⟩).trans (congrArg (tabOf W) (congrArg (ix2 h) (Fin.ext ?_)))
    show 190 - (x.val - 448) = min (638 - x.val) 191
    omega

/-- One row of the band, with a unit axis: the reversed table from position `o` on. -/
theorem piece_read (T : S16x639.Idx → EReal) (o : ℕ) (hs : S16x639.Slices ![0, o] S16x576) (h : Fin 16) (z : Fin 1) (x : Fin 576) (ho : o ≤ 63) :
    broadcastInDim S16x1x576 ![0, 2] bcast_S16x576_S16x1x576_0_2 (extractStridedSlice (s := S16x639) S16x576 ![0, o] T hs) (ix3 h z x)
      = T (ix2 h ⟨o + x.val, by omega⟩) := by
  pointwise []

/-- Row `k` of the band. -/
def bandRow (tab : AttnGrad.Table) (k : ℕ) : S16x1x576.Idx → EReal := fun j => tab (ix2 (j 0) (relFin k (j 2).val))

theorem bandRow_eq (k o : ℕ) (hk : o + k = 63) (hs : S16x639.Slices ![0, o] S16x576) :
    broadcastInDim S16x1x576 ![0, 2] bcast_S16x576_S16x1x576_0_2 (extractStridedSlice (s := S16x639) S16x576 ![0, o] (tail W) hs) = bandRow (tabOf W) k := by
  funext j
  obtain ⟨h, z, x, rfl⟩ : ∃ (h : Fin 16) (z : Fin 1) (x : Fin 576), j = ix3 h z x := ⟨j 0, j 1, j 2, eq_ix3 j⟩
  refine (piece_read (tail W) o hs h z x (by omega)).trans ((tail_read W h _).trans ?_)
  refine congrArg (tabOf W) (congrArg (ix2 h) (Fin.ext ?_))
  show min (638 - (o + x.val)) 191 = min (k + 575 - x.val) 191
  omega

/-- Two lists of arrays of one shape are equal when their heads and their tails are. -/
theorem cons_eq {α : Type} {S : Shape} {a b : S.Idx → α} {l l' : List ((s : Shape) × (s.Idx → α))} (h : a = b) (t : l = l') :
    (⟨S, a⟩ :: l : List ((s : Shape) × (s.Idx → α))) = ⟨S, b⟩ :: l' := by
  subst h; subst t; rfl

/-- Sixteen rows of the band. -/
def bandRows (tab : AttnGrad.Table) (p : ℕ) : S16x16x576.Idx → EReal :=
  concatenate S16x16x576 1 (List.ofFn fun n : Fin 16 => ⟨S16x1x576, bandRow tab (p + n.val)⟩)
    concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1

set_option maxHeartbeats 4000000 in
/-- The first sixteen rows. -/
theorem rows0_eq : StableHlo.upto hostLine W 137 (Proc.devRef .tc main_v133) = bandRows (tabOf W) 0 := by
  have p0 : StableHlo.upto hostLine W 133 (Proc.devRef .tc main_v69) = bandRow (tabOf W) 0 := by
    after_reads_simp; exact bandRow_eq W 0 63 rfl slices_S16x639_S16x576_0_63
  have p1 : StableHlo.upto hostLine W 133 (Proc.devRef .tc main_v70) = bandRow (tabOf W) 1 := by
    after_reads_simp; exact bandRow_eq W 1 62 rfl slices_S16x639_S16x576_0_62
  have p2 : StableHlo.upto hostLine W 133 (Proc.devRef .tc main_v71) = bandRow (tabOf W) 2 := by
    after_reads_simp; exact bandRow_eq W 2 61 rfl slices_S16x639_S16x576_0_61
  have p3 : StableHlo.upto hostLine W 133 (Proc.devRef .tc main_v72) = bandRow (tabOf W) 3 := by
    after_reads_simp; exact bandRow_eq W 3 60 rfl slices_S16x639_S16x576_0_60
  have p4 : StableHlo.upto hostLine W 133 (Proc.devRef .tc main_v73) = bandRow (tabOf W) 4 := by
    after_reads_simp; exact bandRow_eq W 4 59 rfl slices_S16x639_S16x576_0_59
  have p5 : StableHlo.upto hostLine W 133 (Proc.devRef .tc main_v74) = bandRow (tabOf W) 5 := by
    after_reads_simp; exact bandRow_eq W 5 58 rfl slices_S16x639_S16x576_0_58
  have p6 : StableHlo.upto hostLine W 133 (Proc.devRef .tc main_v75) = bandRow (tabOf W) 6 := by
    after_reads_simp; exact bandRow_eq W 6 57 rfl slices_S16x639_S16x576_0_57
  have p7 : StableHlo.upto hostLine W 133 (Proc.devRef .tc main_v76) = bandRow (tabOf W) 7 := by
    after_reads_simp; exact bandRow_eq W 7 56 rfl slices_S16x639_S16x576_0_56
  have p8 : StableHlo.upto hostLine W 133 (Proc.devRef .tc main_v77) = bandRow (tabOf W) 8 := by
    after_reads_simp; exact bandRow_eq W 8 55 rfl slices_S16x639_S16x576_0_55
  have p9 : StableHlo.upto hostLine W 133 (Proc.devRef .tc main_v78) = bandRow (tabOf W) 9 := by
    after_reads_simp; exact bandRow_eq W 9 54 rfl slices_S16x639_S16x576_0_54
  have p10 : StableHlo.upto hostLine W 133 (Proc.devRef .tc main_v79) = bandRow (tabOf W) 10 := by
    after_reads_simp; exact bandRow_eq W 10 53 rfl slices_S16x639_S16x576_0_53
  have p11 : StableHlo.upto hostLine W 133 (Proc.devRef .tc main_v80) = bandRow (tabOf W) 11 := by
    after_reads_simp; exact bandRow_eq W 11 52 rfl slices_S16x639_S16x576_0_52
  have p12 : StableHlo.upto hostLine W 133 (Proc.devRef .tc main_v81) = bandRow (tabOf W) 12 := by
    after_reads_simp; exact bandRow_eq W 12 51 rfl slices_S16x639_S16x576_0_51
  have p13 : StableHlo.upto hostLine W 133 (Proc.devRef .tc main_v82) = bandRow (tabOf W) 13 := by
    after_reads_simp; exact bandRow_eq W 13 50 rfl slices_S16x639_S16x576_0_50
  have p14 : StableHlo.upto hostLine W 133 (Proc.devRef .tc main_v83) = bandRow (tabOf W) 14 := by
    after_reads_simp; exact bandRow_eq W 14 49 rfl slices_S16x639_S16x576_0_49
  have p15 : StableHlo.upto hostLine W 133 (Proc.devRef .tc main_v84) = bandRow (tabOf W) 15 := by
    after_reads_simp; exact bandRow_eq W 15 48 rfl slices_S16x639_S16x576_0_48
  after_reads_simp
  refine StableHlo.concatenate_congr _ _ ?_ _ _
  exact cons_eq p0 (cons_eq p1 (cons_eq p2 (cons_eq p3 (cons_eq p4 (cons_eq p5 (cons_eq p6 (cons_eq p7 (cons_eq p8 (cons_eq p9 (cons_eq p10 (cons_eq p11 (cons_eq p12 (cons_eq p13 (cons_eq p14 (cons_eq p15 (rfl))))))))))))))))

set_option maxHeartbeats 4000000 in
/-- The second sixteen rows. -/
theorem rows1_eq : StableHlo.upto hostLine W 137 (Proc.devRef .tc main_v134) = bandRows (tabOf W) 16 := by
  have p0 : StableHlo.upto hostLine W 134 (Proc.devRef .tc main_v85) = bandRow (tabOf W) 16 := by
    after_reads_simp; exact bandRow_eq W 16 47 rfl slices_S16x639_S16x576_0_47
  have p1 : StableHlo.upto hostLine W 134 (Proc.devRef .tc main_v86) = bandRow (tabOf W) 17 := by
    after_reads_simp; exact bandRow_eq W 17 46 rfl slices_S16x639_S16x576_0_46
  have p2 : StableHlo.upto hostLine W 134 (Proc.devRef .tc main_v87) = bandRow (tabOf W) 18 := by
    after_reads_simp; exact bandRow_eq W 18 45 rfl slices_S16x639_S16x576_0_45
  have p3 : StableHlo.upto hostLine W 134 (Proc.devRef .tc main_v88) = bandRow (tabOf W) 19 := by
    after_reads_simp; exact bandRow_eq W 19 44 rfl slices_S16x639_S16x576_0_44
  have p4 : StableHlo.upto hostLine W 134 (Proc.devRef .tc main_v89) = bandRow (tabOf W) 20 := by
    after_reads_simp; exact bandRow_eq W 20 43 rfl slices_S16x639_S16x576_0_43
  have p5 : StableHlo.upto hostLine W 134 (Proc.devRef .tc main_v90) = bandRow (tabOf W) 21 := by
    after_reads_simp; exact bandRow_eq W 21 42 rfl slices_S16x639_S16x576_0_42
  have p6 : StableHlo.upto hostLine W 134 (Proc.devRef .tc main_v91) = bandRow (tabOf W) 22 := by
    after_reads_simp; exact bandRow_eq W 22 41 rfl slices_S16x639_S16x576_0_41
  have p7 : StableHlo.upto hostLine W 134 (Proc.devRef .tc main_v92) = bandRow (tabOf W) 23 := by
    after_reads_simp; exact bandRow_eq W 23 40 rfl slices_S16x639_S16x576_0_40
  have p8 : StableHlo.upto hostLine W 134 (Proc.devRef .tc main_v93) = bandRow (tabOf W) 24 := by
    after_reads_simp; exact bandRow_eq W 24 39 rfl slices_S16x639_S16x576_0_39
  have p9 : StableHlo.upto hostLine W 134 (Proc.devRef .tc main_v94) = bandRow (tabOf W) 25 := by
    after_reads_simp; exact bandRow_eq W 25 38 rfl slices_S16x639_S16x576_0_38
  have p10 : StableHlo.upto hostLine W 134 (Proc.devRef .tc main_v95) = bandRow (tabOf W) 26 := by
    after_reads_simp; exact bandRow_eq W 26 37 rfl slices_S16x639_S16x576_0_37
  have p11 : StableHlo.upto hostLine W 134 (Proc.devRef .tc main_v96) = bandRow (tabOf W) 27 := by
    after_reads_simp; exact bandRow_eq W 27 36 rfl slices_S16x639_S16x576_0_36
  have p12 : StableHlo.upto hostLine W 134 (Proc.devRef .tc main_v97) = bandRow (tabOf W) 28 := by
    after_reads_simp; exact bandRow_eq W 28 35 rfl slices_S16x639_S16x576_0_35
  have p13 : StableHlo.upto hostLine W 134 (Proc.devRef .tc main_v98) = bandRow (tabOf W) 29 := by
    after_reads_simp; exact bandRow_eq W 29 34 rfl slices_S16x639_S16x576_0_34
  have p14 : StableHlo.upto hostLine W 134 (Proc.devRef .tc main_v99) = bandRow (tabOf W) 30 := by
    after_reads_simp; exact bandRow_eq W 30 33 rfl slices_S16x639_S16x576_0_33
  have p15 : StableHlo.upto hostLine W 134 (Proc.devRef .tc main_v100) = bandRow (tabOf W) 31 := by
    after_reads_simp; exact bandRow_eq W 31 32 rfl slices_S16x639_S16x576_0_32
  after_reads_simp
  refine StableHlo.concatenate_congr _ _ ?_ _ _
  exact cons_eq p0 (cons_eq p1 (cons_eq p2 (cons_eq p3 (cons_eq p4 (cons_eq p5 (cons_eq p6 (cons_eq p7 (cons_eq p8 (cons_eq p9 (cons_eq p10 (cons_eq p11 (cons_eq p12 (cons_eq p13 (cons_eq p14 (cons_eq p15 (rfl))))))))))))))))

set_option maxHeartbeats 4000000 in
/-- The third sixteen rows. -/
theorem rows2_eq : StableHlo.upto hostLine W 137 (Proc.devRef .tc main_v135) = bandRows (tabOf W) 32 := by
  have p0 : StableHlo.upto hostLine W 135 (Proc.devRef .tc main_v101) = bandRow (tabOf W) 32 := by
    after_reads_simp; exact bandRow_eq W 32 31 rfl slices_S16x639_S16x576_0_31
  have p1 : StableHlo.upto hostLine W 135 (Proc.devRef .tc main_v102) = bandRow (tabOf W) 33 := by
    after_reads_simp; exact bandRow_eq W 33 30 rfl slices_S16x639_S16x576_0_30
  have p2 : StableHlo.upto hostLine W 135 (Proc.devRef .tc main_v103) = bandRow (tabOf W) 34 := by
    after_reads_simp; exact bandRow_eq W 34 29 rfl slices_S16x639_S16x576_0_29
  have p3 : StableHlo.upto hostLine W 135 (Proc.devRef .tc main_v104) = bandRow (tabOf W) 35 := by
    after_reads_simp; exact bandRow_eq W 35 28 rfl slices_S16x639_S16x576_0_28
  have p4 : StableHlo.upto hostLine W 135 (Proc.devRef .tc main_v105) = bandRow (tabOf W) 36 := by
    after_reads_simp; exact bandRow_eq W 36 27 rfl slices_S16x639_S16x576_0_27
  have p5 : StableHlo.upto hostLine W 135 (Proc.devRef .tc main_v106) = bandRow (tabOf W) 37 := by
    after_reads_simp; exact bandRow_eq W 37 26 rfl slices_S16x639_S16x576_0_26
  have p6 : StableHlo.upto hostLine W 135 (Proc.devRef .tc main_v107) = bandRow (tabOf W) 38 := by
    after_reads_simp; exact bandRow_eq W 38 25 rfl slices_S16x639_S16x576_0_25
  have p7 : StableHlo.upto hostLine W 135 (Proc.devRef .tc main_v108) = bandRow (tabOf W) 39 := by
    after_reads_simp; exact bandRow_eq W 39 24 rfl slices_S16x639_S16x576_0_24
  have p8 : StableHlo.upto hostLine W 135 (Proc.devRef .tc main_v109) = bandRow (tabOf W) 40 := by
    after_reads_simp; exact bandRow_eq W 40 23 rfl slices_S16x639_S16x576_0_23
  have p9 : StableHlo.upto hostLine W 135 (Proc.devRef .tc main_v110) = bandRow (tabOf W) 41 := by
    after_reads_simp; exact bandRow_eq W 41 22 rfl slices_S16x639_S16x576_0_22
  have p10 : StableHlo.upto hostLine W 135 (Proc.devRef .tc main_v111) = bandRow (tabOf W) 42 := by
    after_reads_simp; exact bandRow_eq W 42 21 rfl slices_S16x639_S16x576_0_21
  have p11 : StableHlo.upto hostLine W 135 (Proc.devRef .tc main_v112) = bandRow (tabOf W) 43 := by
    after_reads_simp; exact bandRow_eq W 43 20 rfl slices_S16x639_S16x576_0_20
  have p12 : StableHlo.upto hostLine W 135 (Proc.devRef .tc main_v113) = bandRow (tabOf W) 44 := by
    after_reads_simp; exact bandRow_eq W 44 19 rfl slices_S16x639_S16x576_0_19
  have p13 : StableHlo.upto hostLine W 135 (Proc.devRef .tc main_v114) = bandRow (tabOf W) 45 := by
    after_reads_simp; exact bandRow_eq W 45 18 rfl slices_S16x639_S16x576_0_18
  have p14 : StableHlo.upto hostLine W 135 (Proc.devRef .tc main_v115) = bandRow (tabOf W) 46 := by
    after_reads_simp; exact bandRow_eq W 46 17 rfl slices_S16x639_S16x576_0_17
  have p15 : StableHlo.upto hostLine W 135 (Proc.devRef .tc main_v116) = bandRow (tabOf W) 47 := by
    after_reads_simp; exact bandRow_eq W 47 16 rfl slices_S16x639_S16x576_0_16
  after_reads_simp
  refine StableHlo.concatenate_congr _ _ ?_ _ _
  exact cons_eq p0 (cons_eq p1 (cons_eq p2 (cons_eq p3 (cons_eq p4 (cons_eq p5 (cons_eq p6 (cons_eq p7 (cons_eq p8 (cons_eq p9 (cons_eq p10 (cons_eq p11 (cons_eq p12 (cons_eq p13 (cons_eq p14 (cons_eq p15 (rfl))))))))))))))))

set_option maxHeartbeats 4000000 in
/-- The fourth sixteen rows. -/
theorem rows3_eq : StableHlo.upto hostLine W 137 (Proc.devRef .tc main_v136) = bandRows (tabOf W) 48 := by
  have p0 : StableHlo.upto hostLine W 136 (Proc.devRef .tc main_v117) = bandRow (tabOf W) 48 := by
    after_reads_simp; exact bandRow_eq W 48 15 rfl slices_S16x639_S16x576_0_15
  have p1 : StableHlo.upto hostLine W 136 (Proc.devRef .tc main_v118) = bandRow (tabOf W) 49 := by
    after_reads_simp; exact bandRow_eq W 49 14 rfl slices_S16x639_S16x576_0_14
  have p2 : StableHlo.upto hostLine W 136 (Proc.devRef .tc main_v119) = bandRow (tabOf W) 50 := by
    after_reads_simp; exact bandRow_eq W 50 13 rfl slices_S16x639_S16x576_0_13
  have p3 : StableHlo.upto hostLine W 136 (Proc.devRef .tc main_v120) = bandRow (tabOf W) 51 := by
    after_reads_simp; exact bandRow_eq W 51 12 rfl slices_S16x639_S16x576_0_12
  have p4 : StableHlo.upto hostLine W 136 (Proc.devRef .tc main_v121) = bandRow (tabOf W) 52 := by
    after_reads_simp; exact bandRow_eq W 52 11 rfl slices_S16x639_S16x576_0_11
  have p5 : StableHlo.upto hostLine W 136 (Proc.devRef .tc main_v122) = bandRow (tabOf W) 53 := by
    after_reads_simp; exact bandRow_eq W 53 10 rfl slices_S16x639_S16x576_0_10
  have p6 : StableHlo.upto hostLine W 136 (Proc.devRef .tc main_v123) = bandRow (tabOf W) 54 := by
    after_reads_simp; exact bandRow_eq W 54 9 rfl slices_S16x639_S16x576_0_9
  have p7 : StableHlo.upto hostLine W 136 (Proc.devRef .tc main_v124) = bandRow (tabOf W) 55 := by
    after_reads_simp; exact bandRow_eq W 55 8 rfl slices_S16x639_S16x576_0_8
  have p8 : StableHlo.upto hostLine W 136 (Proc.devRef .tc main_v125) = bandRow (tabOf W) 56 := by
    after_reads_simp; exact bandRow_eq W 56 7 rfl slices_S16x639_S16x576_0_7
  have p9 : StableHlo.upto hostLine W 136 (Proc.devRef .tc main_v126) = bandRow (tabOf W) 57 := by
    after_reads_simp; exact bandRow_eq W 57 6 rfl slices_S16x639_S16x576_0_6
  have p10 : StableHlo.upto hostLine W 136 (Proc.devRef .tc main_v127) = bandRow (tabOf W) 58 := by
    after_reads_simp; exact bandRow_eq W 58 5 rfl slices_S16x639_S16x576_0_5
  have p11 : StableHlo.upto hostLine W 136 (Proc.devRef .tc main_v128) = bandRow (tabOf W) 59 := by
    after_reads_simp; exact bandRow_eq W 59 4 rfl slices_S16x639_S16x576_0_4
  have p12 : StableHlo.upto hostLine W 136 (Proc.devRef .tc main_v129) = bandRow (tabOf W) 60 := by
    after_reads_simp; exact bandRow_eq W 60 3 rfl slices_S16x639_S16x576_0_3
  have p13 : StableHlo.upto hostLine W 136 (Proc.devRef .tc main_v130) = bandRow (tabOf W) 61 := by
    after_reads_simp; exact bandRow_eq W 61 2 rfl slices_S16x639_S16x576_0_2
  have p14 : StableHlo.upto hostLine W 136 (Proc.devRef .tc main_v131) = bandRow (tabOf W) 62 := by
    after_reads_simp; exact bandRow_eq W 62 1 rfl slices_S16x639_S16x576_0_1
  have p15 : StableHlo.upto hostLine W 136 (Proc.devRef .tc main_v132) = bandRow (tabOf W) 63 := by
    after_reads_simp; exact bandRow_eq W 63 0 rfl slices_S16x639_S16x576_0_0
  after_reads_simp
  refine StableHlo.concatenate_congr _ _ ?_ _ _
  exact cons_eq p0 (cons_eq p1 (cons_eq p2 (cons_eq p3 (cons_eq p4 (cons_eq p5 (cons_eq p6 (cons_eq p7 (cons_eq p8 (cons_eq p9 (cons_eq p10 (cons_eq p11 (cons_eq p12 (cons_eq p13 (cons_eq p14 (cons_eq p15 (rfl))))))))))))))))

end Cert.KernelIdeal.Gen

end
-- ==== Proof.Band.lean ====
module

public import proofs.«01_k».proof.Proof.Bias

/-! # The band read at an index

Four copies of the 64 rows of `Bias`, set one below the other, each 64 key rows further on, in a block of minus infinities. -/

@[expose] public section

noncomputable section

namespace Cert.KernelIdeal.Gen

open Idealize.ShloMosaic Cert.AttnGrad

/-- Sixteen rows read at an index. -/
theorem bandRows_read (tab : AttnGrad.Table) (p : ℕ) (h : Fin 16) (n : Fin 16) (x : Fin 576) :
    bandRows tab p (ix3 h n x) = tab (ix2 h (relFin (p + n.val) x.val)) := by
  refine (concatenate_ofFn_apply (t := S16x16x576) (s₁ := S16x1x576) (1 : Fin 3) (fun n : Fin 16 => bandRow tab (p + n.val))
    concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1
    rfl 1 rfl (ix3 h n x) n (Nat.div_one _) (ix3 h 0 x) (Nat.mod_one _).symm fun b hb => ?_).trans rfl
  match b with
  | ⟨0, _⟩ => rfl
  | ⟨1, _⟩ => exact (hb rfl).elim
  | ⟨2, _⟩ => rfl

/-- The sixty-four rows. -/
def bandSlab (tab : AttnGrad.Table) : S16x64x576.Idx → EReal :=
  concatenate S16x64x576 1 [⟨S16x16x576, bandRows tab 0⟩, ⟨S16x16x576, bandRows tab 16⟩, ⟨S16x16x576, bandRows tab 32⟩, ⟨S16x16x576, bandRows tab 48⟩]
    concatenates_S16x16x576_S16x16x576_S16x16x576_S16x16x576_S16x64x576_d1

/-- The sixty-four rows read at an index. -/
theorem bandSlab_read (tab : AttnGrad.Table) (h : Fin 16) (n : Fin 64) (x : Fin 576) :
    bandSlab tab (ix3 h n x) = tab (ix2 h (relFin n.val x.val)) := by
  refine (concatenate_ofFn_apply (t := S16x64x576) (s₁ := S16x16x576) (1 : Fin 3) (fun p : Fin 4 => bandRows tab (16 * p.val))
    concatenates_S16x16x576_S16x16x576_S16x16x576_S16x16x576_S16x64x576_d1
    rfl 16 rfl (ix3 h n x) ⟨n.val / 16, by omega⟩ rfl (ix3 h ⟨n.val % 16, by omega⟩ x) rfl fun b hb => ?_).trans ?_
  · match b with
    | ⟨0, _⟩ => rfl
    | ⟨1, _⟩ => exact (hb rfl).elim
    | ⟨2, _⟩ => rfl
  · refine (bandRows_read tab _ h _ x).trans ?_
    show tab (ix2 h (relFin (16 * (n.val / 16) + n.val % 16) x.val)) = _
    rw [Nat.div_add_mod]

/-- Where an element of the rows is set: `k` rows and `k` key rows further on. -/
theorem lands_band (w : BitVec 32) (k : ℕ) (hw : w.toInt = k) (j : S16x64x576.Idx) (h : Fin 16) (r : Fin 256) (c : Fin 768) :
    scatter_S16x256x768_S2_S16x64x576_012_n_12_0.resultIdx? j (fun _ : S2.Idx => w) = some (ix3 h r c)
      ↔ (j 0).val = h.val ∧ k + (j 1).val = r.val ∧ k + (j 2).val = c.val := by
  rw [Routing.resultIdx?_eq_some]
  have s0 : scatter_S16x256x768_S2_S16x64x576_012_n_12_0.start j (fun _ : S2.Idx => w) (0 : Fin 3) = 0 :=
    dif_neg (show ¬ (0 : Fin 3) ∈ scatter_S16x256x768_S2_S16x64x576_012_n_12_0.scatterDimsToOperandDims by decide)
  have s1 : scatter_S16x256x768_S2_S16x64x576_012_n_12_0.start j (fun _ : S2.Idx => w) (1 : Fin 3) = k :=
    (dif_pos (show (1 : Fin 3) ∈ scatter_S16x256x768_S2_S16x64x576_012_n_12_0.scatterDimsToOperandDims by decide)).trans hw
  have s2 : scatter_S16x256x768_S2_S16x64x576_012_n_12_0.start j (fun _ : S2.Idx => w) (2 : Fin 3) = k :=
    (dif_pos (show (2 : Fin 3) ∈ scatter_S16x256x768_S2_S16x64x576_012_n_12_0.scatterDimsToOperandDims by decide)).trans hw
  have w0 : scatter_S16x256x768_S2_S16x64x576_012_n_12_0.window j (0 : Fin 3) = (j 0).val :=
    (dif_pos (show (0 : Fin 3) ∈ scatter_S16x256x768_S2_S16x64x576_012_n_12_0.sKept by decide)).trans rfl
  have w1 : scatter_S16x256x768_S2_S16x64x576_012_n_12_0.window j (1 : Fin 3) = (j 1).val :=
    (dif_pos (show (1 : Fin 3) ∈ scatter_S16x256x768_S2_S16x64x576_012_n_12_0.sKept by decide)).trans rfl
  have w2 : scatter_S16x256x768_S2_S16x64x576_012_n_12_0.window j (2 : Fin 3) = (j 2).val :=
    (dif_pos (show (2 : Fin 3) ∈ scatter_S16x256x768_S2_S16x64x576_012_n_12_0.sKept by decide)).trans rfl
  constructor
  · intro q
    have q0 := q (0 : Fin 3); have q1 := q (1 : Fin 3); have q2 := q (2 : Fin 3)
    rw [s0, w0] at q0; rw [s1, w1] at q1; rw [s2, w2] at q2
    have e0 : (0 : Int) + ((j 0).val : Int) = h.val := q0
    have e1 : (k : Int) + ((j 1).val : Int) = r.val := q1
    have e2 : (k : Int) + ((j 2).val : Int) = c.val := q2
    omega
  · rintro ⟨e0, e1, e2⟩ a
    match a with
    | ⟨0, _⟩ => exact (congrArg₂ (fun (x : Int) (y : ℕ) => x + (y : Int)) s0 w0).trans (show (0 : Int) + ((j 0).val : Int) = h.val by omega)
    | ⟨1, _⟩ => exact (congrArg₂ (fun (x : Int) (y : ℕ) => x + (y : Int)) s1 w1).trans (show (k : Int) + ((j 1).val : Int) = r.val by omega)
    | ⟨2, _⟩ => exact (congrArg₂ (fun (x : Int) (y : ℕ) => x + (y : Int)) s2 w2).trans (show (k : Int) + ((j 2).val : Int) = c.val by omega)

/-- One copy set in a block, read at an index. -/
theorem set_read (x0 : S16x256x768.Idx → EReal) (upd : S16x64x576.Idx → EReal) (w : BitVec 32) (k : ℕ) (hw : w.toInt = k)
    (h : Fin 16) (r : Fin 256) (c : Fin 768) :
    Host.scatter scatter_S16x256x768_S2_S16x64x576_012_n_12_0 (fun _ b => b) x0 (fun _ : S2.Idx => w) upd (ix3 h r c)
      = if hin : (k ≤ r.val ∧ r.val < k + 64) ∧ k ≤ c.val ∧ c.val < k + 576 then upd (ix3 h ⟨r.val - k, by omega⟩ ⟨c.val - k, by omega⟩)
        else x0 (ix3 h r c) := by
  split
  · next hin =>
    refine Routing.scatter_set_hit _ x0 _ upd _ _ (fun j hj => ?_) (ix3 h ⟨r.val - k, by omega⟩ ⟨c.val - k, by omega⟩) ?_
    · have hl := (lands_band w k hw j h r c).1 hj
      refine congrArg upd (funext fun a => Fin.ext ?_)
      match a with
      | ⟨0, _⟩ => exact hl.1
      | ⟨1, _⟩ => exact (show (j 1).val = r.val - k by omega)
      | ⟨2, _⟩ => exact (show (j 2).val = c.val - k by omega)
    · exact (lands_band w k hw _ h r c).2 ⟨rfl, by show k + (r.val - k) = r.val; omega, by show k + (c.val - k) = c.val; omega⟩
  · next hin =>
    refine Routing.scatter_set_miss _ x0 _ upd _ fun j hj => hin ?_
    have hl := (lands_band w k hw j h r c).1 hj
    have b1 : (j 1).val < 64 := (j 1).isLt
    have b2 : (j 2).val < 576 := (j 2).isLt
    omega

/-- The four copies. -/
def bandBlock (tab : AttnGrad.Table) : S16x256x768.Idx → EReal :=
  let D := scatter_S16x256x768_S2_S16x64x576_012_n_12_0
  Host.scatter D (fun _ b => b) (Host.scatter D (fun _ b => b) (Host.scatter D (fun _ b => b) (Host.scatter D (fun _ b => b) (fun _ => ⊥)
    (fun _ : S2.Idx => 0#32) (bandSlab tab)) (fun _ : S2.Idx => 64#32) (bandSlab tab)) (fun _ : S2.Idx => 128#32) (bandSlab tab))
    (fun _ : S2.Idx => 192#32) (bandSlab tab)

/-- A row of the block sees 576 key rows from its chunk's first row on. -/
theorem bandBlock_read (tab : AttnGrad.Table) (h : Fin 16) (r : Fin 256) (c : Fin 768) :
    bandBlock tab (ix3 h r c)
      = if 64 * (r.val / 64) ≤ c.val ∧ c.val < 64 * (r.val / 64) + 576 then tab (ix2 h (relFin r.val c.val)) else ⊥ := by
  have hv : ∀ (k : ℕ) (hk : (k ≤ r.val ∧ r.val < k + 64) ∧ k ≤ c.val ∧ c.val < k + 576),
      bandSlab tab (ix3 h ⟨r.val - k, by omega⟩ ⟨c.val - k, by omega⟩) = tab (ix2 h (relFin r.val c.val)) := by
    intro k hk
    refine (bandSlab_read tab h _ _).trans (congrArg tab (congrArg (ix2 h) (Fin.ext ?_)))
    show min (r.val - k + 575 - (c.val - k)) 191 = min (r.val + 575 - c.val) 191
    omega
  unfold bandBlock
  rw [set_read _ _ 192#32 192 (by decide), set_read _ _ 128#32 128 (by decide), set_read _ _ 64#32 64 (by decide), set_read _ _ 0#32 0 (by decide)]
  split
  · next h1 => rw [hv 192 h1, if_pos (by omega)]
  split
  · next h1 => rw [hv 128 h1, if_pos (by omega)]
  split
  · next h1 => rw [hv 64 h1, if_pos (by omega)]
  split
  · next h1 => rw [hv 0 h1, if_pos (by omega)]
  · rw [if_neg (by omega)]

variable (W : Valuation τ sig (Elt Ideal))

/-- Two equal words side by side. -/
theorem start_eq (w : BitVec 32) : concatenate S2 0 [⟨S1, fun _ => w⟩, ⟨S1, fun _ => w⟩] concatenates_S1_S1_S2_d0 = fun _ : S2.Idx => w := by
  funext j
  obtain ⟨x, rfl⟩ : ∃ x : Fin 2, j = ix1 x := ⟨j 0, eq_ix1 j⟩
  pointwise []
  split <;> rfl

theorem start_words (w : BitVec 32) (a b : S1.Idx → BitVec 32) (ha : (fun _ => w) = a) (hb : (fun _ => w) = b) :
    (fun _ : S2.Idx => w) = concatenate S2 0 [⟨S1, a⟩, ⟨S1, b⟩] concatenates_S1_S1_S2_d0 := by
  subst ha; subst hb; exact (start_eq w).symm

set_option maxHeartbeats 4000000 in
/-- The block as the host leaves it. -/
theorem band_eq : StableHlo.after hostLine W (Proc.devRef .tc main_v154) = bandBlock (tabOf W) := by
  have c0 : (fun _ : S1.Idx => 0#32) = StableHlo.upto hostLine W 144 (Proc.devRef .tc main_v139) := by after_reads_simp; rfl
  have c1 : (fun _ : S1.Idx => 0#32) = StableHlo.upto hostLine W 144 (Proc.devRef .tc main_v140) := by after_reads_simp; rfl
  have c2 : (fun _ : S1.Idx => 64#32) = StableHlo.upto hostLine W 150 (Proc.devRef .tc main_v143) := by after_reads_simp; rfl
  have c3 : (fun _ : S1.Idx => 64#32) = StableHlo.upto hostLine W 150 (Proc.devRef .tc main_v144) := by after_reads_simp; rfl
  have c4 : (fun _ : S1.Idx => 128#32) = StableHlo.upto hostLine W 156 (Proc.devRef .tc main_v147) := by after_reads_simp; rfl
  have c5 : (fun _ : S1.Idx => 128#32) = StableHlo.upto hostLine W 156 (Proc.devRef .tc main_v148) := by after_reads_simp; rfl
  have c6 : (fun _ : S1.Idx => 192#32) = StableHlo.upto hostLine W 162 (Proc.devRef .tc main_v151) := by after_reads_simp; rfl
  have c7 : (fun _ : S1.Idx => 192#32) = StableHlo.upto hostLine W 162 (Proc.devRef .tc main_v152) := by after_reads_simp; rfl
  have hs : bandSlab (tabOf W) = concatenate S16x64x576 1 [⟨S16x16x576, StableHlo.upto hostLine W 137 (Proc.devRef .tc main_v133)⟩,
      ⟨S16x16x576, StableHlo.upto hostLine W 137 (Proc.devRef .tc main_v134)⟩, ⟨S16x16x576, StableHlo.upto hostLine W 137 (Proc.devRef .tc main_v135)⟩,
      ⟨S16x16x576, StableHlo.upto hostLine W 137 (Proc.devRef .tc main_v136)⟩]
      concatenates_S16x16x576_S16x16x576_S16x16x576_S16x16x576_S16x64x576_d1 :=
    StableHlo.concatenate_congr _ _ (cons_eq (rows0_eq W).symm (cons_eq (rows1_eq W).symm (cons_eq (rows2_eq W).symm (cons_eq (rows3_eq W).symm rfl)))) _ _
  have hf : (fun _ => ⊥ : S16x256x768.Idx → EReal) = broadcastInDim S16x256x768 ![] bcast_S_S16x256x768 (constant (F := Ideal) S_ .f32 0xFF800000#32) :=
    funext fun _ => ofBits_neg_inf.symm
  have s0 := start_words 0#32 _ _ c0 c1
  have s1 := start_words 64#32 _ _ c2 c3
  have s2 := start_words 128#32 _ _ c4 c5
  have s3 := start_words 192#32 _ _ c6 c7
  unfold bandBlock
  rw [hs, hf, s0, s1, s2, s3]
  after_reads_simp
  rfl

end Cert.KernelIdeal.Gen

end
-- ==== Proof.PointRead.lean ====
module

public import proofs.«01_k».proof.Proof.BlockRead
public import proofs.«01_k».proof.Proof.Band

/-! # One grid point's steps, read at an index over the extended reals -/

@[expose] public section

noncomputable section

namespace Cert.KernelIdeal.Gen

open Idealize.ShloMosaic Cert.AttnGrad
open scoped BigOperators

/-- The block of query rows that sub-block `s` of a grid point is. -/
def blockOf (i : grid0.Coords) (s : Fin 8) : Fin 32 := ⟨8 * (i 1).val + s.val, by
  have h : (i 1).val < 4 := (i 1).isLt
  omega⟩

/-- Row `r` of a block of queries, and row `c` of its window of keys. -/
def qRow (b : Fin 32) (r : Fin 256) : Fin 8192 := ⟨256 * b.val + r.val, by omega⟩
def kRow (b : Fin 32) (c : Fin 768) : Fin 8704 := ⟨256 * b.val + c.val, by omega⟩

/-- Row `r` of a grid point's queries. -/
def pRow (i : grid0.Coords) (r : Fin 2048) : Fin 8192 := ⟨(i 1).val * 2048 + r.val, by
  have h : (i 1).val < 4 := (i 1).isLt
  omega⟩

theorem kRow_injective (b : Fin 32) : Function.Injective (kRow b) := fun c c' e => by
  have e2 := congrArg Fin.val e
  unfold kRow at e2
  apply Fin.ext
  dsimp only at e2
  omega

/-- What a grid point's staged blocks hold: head `h`'s lanes of the arrays, and its slab of the bias block. -/
structure Staged (q : QueryArr) (k v : KeyArr) (tab : AttnGrad.Table) (o : QueryArr) (h : Fin 16) (i : grid0.Coords)
    (x0 : S2048x128.Idx → EReal) (x1 x2 : S8704x128.Idx → EReal) (x3 : S1x256x768.Idx → EReal) (x4 : S2048x128.Idx → EReal) : Prop where
  q : ∀ r d, x0 (ix2 r d) = q (ix2 (pRow i r) (lane h d))
  k : ∀ j d, x1 (ix2 j d) = k (ix2 j (lane h d))
  v : ∀ j d, x2 (ix2 j d) = v (ix2 j (lane h d))
  b : ∀ r c, x3 (ix3 0 r c) = bandBlock tab (ix3 h r c)
  o : ∀ r d, x4 (ix2 r d) = o (ix2 (pRow i r) (lane h d))

/-- Row `r` of sub-block `s` among the point's rows. -/
def sRow (s : Fin 8) (r : Fin 256) : Fin 2048 := ⟨256 * s.val + r.val, by omega⟩

theorem queryRows_read (s : Fin 8) (x : S2048x128.Idx → EReal) (r : Fin 256) (d : Fin 128) : queryRows s x (ix2 r d) = x (ix2 (sRow s r) d) := by
  refine congrArg x (funext fun a => Fin.ext ?_)
  match a with
  | ⟨0, _⟩ => show 256 * s.val + 1 * r.val = 256 * s.val + r.val; omega
  | ⟨1, _⟩ => show 0 + 1 * d.val = d.val; omega

theorem keyOff_zero (i : grid0.Coords) (s : Fin 8) : keyOff i s 0 = 256 * (blockOf i s).val := by
  have h : keyOff i s = _ := k0_off1_eq i s
  rw [h]
  show 2048 * (i 1).val + 256 * s.val = 256 * (8 * (i 1).val + s.val)
  omega

theorem keyOff_one (i : grid0.Coords) (s : Fin 8) : keyOff i s 1 = 0 := by
  have h : keyOff i s = _ := k0_off1_eq i s
  rw [h]
  rfl

theorem keyRows_read (i : grid0.Coords) (s : Fin 8) (x : S8704x128.Idx → EReal) (c : Fin 768) (d : Fin 128) :
    keyRows i s x (ix2 c d) = x (ix2 (kRow (blockOf i s) c) d) := by
  refine congrArg x (funext fun a => Fin.ext ?_)
  match a with
  | ⟨0, _⟩ =>
    show keyOff i s 0 + 1 * c.val = 256 * (blockOf i s).val + c.val
    rw [keyOff_zero]; omega
  | ⟨1, _⟩ =>
    show keyOff i s 1 + 1 * d.val = d.val
    rw [keyOff_one]; omega

theorem biasRows_read (x : S1x256x768.Idx → EReal) (r : Fin 256) (c : Fin 768) : biasRows x (ix3 0 r c) = x (ix3 0 r c) := by
  refine congrArg x (funext fun a => Fin.ext ?_)
  match a with
  | ⟨0, _⟩ => rfl
  | ⟨1, _⟩ => show 0 + 1 * r.val = r.val; omega
  | ⟨2, _⟩ => show 0 + 1 * c.val = c.val; omega

theorem pRow_sRow (i : grid0.Coords) (s : Fin 8) (r : Fin 256) : pRow i (sRow s r) = qRow (blockOf i s) r := by
  apply Fin.ext
  show (i 1).val * 2048 + (256 * s.val + r.val) = 256 * (8 * (i 1).val + s.val) + r.val
  omega

/-- A key a row sees lies in the window of the row's block. -/
theorem sees_window (b : Fin 32) (r : Fin 256) (j : Fin 8704) (hj : ∀ c, kRow b c ≠ j) : ¬ Sees (qRow b r).val j.val := by
  intro hs
  unfold Sees qRow at hs
  dsimp only at hs
  have h1 : 256 * b.val ≤ j.val := by omega
  have h2 : j.val < 256 * b.val + 768 := by omega
  refine hj ⟨j.val - 256 * b.val, by omega⟩ (Fin.ext ?_)
  show 256 * b.val + (j.val - 256 * b.val) = j.val
  omega

variable {q : QueryArr} {k v : KeyArr} {tab : AttnGrad.Table} {o : QueryArr} {h : Fin 16} {i : grid0.Coords}
  {x0 : S2048x128.Idx → EReal} {x1 x2 : S8704x128.Idx → EReal} {x3 : S1x256x768.Idx → EReal} {x4 : S2048x128.Idx → EReal}

theorem startWord_block (i : grid0.Coords) (s : Fin 8) : startWord i s = BitVec.ofNat 32 (256 * (blockOf i s).val) := by
  rw [startWord_eq]
  refine congrArg (BitVec.ofNat 32) ?_
  show 2048 * (i 1).val + 256 * s.val = 256 * (8 * (i 1).val + s.val)
  omega

/-- A block's scores are the rows' scores at the window's keys. -/
theorem blockScore_eq (st : Staged q k v tab o h i x0 x1 x2 x3 x4) (s : Fin 8) (r : Fin 256) (c : Fin 768) :
    blockScore (256 * (blockOf i s).val) (queryRows s x0) (keyRows i s x1) (biasRows x3) r c
      = score q k tab h (qRow (blockOf i s) r) (kRow (blockOf i s) c) := by
  unfold blockScore score
  rw [biasRows_read, st.b, bandBlock_read]
  have hdot : (∑ d, queryRows s x0 (ix2 r d) * keyRows i s x1 (ix2 c d))
      = ∑ d, q (ix2 (qRow (blockOf i s) r) (lane h d)) * k (ix2 (kRow (blockOf i s) c) (lane h d)) :=
    Finset.sum_congr rfl fun d _ => by rw [queryRows_read, keyRows_read, st.q, st.k, pRow_sRow]
  rw [hdot]
  have hcol : relFin r.val c.val = relFin (qRow (blockOf i s) r).val (kRow (blockOf i s) c).val := by
    apply Fin.ext
    unfold relFin relCol qRow kRow
    dsimp only
    omega
  have hsee : Sees (qRow (blockOf i s) r).val (kRow (blockOf i s) c).val
      ↔ 512 ≤ 256 * (blockOf i s).val + c.val ∧ (64 * (r.val / 64) ≤ c.val ∧ c.val < 64 * (r.val / 64) + 576) := by
    unfold Sees qRow kRow
    dsimp only
    omega
  rw [hcol]
  by_cases h1 : 512 ≤ 256 * (blockOf i s).val + c.val
  · rw [if_pos h1]
    by_cases h2 : 64 * (r.val / 64) ≤ c.val ∧ c.val < 64 * (r.val / 64) + 576
    · rw [if_pos h2, if_pos (hsee.mpr ⟨h1, h2⟩)]
    · rw [if_neg h2, if_neg fun e => h2 (hsee.mp e).2, EReal.add_bot]
  · rw [if_neg h1, if_neg fun e => h1 (hsee.mp e).1]

/-- A block's probabilities are the rows' probabilities at the window's keys. -/
theorem probsAt_read (st : Staged q k v tab o h i x0 x1 x2 x3 x4) (s : Fin 8) (r : Fin 256) (c : Fin 768) :
    probsAt (F := Ideal) i s x0 x1 x3 (ix2 r c) = rowProb (fun c => score q k tab h (qRow (blockOf i s) r) (kRow (blockOf i s) c)) c := by
  unfold probsAt
  rw [startWord_block]
  refine (probs_read _ (by have := (blockOf i s).isLt; omega) _ _ _ r c).trans ?_
  rw [funext (blockScore_eq st s r)]

theorem blockGrad_eq (st : Staged q k v tab o h i x0 x1 x2 x3 x4) (s : Fin 8) (r : Fin 256) (c : Fin 768) :
    blockGrad (queryRows s x4) (keyRows i s x2) r c = probGrad v o h (qRow (blockOf i s) r) (kRow (blockOf i s) c) := by
  unfold blockGrad probGrad
  exact Finset.sum_congr rfl fun d _ => by rw [queryRows_read, keyRows_read, st.o, st.v, pRow_sRow]

/-- A block's score gradient is the rows' at the window's keys. -/
theorem ds_block (hq : Finite q) (hk : Finite k) (ht : Finite tab) (st : Staged q k v tab o h i x0 x1 x2 x3 x4) (s : Fin 8) (r : Fin 256) (c : Fin 768) :
    scoreGrad (fun c => score q k tab h (qRow (blockOf i s) r) (kRow (blockOf i s) c)) (blockGrad (queryRows s x4) (keyRows i s x2) r) c
      = quotGrad (score q k tab h (qRow (blockOf i s) r)) (probGrad v o h (qRow (blockOf i s) r)) (kRow (blockOf i s) c) := by
  rw [funext (blockGrad_eq st s r)]
  exact scoreGrad_window (kRow_injective _) (score_good hq hk ht h _) (fun j hj => score_bot q k tab h _ j (sees_window _ r j hj)) _ c

/-- A block's query gradient is the rows'. -/
theorem dq_block (hq : Finite q) (hk : Finite k) (ht : Finite tab) (st : Staged q k v tab o h i x0 x1 x2 x3 x4) (s : Fin 8) (r : Fin 256) (d : Fin 128) :
    k0_pay8 (F := Ideal) (queryRows s x4) (keyRows i s x1) (keyRows i s x2) (probsAt i s x0 x1 x3) (ix2 r d)
      = gradQ q k v tab o h (qRow (blockOf i s) r) d := by
  refine (dq_read _ _ _ _ _ (probsAt_read st s) r d).trans ?_
  obtain ⟨u, hu, hu0⟩ := scale_real
  unfold gradQ
  rw [sum_window (kRow_injective (blockOf i s)) (fun j => scaledGrad q k v tab o h (qRow (blockOf i s) r) j * k (ix2 j (lane h d))) fun j hj => by
    unfold scaledGrad
    rw [quotGrad_bot _ (score_bot q k tab h _ j (sees_window _ r j hj)), zero_mul, zero_mul]]
  rw [hu, sum_mul_coe hu0]
  refine Finset.sum_congr rfl fun c _ => ?_
  rw [ds_block hq hk ht st, keyRows_read, st.k]
  unfold scaledGrad
  rw [hu]
  exact mul_right_comm _ _ _

/-- A block's share of the key gradient at any key row. -/
def dkShare (q : QueryArr) (k v : KeyArr) (tab : AttnGrad.Table) (o : QueryArr) (h : Fin 16) (b : Fin 32) (j : Fin 8704) (d : Fin 128) : EReal :=
  ∑ r, scaledGrad q k v tab o h (qRow b r) j * q (ix2 (qRow b r) (lane h d))

/-- A block's share of the value gradient at any key row. -/
def dvShare (q : QueryArr) (k : KeyArr) (tab : AttnGrad.Table) (o : QueryArr) (h : Fin 16) (b : Fin 32) (j : Fin 8704) (d : Fin 128) : EReal :=
  ∑ r, o (ix2 (qRow b r) (lane h d)) * rowProb (score q k tab h (qRow b r)) j

theorem dk_block (hq : Finite q) (hk : Finite k) (ht : Finite tab) (st : Staged q k v tab o h i x0 x1 x2 x3 x4) (s : Fin 8) (x : KBlock) (c : Fin 768) (d : Fin 128) :
    k0_pay9 (F := Ideal) (queryRows s x0) (queryRows s x4) (keyRows i s x2) (probsAt i s x0 x1 x3) x (ix2 c d)
      = x (ix2 c d) + dkShare q k v tab o h (blockOf i s) (kRow (blockOf i s) c) d := by
  refine (dk_read _ _ _ _ _ (probsAt_read st s) x c d).trans ?_
  obtain ⟨u, hu, hu0⟩ := scale_real
  unfold dkShare
  rw [hu, sum_mul_coe hu0]
  refine congrArg (x (ix2 c d) + ·) (Finset.sum_congr rfl fun r _ => ?_)
  rw [ds_block hq hk ht st, queryRows_read, st.q, pRow_sRow]
  unfold scaledGrad
  rw [hu]
  exact mul_right_comm _ _ _

theorem dv_block (st : Staged q k v tab o h i x0 x1 x2 x3 x4) (s : Fin 8) (x : KBlock) (c : Fin 768) (d : Fin 128) :
    k0_pay10 (F := Ideal) (queryRows s x4) (probsAt i s x0 x1 x3) x (ix2 c d)
      = x (ix2 c d) + dvShare q k tab o h (blockOf i s) (kRow (blockOf i s) c) d := by
  refine (dv_read _ _ _ (probsAt_read st s) x c d).trans ?_
  unfold dvShare
  refine congrArg (x (ix2 c d) + ·) (Finset.sum_congr rfl fun r _ => ?_)
  rw [rowProb_window (kRow_injective _) (fun j hj => score_bot q k tab h _ j (sees_window _ r j hj)), queryRows_read, st.o, pRow_sRow]
  exact mul_comm _ _

/-- Outside a block's window its shares are zero. -/
theorem dkShare_out (b : Fin 32) (j : Fin 8704) (hj : ∀ c, kRow b c ≠ j) (d : Fin 128) : dkShare q k v tab o h b j d = 0 := by
  unfold dkShare
  refine Finset.sum_eq_zero fun r _ => ?_
  unfold scaledGrad
  rw [quotGrad_bot _ (score_bot q k tab h _ j (sees_window _ r j hj)), zero_mul, zero_mul]

theorem dvShare_out (hq : Finite q) (hk : Finite k) (ht : Finite tab) (b : Fin 32) (j : Fin 8704) (hj : ∀ c, kRow b c ≠ j) (d : Fin 128) :
    dvShare q k tab o h b j d = 0 := by
  unfold dvShare
  refine Finset.sum_eq_zero fun r _ => ?_
  rw [rowProb_bot (score_good hq hk ht h _) (score_bot q k tab h _ j (sees_window _ r j hj)), mul_zero]

/-- A value put over a window of key rows, read at a row of the window … -/
theorem putKeys_in (i : grid0.Coords) (s : Fin 8) (x : S8704x128.Idx → EReal) (w : KBlock) (c : Fin 768) (d : Fin 128) :
    VecWindow.put x (keyOff i s) S768x128.size w (ix2 (kRow (blockOf i s) c) d) = w (ix2 c d) := by
  have h0 := keyOff_zero i s
  have h1 := keyOff_one i s
  have hin : ∀ a, keyOff i s a ≤ ((ix2 (kRow (blockOf i s) c) d) a).val ∧ ((ix2 (kRow (blockOf i s) c) d) a).val < keyOff i s a + S768x128.size a := by
    intro a
    match a with
    | ⟨0, _⟩ =>
      show keyOff i s 0 ≤ 256 * (blockOf i s).val + c.val ∧ 256 * (blockOf i s).val + c.val < keyOff i s 0 + 768
      rw [h0]; omega
    | ⟨1, _⟩ =>
      show keyOff i s 1 ≤ d.val ∧ d.val < keyOff i s 1 + 128
      rw [h1]; omega
  unfold VecWindow.put
  rw [dif_pos hin]
  refine congrArg w (funext fun a => Fin.ext ?_)
  match a with
  | ⟨0, _⟩ =>
    show 256 * (blockOf i s).val + c.val - keyOff i s 0 = c.val
    rw [h0]; omega
  | ⟨1, _⟩ =>
    show d.val - keyOff i s 1 = d.val
    rw [h1]; omega

/-- … and at a row outside it. -/
theorem putKeys_out (i : grid0.Coords) (s : Fin 8) (x : S8704x128.Idx → EReal) (w : KBlock) (j : Fin 8704) (hj : ∀ c, kRow (blockOf i s) c ≠ j) (d : Fin 128) :
    VecWindow.put x (keyOff i s) S768x128.size w (ix2 j d) = x (ix2 j d) := by
  have h0 := keyOff_zero i s
  unfold VecWindow.put
  refine dif_neg fun hin => ?_
  have e : keyOff i s 0 ≤ j.val ∧ j.val < keyOff i s 0 + 768 := hin 0
  rw [h0] at e
  refine hj ⟨j.val - 256 * (blockOf i s).val, by omega⟩ (Fin.ext ?_)
  show 256 * (blockOf i s).val + (j.val - 256 * (blockOf i s).val) = j.val
  omega

/-- A step of the key gradient adds the block's share at every row. -/
theorem dkStep_read (hq : Finite q) (hk : Finite k) (ht : Finite tab) (st : Staged q k v tab o h i x0 x1 x2 x3 x4) (s : Fin 8)
    (x : S8704x128.Idx → EReal) (j : Fin 8704) (d : Fin 128) :
    dkStep (F := Ideal) i x0 x1 x2 x3 x4 x s (ix2 j d) = x (ix2 j d) + dkShare q k v tab o h (blockOf i s) j d := by
  unfold dkStep
  by_cases hj : ∃ c, kRow (blockOf i s) c = j
  · obtain ⟨c, rfl⟩ := hj
    refine (putKeys_in i s x _ c d).trans ?_
    refine (dk_block hq hk ht st s (keyRows i s x) c d).trans ?_
    rw [keyRows_read]
  · have hj' : ∀ c, kRow (blockOf i s) c ≠ j := fun c e => hj ⟨c, e⟩
    refine (putKeys_out i s x _ j hj' d).trans ?_
    rw [dkShare_out _ j hj', add_zero]

/-- A step of the value gradient adds the block's share at every row. -/
theorem dvStep_read (hq : Finite q) (hk : Finite k) (ht : Finite tab) (st : Staged q k v tab o h i x0 x1 x2 x3 x4) (s : Fin 8)
    (x : S8704x128.Idx → EReal) (j : Fin 8704) (d : Fin 128) :
    dvStep (F := Ideal) i x0 x1 x3 x4 x s (ix2 j d) = x (ix2 j d) + dvShare q k tab o h (blockOf i s) j d := by
  unfold dvStep
  by_cases hj : ∃ c, kRow (blockOf i s) c = j
  · obtain ⟨c, rfl⟩ := hj
    refine (putKeys_in i s x _ c d).trans ?_
    refine (dv_block st s (keyRows i s x) c d).trans ?_
    rw [keyRows_read]
  · have hj' : ∀ c, kRow (blockOf i s) c ≠ j := fun c e => hj ⟨c, e⟩
    refine (putKeys_out i s x _ j hj' d).trans ?_
    rw [dvShare_out hq hk ht _ j hj', add_zero]

/-- A step of the query gradient sets the block's rows. -/
theorem dqStep_read (hq : Finite q) (hk : Finite k) (ht : Finite tab) (st : Staged q k v tab o h i x0 x1 x2 x3 x4) (s : Fin 8)
    (x : S2048x128.Idx → EReal) (r : Fin 2048) (d : Fin 128) :
    dqStep (F := Ideal) i x0 x1 x2 x3 x4 x s (ix2 r d) = if r.val / 256 = s.val then gradQ q k v tab o h (pRow i r) d else x (ix2 r d) := by
  unfold dqStep
  by_cases hr : r.val / 256 = s.val
  · rw [if_pos hr]
    obtain ⟨r', rfl⟩ : ∃ r', sRow s r' = r := ⟨⟨r.val % 256, by omega⟩, Fin.ext (by show 256 * s.val + r.val % 256 = r.val; omega)⟩
    rw [pRow_sRow, ← dq_block hq hk ht st s r' d]
    have hin : ∀ a, rowOff s a ≤ ((ix2 (sRow s r') d) a).val ∧ ((ix2 (sRow s r') d) a).val < rowOff s a + S256x128.size a := by
      intro a
      match a with
      | ⟨0, _⟩ => show 256 * s.val ≤ 256 * s.val + r'.val ∧ 256 * s.val + r'.val < 256 * s.val + 256; omega
      | ⟨1, _⟩ => show 0 ≤ d.val ∧ d.val < 0 + 128; omega
    unfold VecWindow.put
    refine (dif_pos hin).trans (congrArg (k0_pay8 (F := Ideal) (queryRows s x4) (keyRows i s x1) (keyRows i s x2) (probsAt i s x0 x1 x3)) (funext fun a => Fin.ext ?_))
    match a with
    | ⟨0, _⟩ => show 256 * s.val + r'.val - 256 * s.val = r'.val; omega
    | ⟨1, _⟩ => show d.val - 0 = d.val; omega
  · rw [if_neg hr]
    unfold VecWindow.put
    refine dif_neg fun hin => hr ?_
    have e : 256 * s.val ≤ r.val ∧ r.val < 256 * s.val + 256 := hin 0
    omega

/-- The eight steps of a point set every row of the query gradient. -/
theorem dq_point_read (hq : Finite q) (hk : Finite k) (ht : Finite tab) (st : Staged q k v tab o h i x0 x1 x2 x3 x4)
    (x : S2048x128.Idx → EReal) (r : Fin 2048) (d : Fin 128) :
    eight (dqStep (F := Ideal) i x0 x1 x2 x3 x4) x (ix2 r d) = gradQ q k v tab o h (pRow i r) d := by
  unfold eight
  rw [dqStep_read hq hk ht st, dqStep_read hq hk ht st, dqStep_read hq hk ht st, dqStep_read hq hk ht st,
    dqStep_read hq hk ht st, dqStep_read hq hk ht st, dqStep_read hq hk ht st, dqStep_read hq hk ht st]
  have hr := r.isLt
  repeat' (split; · rfl)
  rename_i h7 h6 h5 h4 h3 h2 h1 h0
  simp only [Fin.val_zero, Fin.val_one, Fin.val_two] at *
  change ¬ r.val / 256 = 7 at h7
  change ¬ r.val / 256 = 6 at h6
  change ¬ r.val / 256 = 5 at h5
  change ¬ r.val / 256 = 4 at h4
  change ¬ r.val / 256 = 3 at h3
  omega

/-- The eight steps of a point add the shares of its eight blocks to the key gradient … -/
theorem dk_point_read (hq : Finite q) (hk : Finite k) (ht : Finite tab) (st : Staged q k v tab o h i x0 x1 x2 x3 x4)
    (x : S8704x128.Idx → EReal) (j : Fin 8704) (d : Fin 128) :
    eight (dkStep (F := Ideal) i x0 x1 x2 x3 x4) x (ix2 j d) = x (ix2 j d) + ∑ s, dkShare q k v tab o h (blockOf i s) j d := by
  unfold eight
  rw [dkStep_read hq hk ht st, dkStep_read hq hk ht st, dkStep_read hq hk ht st, dkStep_read hq hk ht st,
    dkStep_read hq hk ht st, dkStep_read hq hk ht st, dkStep_read hq hk ht st, dkStep_read hq hk ht st, Fin.sum_univ_eight]
  simp only [add_assoc]

/-- … and to the value gradient. -/
theorem dv_point_read (hq : Finite q) (hk : Finite k) (ht : Finite tab) (st : Staged q k v tab o h i x0 x1 x2 x3 x4)
    (x : S8704x128.Idx → EReal) (j : Fin 8704) (d : Fin 128) :
    eight (dvStep (F := Ideal) i x0 x1 x3 x4) x (ix2 j d) = x (ix2 j d) + ∑ s, dvShare q k tab o h (blockOf i s) j d := by
  unfold eight
  rw [dvStep_read hq hk ht st, dvStep_read hq hk ht st, dvStep_read hq hk ht st, dvStep_read hq hk ht st,
    dvStep_read hq hk ht st, dvStep_read hq hk ht st, dvStep_read hq hk ht st, dvStep_read hq hk ht st, Fin.sum_univ_eight]
  simp only [add_assoc]

/-- The 32 blocks' shares make up the key gradient … -/
theorem sum_dkShare (j : Fin 8704) (d : Fin 128) : ∑ b, dkShare q k v tab o h b j d = gradK q k v tab o h j d := by
  unfold dkShare gradK
  rw [← Fintype.sum_prod_type']
  exact Fintype.sum_equiv (finProdFinEquiv (m := 32) (n := 256)) _ _ fun x => by
    have e : qRow x.1 x.2 = finProdFinEquiv (m := 32) (n := 256) x := Fin.ext (by
      show 256 * x.1.val + x.2.val = x.2.val + 256 * x.1.val
      omega)
    rw [e]

/-- … and the value gradient. -/
theorem sum_dvShare (j : Fin 8704) (d : Fin 128) : ∑ b, dvShare q k tab o h b j d = gradV q k tab o h j d := by
  unfold dvShare gradV
  rw [← Fintype.sum_prod_type']
  exact Fintype.sum_equiv (finProdFinEquiv (m := 32) (n := 256)) _ _ fun x => by
    have e : qRow x.1 x.2 = finProdFinEquiv (m := 32) (n := 256) x := Fin.ext (by
      show 256 * x.1.val + x.2.val = x.2.val + 256 * x.1.val
      omega)
    rw [e]

end Cert.KernelIdeal.Gen

end
-- ==== Proof.Value.lean ====
module

public import proofs.«01_k».proof.Proof.Run
public import proofs.«01_k».proof.Proof.PointRead
public import Idealize.ShloMosaic.Lib.Pipeline.ValueKit

/-! # The run's three result arrays, as sums -/

@[expose] public section

set_option maxRecDepth 16384

noncomputable section

namespace Cert.KernelIdeal.Gen

open Idealize.ShloMosaic Idealize.ShloMosaic.TcCoe Idealize.ShloMosaic.Tactic Cert.AttnGrad
open scoped BigOperators

variable (m : (ℓ : Loc nD τ sig) → Buf (Elt Ideal) ℓ)

/-- The argument arrays. -/
abbrev argQ (c : Dev nD) : QueryArr := m ((c.tc : Thread nD τ).loc main_arg0)
abbrev argK (c : Dev nD) : KeyArr := m ((c.tc : Thread nD τ).loc main_arg1)
abbrev argV (c : Dev nD) : KeyArr := m ((c.tc : Thread nD τ).loc main_arg2)
abbrev argT (c : Dev nD) : AttnGrad.Table := m ((c.tc : Thread nD τ).loc main_arg3)
abbrev argO (c : Dev nD) : QueryArr := m ((c.tc : Thread nD τ).loc main_arg4)

/-- The head of a grid point. -/
def headOf (t : Fin cfg0.N) : Fin 16 := ⟨t.val / 4, by have := Nat.lt_of_lt_of_eq t.isLt N_0; omega⟩

theorem coord0 (t : Fin grid0.N) : (grid0.coords t 0).val = t.val / 4 := by
  have h : (grid0.coords t 0).val = t.val / 4 % 16 := Pipeline.Grid.coords_val t 0 (by decide) rfl
  have := Nat.lt_of_lt_of_eq t.isLt N_0
  omega

theorem coord1 (t : Fin grid0.N) : (grid0.coords t 1).val = t.val % 4 := by
  have h : (grid0.coords t 1).val = t.val / 1 % 4 := Pipeline.Grid.coords_val t 1 (by decide) rfl
  omega

theorem index_q : ∀ t : Fin grid0.N, win0_0.index t = ![(grid0.coords t 1).val, (grid0.coords t 0).val] := by decide +kernel
theorem index_k : ∀ t : Fin grid0.N, win0_1.index t = ![0, (grid0.coords t 0).val] := by decide +kernel
theorem index_v : ∀ t : Fin grid0.N, win0_2.index t = ![0, (grid0.coords t 0).val] := by decide +kernel
theorem index_b : ∀ t : Fin grid0.N, win0_3.index t = ![(grid0.coords t 0).val, 0, 0] := by decide +kernel
theorem index_o : ∀ t : Fin grid0.N, win0_4.index t = ![(grid0.coords t 1).val, (grid0.coords t 0).val] := by decide +kernel
theorem index_dq : ∀ t : Fin grid0.N, win0_5.index t = ![(grid0.coords t 1).val, (grid0.coords t 0).val] := by decide +kernel
theorem index_dk : ∀ t : Fin grid0.N, win0_6.index t = ![0, (grid0.coords t 0).val] := by decide +kernel
theorem index_dv : ∀ t : Fin grid0.N, win0_7.index t = ![0, (grid0.coords t 0).val] := by decide +kernel

/-- The bias block the host leaves for the call. -/
theorem V_band (c : Dev nD) : V m c main_v154 = bandBlock (argT m c) := band_eq (fun b => m (c, b))

theorem read_q (c : Dev nD) (t : Fin cfg0.N) (r : Fin 2048) (d : Fin 128) :
    iblk m c 0 t (ix2 r d) = argQ m c (ix2 (pRow (grid0.coords t) r) (lane (headOf t) d)) := by
  show V m c main_arg0 _ = _
  rw [V_main_arg0]
  refine congrArg (argQ m c) (funext fun a => Fin.ext ?_)
  have h0 := coord0 t
  match a with
  | ⟨0, _⟩ => blk_simp [index_q]; rfl
  | ⟨1, _⟩ => blk_simp [index_q]; show (grid0.coords t 0).val * 128 + d.val = t.val / 4 * 128 + d.val; rw [h0]

theorem read_o (c : Dev nD) (t : Fin cfg0.N) (r : Fin 2048) (d : Fin 128) :
    iblk m c 4 t (ix2 r d) = argO m c (ix2 (pRow (grid0.coords t) r) (lane (headOf t) d)) := by
  show V m c main_arg4 _ = _
  rw [V_main_arg4]
  refine congrArg (argO m c) (funext fun a => Fin.ext ?_)
  have h0 := coord0 t
  match a with
  | ⟨0, _⟩ => blk_simp [index_o]; rfl
  | ⟨1, _⟩ => blk_simp [index_o]; show (grid0.coords t 0).val * 128 + d.val = t.val / 4 * 128 + d.val; rw [h0]

theorem read_k (c : Dev nD) (t : Fin cfg0.N) (j : Fin 8704) (d : Fin 128) :
    iblk m c 1 t (ix2 j d) = argK m c (ix2 j (lane (headOf t) d)) := by
  show V m c main_arg1 _ = _
  rw [V_main_arg1]
  refine congrArg (argK m c) (funext fun a => Fin.ext ?_)
  have h0 := coord0 t
  match a with
  | ⟨0, _⟩ => blk_simp [index_k]
  | ⟨1, _⟩ => blk_simp [index_k]; show (grid0.coords t 0).val * 128 + d.val = t.val / 4 * 128 + d.val; rw [h0]

theorem read_v (c : Dev nD) (t : Fin cfg0.N) (j : Fin 8704) (d : Fin 128) :
    iblk m c 2 t (ix2 j d) = argV m c (ix2 j (lane (headOf t) d)) := by
  show V m c main_arg2 _ = _
  rw [V_main_arg2]
  refine congrArg (argV m c) (funext fun a => Fin.ext ?_)
  have h0 := coord0 t
  match a with
  | ⟨0, _⟩ => blk_simp [index_v]
  | ⟨1, _⟩ => blk_simp [index_v]; show (grid0.coords t 0).val * 128 + d.val = t.val / 4 * 128 + d.val; rw [h0]

theorem read_b (c : Dev nD) (t : Fin cfg0.N) (r : Fin 256) (x : Fin 768) :
    iblk m c 3 t (ix3 0 r x) = bandBlock (argT m c) (ix3 (headOf t) r x) := by
  show V m c main_v154 _ = _
  rw [V_band]
  refine congrArg (bandBlock (argT m c)) (funext fun a => Fin.ext ?_)
  have h0 := coord0 t
  match a with
  | ⟨0, _⟩ => blk_simp [index_b]; show (grid0.coords t 0).val + 0 = t.val / 4; rw [h0]; omega
  | ⟨1, _⟩ => blk_simp [index_b]
  | ⟨2, _⟩ => blk_simp [index_b]

/-- What is staged at a point. -/
theorem staged (c : Dev nD) (t : Fin cfg0.N) : Staged (argQ m c) (argK m c) (argV m c) (argT m c) (argO m c) (headOf t) (grid0.coords t)
    (iblk m c 0 t) (iblk m c 1 t) (iblk m c 2 t) (iblk m c 3 t) (iblk m c 4 t) :=
  ⟨read_q m c t, read_k m c t, read_v m c t, read_b m c t, read_o m c t⟩

/-- A sum over the first blocks, given block by block. -/
def upTo (f : Fin 32 → EReal) (n : ℕ) : EReal := ∑ b ∈ Finset.range n, if h : b < 32 then f ⟨b, h⟩ else 0

theorem upTo_add (f : Fin 32 → EReal) (i : grid0.Coords) : upTo f (8 * (i 1).val + 8) = upTo f (8 * (i 1).val) + ∑ s, f (blockOf i s) := by
  have h4 : (i 1).val < 4 := (i 1).isLt
  unfold upTo
  rw [Finset.sum_range_add, Finset.sum_range (fun x => if h : 8 * (i 1).val + x < 32 then f ⟨8 * (i 1).val + x, h⟩ else 0)]
  refine congrArg (_ + ·) (Finset.sum_congr rfl fun s _ => ?_)
  rw [dif_pos (show 8 * (i 1).val + s.val < 32 by omega)]
  rfl

theorem upTo_all (f : Fin 32 → EReal) : upTo f 32 = ∑ b, f b := by
  unfold upTo
  rw [Finset.sum_range]
  exact Finset.sum_congr rfl fun b _ => dif_pos b.isLt

theorem dkAt_zero (c : Dev nD) (hn : 0 < cfg0.N) : dkAt m c 0 hn = eight (dkStep (grid0.coords ⟨0, hn⟩) (iblk m c 0 ⟨0, hn⟩) (iblk m c 1 ⟨0, hn⟩) (iblk m c 2 ⟨0, hn⟩) (iblk m c 3 ⟨0, hn⟩) (iblk m c 4 ⟨0, hn⟩)) (k0_pay1 (F := Ideal)) := rfl

theorem dkAt_succ (c : Dev nD) (n : ℕ) (hn : n + 1 < cfg0.N) : dkAt m c (n + 1) hn
    = eight (dkStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩))
      (if (n + 1) % 4 = 0 then (k0_pay1 (F := Ideal)) else dkAt m c n (Nat.lt_of_succ_lt hn)) := rfl

variable {m} in
/-- A point adds its eight blocks' shares to the key gradient. -/
theorem dk_at_point (c : Dev nD) (hq : Finite (argQ m c)) (hk : Finite (argK m c)) (ht : Finite (argT m c)) (t : Fin cfg0.N) (x : S8704x128.Idx → EReal)
    (j : Fin 8704) (d : Fin 128) (hx : x (ix2 j d) = upTo (fun b => dkShare (argQ m c) (argK m c) (argV m c) (argT m c) (argO m c) (headOf t) b j d) (8 * (t.val % 4))) :
    eight (dkStep (F := Ideal) (grid0.coords t) (iblk m c 0 t) (iblk m c 1 t) (iblk m c 2 t) (iblk m c 3 t) (iblk m c 4 t)) x (ix2 j d)
      = upTo (fun b => dkShare (argQ m c) (argK m c) (argV m c) (argT m c) (argO m c) (headOf t) b j d) (8 * (t.val % 4) + 8) := by
  rw [dk_point_read hq hk ht (staged m c t) x j d, hx, ← coord1 t, upTo_add]

variable {m} in
/-- The accumulated key gradient after a point. -/
theorem dkAt_read (c : Dev nD) (hq : Finite (argQ m c)) (hk : Finite (argK m c)) (ht : Finite (argT m c)) (j : Fin 8704) (d : Fin 128) (n : ℕ) :
    ∀ hn : n < cfg0.N, dkAt m c n hn (ix2 j d) = upTo (fun b => dkShare (argQ m c) (argK m c) (argV m c) (argT m c) (argO m c) (headOf ⟨n, hn⟩) b j d) (8 * (n % 4) + 8) := by
  induction n with
  | zero =>
    intro hn
    rw [dkAt_zero]
    exact dk_at_point c hq hk ht ⟨0, hn⟩ _ j d Ideal.ofBits_zero_f32
  | succ n ih =>
    intro hn
    rw [dkAt_succ]
    refine dk_at_point c hq hk ht ⟨n + 1, hn⟩ _ j d ?_
    dsimp only
    by_cases h0 : (n + 1) % 4 = 0
    · rw [if_pos h0, h0]
      exact Ideal.ofBits_zero_f32
    · rw [if_neg h0, ih]
      have e1 : headOf ⟨n, Nat.lt_of_succ_lt hn⟩ = headOf ⟨n + 1, hn⟩ := Fin.ext (by show n / 4 = (n + 1) / 4; omega)
      have e2 : 8 * (n % 4) + 8 = 8 * ((n + 1) % 4) := by omega
      rw [e1, e2]

theorem dvAt_zero (c : Dev nD) (hn : 0 < cfg0.N) : dvAt m c 0 hn = eight (dvStep (grid0.coords ⟨0, hn⟩) (iblk m c 0 ⟨0, hn⟩) (iblk m c 1 ⟨0, hn⟩) (iblk m c 3 ⟨0, hn⟩) (iblk m c 4 ⟨0, hn⟩)) (k0_pay2 (F := Ideal)) := rfl

theorem dvAt_succ (c : Dev nD) (n : ℕ) (hn : n + 1 < cfg0.N) : dvAt m c (n + 1) hn
    = eight (dvStep (grid0.coords ⟨n + 1, hn⟩) (iblk m c 0 ⟨n + 1, hn⟩) (iblk m c 1 ⟨n + 1, hn⟩) (iblk m c 3 ⟨n + 1, hn⟩) (iblk m c 4 ⟨n + 1, hn⟩))
      (if (n + 1) % 4 = 0 then k0_pay2 (F := Ideal) else dvAt m c n (Nat.lt_of_succ_lt hn)) := rfl

variable {m} in
/-- A point adds its eight blocks' shares to the value gradient. -/
theorem dv_at_point (c : Dev nD) (hq : Finite (argQ m c)) (hk : Finite (argK m c)) (ht : Finite (argT m c)) (t : Fin cfg0.N) (x : S8704x128.Idx → EReal)
    (j : Fin 8704) (d : Fin 128) (hx : x (ix2 j d) = upTo (fun b => dvShare (argQ m c) (argK m c) (argT m c) (argO m c) (headOf t) b j d) (8 * (t.val % 4))) :
    eight (dvStep (F := Ideal) (grid0.coords t) (iblk m c 0 t) (iblk m c 1 t) (iblk m c 3 t) (iblk m c 4 t)) x (ix2 j d)
      = upTo (fun b => dvShare (argQ m c) (argK m c) (argT m c) (argO m c) (headOf t) b j d) (8 * (t.val % 4) + 8) := by
  rw [dv_point_read hq hk ht (staged m c t) x j d, hx, ← coord1 t, upTo_add]

variable {m} in
/-- The accumulated value gradient after a point. -/
theorem dvAt_read (c : Dev nD) (hq : Finite (argQ m c)) (hk : Finite (argK m c)) (ht : Finite (argT m c)) (j : Fin 8704) (d : Fin 128) (n : ℕ) :
    ∀ hn : n < cfg0.N, dvAt m c n hn (ix2 j d) = upTo (fun b => dvShare (argQ m c) (argK m c) (argT m c) (argO m c) (headOf ⟨n, hn⟩) b j d) (8 * (n % 4) + 8) := by
  induction n with
  | zero =>
    intro hn
    rw [dvAt_zero]
    exact dv_at_point c hq hk ht ⟨0, hn⟩ _ j d Ideal.ofBits_zero_f32
  | succ n ih =>
    intro hn
    rw [dvAt_succ]
    refine dv_at_point c hq hk ht ⟨n + 1, hn⟩ _ j d ?_
    dsimp only
    by_cases h0 : (n + 1) % 4 = 0
    · rw [if_pos h0, h0]
      exact Ideal.ofBits_zero_f32
    · rw [if_neg h0, ih]
      have e1 : headOf ⟨n, Nat.lt_of_succ_lt hn⟩ = headOf ⟨n + 1, hn⟩ := Fin.ext (by show n / 4 = (n + 1) / 4; omega)
      have e2 : 8 * (n % 4) + 8 = 8 * ((n + 1) % 4) := by omega
      rw [e1, e2]

/-- The head and the lane of a column. -/
def headCol (x : Fin 2048) : Fin 16 := ⟨x.val / 128, by omega⟩
def laneCol (x : Fin 2048) : Fin 128 := ⟨x.val % 128, by omega⟩

/-- The three results. -/
def outQ (c : Dev nD) : QueryArr := fun y => gradQ (argQ m c) (argK m c) (argV m c) (argT m c) (argO m c) (headCol (y 1)) (y 0) (laneCol (y 1))
def outK (c : Dev nD) : KeyArr := fun y => gradK (argQ m c) (argK m c) (argV m c) (argT m c) (argO m c) (headCol (y 1)) (y 0) (laneCol (y 1))
def outV (c : Dev nD) : KeyArr := fun y => gradV (argQ m c) (argK m c) (argT m c) (argO m c) (headCol (y 1)) (y 0) (laneCol (y 1))

variable {m} in
/-- The query gradient's array after the run. -/
theorem arr_dq (c : Dev nD) (hq : Finite (argQ m c)) (hk : Finite (argK m c)) (ht : Finite (argT m c)) :
    (dats m 0 c).arrAt 5 cfg0.N = outQ m c := by
  refine (dats m 0 c).arrAt_eq_of_covers 5 _ (by decide +kernel) fun t hf y => ?_
  blk_simp
  rw [after0_5]
  obtain ⟨r, d, rfl⟩ : ∃ (r : Fin 2048) (d : Fin 128), y = ix2 r d := ⟨y 0, y 1, eq_ix2 y⟩
  refine (dq_point_read hq hk ht (staged m c t) _ r d).trans ?_
  unfold outQ
  have h0 := coord0 t
  have hd := d.isLt
  have e0 : (((cfg0.win 5).blk t).view.emb (ix2 r d)) 0 = pRow (grid0.coords t) r := Fin.ext (by blk_simp [index_dq]; rfl)
  have e1 : ((((cfg0.win 5).blk t).view.emb (ix2 r d)) 1).val = t.val / 4 * 128 + d.val := by
    blk_simp [index_dq]; show (grid0.coords t 0).val * 128 + d.val = t.val / 4 * 128 + d.val; rw [h0]
  have e2 : headCol ((((cfg0.win 5).blk t).view.emb (ix2 r d)) 1) = headOf t := Fin.ext (by unfold headCol headOf; dsimp only; rw [e1]; omega)
  have e3 : laneCol ((((cfg0.win 5).blk t).view.emb (ix2 r d)) 1) = d := Fin.ext (by unfold laneCol; dsimp only; rw [e1]; omega)
  rw [e0, e2, e3]

variable {m} in
/-- The key gradient's array after the run. -/
theorem arr_dk (c : Dev nD) (hq : Finite (argQ m c)) (hk : Finite (argK m c)) (ht : Finite (argT m c)) :
    (dats m 0 c).arrAt 6 cfg0.N = outK m c := by
  refine (dats m 0 c).arrAt_eq_of_covers 6 _ (by decide +kernel) fun t hf y => ?_
  have h3 : t.val % 4 = 3 := (flush0_6 t).mp hf
  blk_simp
  rw [after0_6]
  obtain ⟨j, d, rfl⟩ : ∃ (j : Fin 8704) (d : Fin 128), y = ix2 j d := ⟨y 0, y 1, eq_ix2 y⟩
  refine (dkAt_read c hq hk ht j d t.val t.isLt).trans ?_
  rw [h3]
  refine (upTo_all _).trans ((sum_dkShare j d).trans ?_)
  unfold outK
  have h0 := coord0 t
  have hd := d.isLt
  have e0 : (((cfg0.win 6).blk t).view.emb (ix2 j d)) 0 = j := Fin.ext (by blk_simp [index_dk])
  have e1 : ((((cfg0.win 6).blk t).view.emb (ix2 j d)) 1).val = t.val / 4 * 128 + d.val := by
    blk_simp [index_dk]; show (grid0.coords t 0).val * 128 + d.val = t.val / 4 * 128 + d.val; rw [h0]
  have e2 : headCol ((((cfg0.win 6).blk t).view.emb (ix2 j d)) 1) = headOf t := Fin.ext (by unfold headCol headOf; dsimp only; rw [e1]; omega)
  have e3 : laneCol ((((cfg0.win 6).blk t).view.emb (ix2 j d)) 1) = d := Fin.ext (by unfold laneCol; dsimp only; rw [e1]; omega)
  rw [e0, e2, e3]

variable {m} in
/-- The value gradient's array after the run. -/
theorem arr_dv (c : Dev nD) (hq : Finite (argQ m c)) (hk : Finite (argK m c)) (ht : Finite (argT m c)) :
    (dats m 0 c).arrAt 7 cfg0.N = outV m c := by
  refine (dats m 0 c).arrAt_eq_of_covers 7 _ (by decide +kernel) fun t hf y => ?_
  have h3 : t.val % 4 = 3 := (flush0_7 t).mp hf
  blk_simp
  rw [after0_7]
  obtain ⟨j, d, rfl⟩ : ∃ (j : Fin 8704) (d : Fin 128), y = ix2 j d := ⟨y 0, y 1, eq_ix2 y⟩
  refine (dvAt_read c hq hk ht j d t.val t.isLt).trans ?_
  rw [h3]
  refine (upTo_all _).trans ((sum_dvShare j d).trans ?_)
  unfold outV
  have h0 := coord0 t
  have hd := d.isLt
  have e0 : (((cfg0.win 7).blk t).view.emb (ix2 j d)) 0 = j := Fin.ext (by blk_simp [index_dv])
  have e1 : ((((cfg0.win 7).blk t).view.emb (ix2 j d)) 1).val = t.val / 4 * 128 + d.val := by
    blk_simp [index_dv]; show (grid0.coords t 0).val * 128 + d.val = t.val / 4 * 128 + d.val; rw [h0]
  have e2 : headCol ((((cfg0.win 7).blk t).view.emb (ix2 j d)) 1) = headOf t := Fin.ext (by unfold headCol headOf; dsimp only; rw [e1]; omega)
  have e3 : laneCol ((((cfg0.win 7).blk t).view.emb (ix2 j d)) 1) = d := Fin.ext (by unfold laneCol; dsimp only; rw [e1]; omega)
  rw [e0, e2, e3]

end Cert.KernelIdeal.Gen

end
-- ==== Proof.RefRead.lean ====
module

public import proofs.«01_k».proof.Proof.Model
public import proofs.«01_k».proof.Proof.Gen.ReferenceIdeal.Read
public import Idealize.ShloMosaic.Lib.Pointwise

/-! # The reference's gradients are the sums of the model -/

@[expose] public section

noncomputable section

namespace Cert.AttnGrad

open Idealize.ShloMosaic Cert.ReferenceIdeal Cert.ReferenceIdeal.Read Cert.ReferenceIdeal.Gen
open scoped BigOperators

/-- The chunk of a query row. -/
theorem ref_chunk (r : Fin 8192) (j : Fin 8704) : val_main_v21 (F := Ideal) (ix2 r j) = BitVec.ofNat 32 (r.val / 64) :=
  chunkWord r.val r.isLt

/-- The mask. -/
theorem ref_sees (r : Fin 8192) (j : Fin 8704) : val_main_v32 (F := Ideal) (ix2 r j) = BitVec.ofBool (decide (Sees r.val j.val)) := by
  rw [← seesWord r.val j.val r.isLt j.isLt, ← ref_chunk r j]
  rfl

/-- The word of the table's column. -/
theorem ref_col (r : Fin 8192) (j : Fin 8704) : (val_main_v18 (F := Ideal) (ix2 r j)).toInt.toNat = relCol r.val j.val :=
  relWord r.val j.val r.isLt j.isLt

/-- The products of queries and keys. -/
theorem ref_dot (q : QueryArr) (k : KeyArr) (h : Fin 16) (r : Fin 8192) (j : Fin 8704) :
    val_main_v33 (F := Ideal) q k (ix3 h r j) = ∑ d, q (ix2 r (lane h d)) * k (ix2 j (lane h d)) := by
  unfold val_main_v33 val_main_v3 val_main_v4 val_main_v0 val_main_v1
  pointwise []
  rfl

/-- The table read at the clipped relative position. -/
theorem ref_bias (tab : Table) (h : Fin 16) (r : Fin 8192) (j : Fin 8704) :
    val_main_v20 (F := Ideal) tab (ix3 h r j) = tab (ix2 h (relFin r.val j.val)) := by
  have hj : (val_main_v19 (F := Ideal) (ix3 r j 0)) = val_main_v18 (F := Ideal) (ix2 r j) := by
    unfold val_main_v19
    pointwise []
  unfold val_main_v20 Host.gather
  refine congrArg tab (funext fun a => Fin.ext ?_)
  have hc := ref_col r j
  rw [← hj] at hc
  have hl : relCol r.val j.val ≤ 191 := by unfold relCol; omega
  have hi : ∀ e : S8192x8704x1.Idx, (e 0).val = r.val → (e 1).val = j.val → (e 2).val = 0 →
      min (val_main_v19 (F := Ideal) e).toInt.toNat 191 = relCol r.val j.val := by
    intro e h0 h1 h2
    have : e = ix3 r j 0 := funext fun b => Fin.ext (by
      match b with
      | ⟨0, _⟩ => exact h0
      | ⟨1, _⟩ => exact h1
      | ⟨2, _⟩ => exact h2)
    rw [this, hc]; omega
  have hb : ∀ a, gather_S16x192_S8192x8704x1_S16x8192x8704_0_1_n_n_1_2_161.batchCoord (ix3 h r j) a = 0 := fun a => GatherDims.batchCoord_eq_zero _ _ _ List.not_mem_nil
  have hs0 : gather_S16x192_S8192x8704x1_S16x8192x8704_0_1_n_n_1_2_161.start (ix3 h r j) (val_main_v19 (F := Ideal)) (0 : Fin 2) = 0 :=
    dif_neg (show ¬ (0 : Fin 2) ∈ gather_S16x192_S8192x8704x1_S16x8192x8704_0_1_n_n_1_2_161.startIndexMap by decide)
  have hs1 : gather_S16x192_S8192x8704x1_S16x8192x8704_0_1_n_n_1_2_161.start (ix3 h r j) (val_main_v19 (F := Ideal)) (1 : Fin 2) = relCol r.val j.val :=
    (dif_pos (show (1 : Fin 2) ∈ gather_S16x192_S8192x8704x1_S16x8192x8704_0_1_n_n_1_2_161.startIndexMap by decide)).trans (hi _ rfl rfl rfl)
  have ho0 : gather_S16x192_S8192x8704x1_S16x8192x8704_0_1_n_n_1_2_161.offCoord (ix3 h r j) (0 : Fin 2) = h.val :=
    (dif_pos (show (0 : Fin 2) ∈ gather_S16x192_S8192x8704x1_S16x8192x8704_0_1_n_n_1_2_161.sKept by decide)).trans rfl
  have ho1 : gather_S16x192_S8192x8704x1_S16x8192x8704_0_1_n_n_1_2_161.offCoord (ix3 h r j) (1 : Fin 2) = 0 :=
    GatherDims.offCoord_eq_zero _ _ _ (show ¬ (1 : Fin 2) ∈ gather_S16x192_S8192x8704x1_S16x8192x8704_0_1_n_n_1_2_161.sKept by decide)
  have h0 : gather_S16x192_S8192x8704x1_S16x8192x8704_0_1_n_n_1_2_161.start (ix3 h r j) (val_main_v19 (F := Ideal)) (0 : Fin 2) + gather_S16x192_S8192x8704x1_S16x8192x8704_0_1_n_n_1_2_161.batchCoord (ix3 h r j) (0 : Fin 2)
      + gather_S16x192_S8192x8704x1_S16x8192x8704_0_1_n_n_1_2_161.offCoord (ix3 h r j) (0 : Fin 2) = h.val := by rw [hs0, hb, ho0]; omega
  have h1 : gather_S16x192_S8192x8704x1_S16x8192x8704_0_1_n_n_1_2_161.start (ix3 h r j) (val_main_v19 (F := Ideal)) (1 : Fin 2) + gather_S16x192_S8192x8704x1_S16x8192x8704_0_1_n_n_1_2_161.batchCoord (ix3 h r j) (1 : Fin 2)
      + gather_S16x192_S8192x8704x1_S16x8192x8704_0_1_n_n_1_2_161.offCoord (ix3 h r j) (1 : Fin 2) = relCol r.val j.val := by rw [hs1, hb, ho1]; omega
  match a with
  | ⟨0, _⟩ => exact h0
  | ⟨1, _⟩ => exact h1

/-- The masked scores. -/
theorem ref_score (q : QueryArr) (k : KeyArr) (tab : Table) (h : Fin 16) (r : Fin 8192) (j : Fin 8704) :
    val_main_v38_0 (F := Ideal) q k tab (ix3 h r j) = score q k tab h r j := by
  have hs := ref_sees r j
  have hd := ref_dot q k h r j
  have hb := ref_bias tab h r j
  unfold val_main_v38_0 val_main_v38_1 val_main_v37 val_main_call2_v2 val_main_call2_v0 val_main_cst_10 val_main_v36 val_main_v35 val_main_v34 val_main_cst
  pointwise []
  rw [hs, hd, hb]
  show Scalar.select _ _ (Ideal.ofBits .f32 0xFF800000#32) = _
  rw [ofBits_neg_inf, select_decide]
  rfl

/-- An array read at an index of known coordinates. -/
theorem read2 {α : Type} {A B : ℕ} (f : (⟨2, ![A, B]⟩ : Shape).Idx → α) (e : (⟨2, ![A, B]⟩ : Shape).Idx) (a : Fin A) (b : Fin B)
    (h0 : (e 0).val = a.val) (h1 : (e 1).val = b.val) : f e = f (ix2 a b) :=
  congrArg f (funext fun x => Fin.ext (by
    match x with
    | ⟨0, _⟩ => exact h0
    | ⟨1, _⟩ => exact h1))

/-- The same of three coordinates. -/
theorem read3 {α : Type} {A B C : ℕ} (f : (⟨3, ![A, B, C]⟩ : Shape).Idx → α) (e : (⟨3, ![A, B, C]⟩ : Shape).Idx)
    (a : Fin A) (b : Fin B) (c : Fin C) (h0 : (e 0).val = a.val) (h1 : (e 1).val = b.val) (h2 : (e 2).val = c.val) :
    f e = f (ix3 a b c) :=
  congrArg f (funext fun x => Fin.ext (by
    match x with
    | ⟨0, _⟩ => exact h0
    | ⟨1, _⟩ => exact h1
    | ⟨2, _⟩ => exact h2))

/-- A reduction by maximum along the last axis, at an index. -/
theorem reduce_max (s : S16x8192x8704.Idx → EReal) (h : Fin 16) (r : Fin 8192) :
    Host.reduce (max : EReal → EReal → EReal) s (val_main_cst_11 (F := Ideal)) reducesTo_S16x8192x8704_S16x8192_d2 h_S_ (ix2 h r)
      = rowMax (fun j => s (ix3 h r j)) := by
  rw [Host.reduce_eq_fold_single (max : EReal → EReal → EReal) s (val_main_cst_11 (F := Ideal)) reducesTo_S16x8192x8704_S16x8192_d2
    (by decide) h_S_ (ix2 h r)]
  unfold rowMax
  rw [show (val_main_cst_11 (F := Ideal)) (Shape.Idx.first h_S_) = (⊥ : EReal) from ofBits_neg_inf]
  refine Finset.fold_congr fun j _ => ?_
  exact read3 s _ h r j rfl rfl rfl

/-- A row's greatest score. -/
theorem ref_max (q : QueryArr) (k : KeyArr) (tab : Table) (h : Fin 16) (r : Fin 8192) :
    val_main_v46 (F := Ideal) q k tab (ix2 h r) = rowMax (score q k tab h r) := by
  have h39 : val_main_v39 (F := Ideal) q k tab (ix2 h r) = rowMax (score q k tab h r) := by
    refine (reduce_max (val_main_v38_0 (F := Ideal) q k tab) h r).trans ?_
    rw [funext (ref_score q k tab h r)]
  rw [val_main_v46_apply, h39, val_main_v45_apply]
  show max (Ideal.ofBits .f32 0xFF800000#32) _ = _
  rw [ofBits_neg_inf]
  exact max_eq_right bot_le

/-- The exponential of a score less the greatest. -/
theorem ref_exp (q : QueryArr) (k : KeyArr) (tab : Table) (h : Fin 16) (r : Fin 8192) (j : Fin 8704) :
    val_main_v59 (F := Ideal) q k tab (ix3 h r j) = rowExp (score q k tab h r) j := by
  rw [val_main_v59_apply, val_main_v58_apply, ref_score, val_main_v57_apply, val_main_v56_apply,
    read2 (val_main_v46 (F := Ideal) q k tab) _ h r rfl rfl, ref_max]
  rfl

/-- Their sum, … -/
theorem ref_sum (q : QueryArr) (k : KeyArr) (tab : Table) (h : Fin 16) (r : Fin 8192) :
    val_main_v60 (F := Ideal) q k tab (ix2 h r) = rowSum (score q k tab h r) := by
  rw [val_main_v60_apply]
  refine (congrArg₂ (· + ·) (Ideal.ofBits_zero_f32) (Finset.sum_congr rfl fun j _ =>
    (read3 (val_main_v59 (F := Ideal) q k tab) _ h r j rfl rfl rfl).trans (ref_exp q k tab h r j))).trans (zero_add _)

/-- … with a unit axis, … -/
theorem ref_sum1 (q : QueryArr) (k : KeyArr) (tab : Table) (h : Fin 16) (r : Fin 8192) :
    val_main_v61 (F := Ideal) q k tab (ix3 h r 0) = rowSum (score q k tab h r) := by
  rw [val_main_v61_apply, read2 (val_main_v60 (F := Ideal) q k tab) _ h r rfl rfl, ref_sum]

/-- … and the probabilities. -/
theorem ref_prob (q : QueryArr) (k : KeyArr) (tab : Table) (h : Fin 16) (r : Fin 8192) (j : Fin 8704) :
    val_main_v63 (F := Ideal) q k tab (ix3 h r j) = rowProb (score q k tab h r) j := by
  rw [val_main_v63_apply, ref_exp, val_main_v62_apply, read3 (val_main_v61 (F := Ideal) q k tab) _ h r 0 rfl rfl rfl, ref_sum1]
  rfl

/-- The incoming gradient by head, lane and row. -/
theorem ref_do (o : QueryArr) (h : Fin 16) (d : Fin 128) (r : Fin 8192) :
    val_main_v72 (F := Ideal) o (ix3 h d r) = o (ix2 r (lane h d)) := by
  rw [val_main_v72_apply, val_main_v71_apply, val_main_v70_apply]
  exact read2 o _ r (lane h d) (show ((r.val * 16 + h.val) * 128 + d.val) / 2048 = r.val by omega)
    (show ((r.val * 16 + h.val) * 128 + d.val) % 2048 = h.val * 128 + d.val by omega)

/-- The values, queries and keys by row, head and lane. -/
theorem ref_v (v : KeyArr) (j : Fin 8704) (h : Fin 16) (d : Fin 128) :
    val_main_v5 (F := Ideal) v (ix3 j h d) = v (ix2 j (lane h d)) := by
  rw [val_main_v5_apply, val_main_v2_apply]
  exact read2 v _ j (lane h d) (show ((j.val * 16 + h.val) * 128 + d.val) / 2048 = j.val by omega)
    (show ((j.val * 16 + h.val) * 128 + d.val) % 2048 = h.val * 128 + d.val by omega)

theorem ref_q (q : QueryArr) (r : Fin 8192) (h : Fin 16) (d : Fin 128) :
    val_main_v3 (F := Ideal) q (ix3 r h d) = q (ix2 r (lane h d)) := by
  rw [val_main_v3_apply, val_main_v0_apply]
  exact read2 q _ r (lane h d) (show ((r.val * 16 + h.val) * 128 + d.val) / 2048 = r.val by omega)
    (show ((r.val * 16 + h.val) * 128 + d.val) % 2048 = h.val * 128 + d.val by omega)

theorem ref_k (k : KeyArr) (j : Fin 8704) (h : Fin 16) (d : Fin 128) :
    val_main_v4 (F := Ideal) k (ix3 j h d) = k (ix2 j (lane h d)) := by
  rw [val_main_v4_apply, val_main_v1_apply]
  exact read2 k _ j (lane h d) (show ((j.val * 16 + h.val) * 128 + d.val) / 2048 = j.val by omega)
    (show ((j.val * 16 + h.val) * 128 + d.val) % 2048 = h.val * 128 + d.val by omega)

/-- The gradient of the probabilities. -/
theorem ref_dp (v : KeyArr) (o : QueryArr) (h : Fin 16) (r : Fin 8192) (j : Fin 8704) :
    val_main_v73 (F := Ideal) v o (ix3 h r j) = probGrad v o h r j := by
  rw [val_main_v73_apply]
  refine Finset.sum_congr rfl fun d _ => congrArg₂ (· * ·) ?_ ?_
  · exact (read3 (val_main_v72 (F := Ideal) o) _ h d r rfl rfl rfl).trans (ref_do o h d r)
  · exact (read3 (val_main_v5 (F := Ideal) v) _ j h d rfl rfl rfl).trans (ref_v v j h d)

/-- The quotient's second term summed along the row. -/
theorem ref_mean (q : QueryArr) (k v : KeyArr) (tab : Table) (o : QueryArr) (h : Fin 16) (r : Fin 8192) :
    val_main_v79 (F := Ideal) q k v tab o (ix2 h r)
      = ∑ l, probGrad v o h r l * Ideal.div 1 (rowSum (score q k tab h r) * rowSum (score q k tab h r)) * rowExp (score q k tab h r) l := by
  rw [val_main_v79_apply]
  refine (congrArg₂ (· + ·) (Ideal.ofBits_zero_f32) (Finset.sum_congr rfl fun l _ => ?_)).trans (zero_add _)
  rw [read3 (val_main_v78 (F := Ideal) q k v tab o) _ h r l rfl rfl rfl, val_main_v78_apply, val_main_v77_apply, ref_dp, ref_exp,
    val_main_v76_apply, read3 (val_main_v66 (F := Ideal) q k tab) _ h r 0 rfl rfl rfl, val_main_v66_apply, val_main_v65_apply,
    val_main_v64_apply, ref_sum1]
  show probGrad v o h r l * Ideal.div (Ideal.ofBits .f32 0x3F800000#32) _ * _ = _
  rw [Ideal.ofBits_one_f32]
  rfl

/-- Its negation, with a unit axis that is then summed. -/
theorem ref_neg (q : QueryArr) (k v : KeyArr) (tab : Table) (o : QueryArr) (h : Fin 16) (r : Fin 8192) :
    val_main_v84 (F := Ideal) q k v tab o (ix2 h r)
      = -(∑ l, probGrad v o h r l * Ideal.div 1 (rowSum (score q k tab h r) * rowSum (score q k tab h r)) * rowExp (score q k tab h r) l) := by
  rw [val_main_v84_apply]
  refine (congrArg₂ (· + ·) (Ideal.ofBits_zero_f32) ?_).trans (zero_add _)
  rw [Fin.sum_univ_one, val_main_v81_apply, val_main_v80_apply,
    read2 (val_main_v79 (F := Ideal) q k v tab o) _ h r
      (show ((h.val * 8192 + r.val) * 1 + 0) / 8192 = h.val by omega) (show ((h.val * 8192 + r.val) * 1 + 0) % 8192 = r.val by omega),
    ref_mean]
  rfl

/-- The scaled gradient of a score. -/
theorem ref_ds (q : QueryArr) (k v : KeyArr) (tab : Table) (o : QueryArr) (h : Fin 16) (r : Fin 8192) (j : Fin 8704) :
    val_main_v90 (F := Ideal) q k v tab o (ix3 h r j) = scaledGrad q k v tab o h r j := by
  have h87 : val_main_v87 (F := Ideal) q k v tab o (ix3 h r j) = quotGrad (score q k tab h r) (probGrad v o h r) j := by
    rw [val_main_v87_apply, val_main_v86_apply, val_main_v83_apply, ref_dp, ref_exp, val_main_v82_apply,
      read3 (val_main_v61 (F := Ideal) q k tab) _ h r 0 rfl rfl rfl, ref_sum1, val_main_v85_apply,
      read2 (val_main_v84 (F := Ideal) q k v tab o) _ h r rfl rfl, ref_neg]
    rfl
  have hm : val_main_v38_1 (F := Ideal) (ix3 h r j) = BitVec.ofBool (decide (Sees r.val j.val)) := by
    rw [val_main_v38_1_apply, val_main_v37_apply, read2 (val_main_v32 (F := Ideal)) _ r j rfl rfl, ref_sees]
  have h88 : val_main_v88 (F := Ideal) q k v tab o (ix3 h r j) = quotGrad (score q k tab h r) (probGrad v o h r) j := by
    rw [val_main_v88_apply, h87, hm, select_decide, val_main_call3_v0_apply]
    by_cases hs : Sees r.val j.val
    · rw [if_pos hs]
    · rw [if_neg hs, quotGrad_bot _ (score_bot q k tab h r j hs)]
      exact Ideal.ofBits_zero_f32
  rw [val_main_v90_apply, h88]
  rfl

/-- The reference's gradient of the queries, … -/
theorem ref_dq (q : QueryArr) (k v : KeyArr) (tab : Table) (o : QueryArr) (r : Fin 8192) (h : Fin 16) (d : Fin 128) :
    val_main_v97 (F := Ideal) q k v tab o (ix2 r (lane h d)) = gradQ q k v tab o h r d := by
  rw [val_main_v97_apply,
    read3 (val_main_v94 (F := Ideal) q k v tab o) _ r h d (show (r.val * 2048 + (h.val * 128 + d.val)) / 2048 = r.val by omega)
      (show (r.val * 2048 + (h.val * 128 + d.val)) / 128 % 16 = h.val by omega)
      (show (r.val * 2048 + (h.val * 128 + d.val)) % 128 = d.val by omega),
    val_main_v94_apply, read3 (val_main_v93 (F := Ideal) q k v tab o) _ h r d rfl rfl rfl, val_main_v93_apply]
  refine Finset.sum_congr rfl fun j _ => congrArg₂ (· * ·) ?_ ?_
  · exact (read3 (val_main_v90 (F := Ideal) q k v tab o) _ h r j rfl rfl rfl).trans (ref_ds q k v tab o h r j)
  · exact (read3 (val_main_v4 (F := Ideal) k) _ j h d rfl rfl rfl).trans (ref_k k j h d)

/-- … of the keys … -/
theorem ref_dk (q : QueryArr) (k v : KeyArr) (tab : Table) (o : QueryArr) (j : Fin 8704) (h : Fin 16) (d : Fin 128) :
    val_main_v96 (F := Ideal) q k v tab o (ix2 j (lane h d)) = gradK q k v tab o h j d := by
  rw [val_main_v96_apply,
    read3 (val_main_v92 (F := Ideal) q k v tab o) _ j h d (show (j.val * 2048 + (h.val * 128 + d.val)) / 2048 = j.val by omega)
      (show (j.val * 2048 + (h.val * 128 + d.val)) / 128 % 16 = h.val by omega)
      (show (j.val * 2048 + (h.val * 128 + d.val)) % 128 = d.val by omega),
    val_main_v92_apply, read3 (val_main_v91 (F := Ideal) q k v tab o) _ h j d rfl rfl rfl, val_main_v91_apply]
  refine Finset.sum_congr rfl fun r _ => congrArg₂ (· * ·) ?_ ?_
  · exact (read3 (val_main_v90 (F := Ideal) q k v tab o) _ h r j rfl rfl rfl).trans (ref_ds q k v tab o h r j)
  · exact (read3 (val_main_v3 (F := Ideal) q) _ r h d rfl rfl rfl).trans (ref_q q r h d)

/-- … and of the values. -/
theorem ref_dv (q : QueryArr) (k : KeyArr) (tab : Table) (o : QueryArr) (j : Fin 8704) (h : Fin 16) (d : Fin 128) :
    val_main_v95 (F := Ideal) q k tab o (ix2 j (lane h d)) = gradV q k tab o h j d := by
  rw [val_main_v95_apply,
    read3 (val_main_v75 (F := Ideal) q k tab o) _ j h d (show (j.val * 2048 + (h.val * 128 + d.val)) / 2048 = j.val by omega)
      (show (j.val * 2048 + (h.val * 128 + d.val)) / 128 % 16 = h.val by omega)
      (show (j.val * 2048 + (h.val * 128 + d.val)) % 128 = d.val by omega),
    val_main_v75_apply, read3 (val_main_v74 (F := Ideal) q k tab o) _ h d j rfl rfl rfl, val_main_v74_apply]
  refine Finset.sum_congr rfl fun r _ => congrArg₂ (· * ·) ?_ ?_
  · exact (read3 (val_main_v72 (F := Ideal) o) _ h d r rfl rfl rfl).trans (ref_do o h d r)
  · exact (read3 (val_main_v63 (F := Ideal) q k tab) _ h r j rfl rfl rfl).trans (ref_prob q k tab h r j)

end Cert.AttnGrad

end
-- ==== Proof.Pair.lean ====
module

public import proofs.«01_k».proof.Defs
public import proofs.«01_k».proof.Proof.Value
public import proofs.«01_k».proof.Proof.RefRead
public import Idealize.ShloMosaic.Lib.Quiescent

/-! # The kernel's gradients and the reference's are equal -/

@[expose] public section

set_option maxRecDepth 16384

noncomputable section

namespace Cert.AttnGrad

open Idealize.ShloMosaic Idealize.SL.Sem
open Cert.KernelIdeal.Gen (outQ outK outV argQ argK argV argT argO headCol laneCol)

/-- The precondition's shape facts. -/
theorem finiteFacts : Cert.Pre_finite.Facts where
  bitsLt_bf16_f32 := by decide
  bcast_S_S8192x2048 := by decide
  bcast_S_S8704x2048 := by decide
  bcast_S_S16x192 := by decide

/-- An element whose absolute value lies below infinity is finite. -/
theorem finite_of_abs {x : EReal} (h : BitVec.ofBool (decide ((x ⊔ -x) < ⊤)) = 1#1) : x ≠ ⊤ ∧ x ≠ ⊥ := by
  have h' : x ⊔ -x < ⊤ := by
    by_contra hn
    rw [decide_eq_false hn] at h
    exact absurd h (by decide)
  constructor
  · rintro rfl; simp at h'
  · rintro rfl; simp at h'

/-- A column is a lane of a head. -/
theorem lane_col (x : Fin 2048) : lane (headCol x) (laneCol x) = x := Fin.ext (by
  show x.val / 128 * 128 + x.val % 128 = x.val
  omega)

variable (m : (ℓ : Loc Cert.KernelIdeal.nD Cert.KernelIdeal.τ Cert.KernelIdeal.sig) → Buf (Elt Ideal) ℓ)

/-- Where the precondition holds the queries, the keys and the table are finite. -/
theorem finite_of_pre (h : Cert.Pre_KernelIdeal_finite (hPre_finite := finiteFacts) m) (c : Dev Cert.KernelIdeal.nD) :
    Finite (argQ m c) ∧ Finite (argK m c) ∧ Finite (argT m c) := by
  obtain ⟨h0, h1, h2⟩ := h c
  refine ⟨fun i => ?_, fun i => ?_, fun i => ?_⟩
  · have e := congrFun h0 i
    refine finite_of_abs (Eq.trans ?_ e)
    rw [← ofBits_inf]; rfl
  · have e := congrFun h1 i
    refine finite_of_abs (Eq.trans ?_ e)
    rw [← ofBits_inf]; rfl
  · have e := congrFun h2 i
    refine finite_of_abs (Eq.trans ?_ e)
    rw [← ofBits_inf]; rfl

/-- The reference's gradient of the queries is the kernel's … -/
theorem pair_dq (c : Dev Cert.KernelIdeal.nD) : Cert.ReferenceIdeal.Read.val_main_v97 (F := Ideal)
    (argQ m c) (argK m c) (argV m c) (argT m c) (argO m c) = outQ m c := by
  funext y
  obtain ⟨r, x, rfl⟩ : ∃ (r : Fin 8192) (x : Fin 2048), y = ix2 r x := ⟨y 0, y 1, eq_ix2 y⟩
  have e := ref_dq (argQ m c) (argK m c) (argV m c) (argT m c) (argO m c) r (headCol x) (laneCol x)
  rw [lane_col] at e
  exact e

/-- … of the keys … -/
theorem pair_dk (c : Dev Cert.KernelIdeal.nD) : Cert.ReferenceIdeal.Read.val_main_v96 (F := Ideal)
    (argQ m c) (argK m c) (argV m c) (argT m c) (argO m c) = outK m c := by
  funext y
  obtain ⟨j, x, rfl⟩ : ∃ (j : Fin 8704) (x : Fin 2048), y = ix2 j x := ⟨y 0, y 1, eq_ix2 y⟩
  have e := ref_dk (argQ m c) (argK m c) (argV m c) (argT m c) (argO m c) j (headCol x) (laneCol x)
  rw [lane_col] at e
  exact e

/-- … and of the values. -/
theorem pair_dv (c : Dev Cert.KernelIdeal.nD) : Cert.ReferenceIdeal.Read.val_main_v95 (F := Ideal)
    (argQ m c) (argK m c) (argT m c) (argO m c) = outV m c := by
  funext y
  obtain ⟨j, x, rfl⟩ : ∃ (j : Fin 8704) (x : Fin 2048), y = ix2 j x := ⟨y 0, y 1, eq_ix2 y⟩
  have e := ref_dv (argQ m c) (argK m c) (argT m c) (argO m c) j (headCol x) (laneCol x)
  rw [lane_col] at e
  exact e

end Cert.AttnGrad

end
-- ==== Proof.FfnWeights.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise

/-! # The gradients of the feed-forward weights: the run's three arrays, as sums over the frames

A grid point multiplies a block of 1024 frames' hidden gradients with the block's inputs and adds the product to what the points before it
left; after eight points the sum runs over all 8192 frames. -/

@[expose] public section

set_option maxRecDepth 16384

noncomputable section

namespace Cert.Kernel2Ideal.Gen

open Idealize.ShloMosaic Idealize.ShloMosaic.TcCoe Idealize.ShloMosaic.Tactic
open scoped BigOperators

/-- Arrays over the frames' features, over the hidden units, and of a weight. -/
abbrev TokenArr := S8192x2048.Idx → EReal
abbrev HiddenArr := S8192x5632.Idx → EReal
abbrev WeightArr := S5632x2048.Idx → EReal

/-- The gradient of a weight: hidden unit by feature, the sum over the frames. -/
def weightGrad (a : HiddenArr) (b : TokenArr) : WeightArr := fun y => ∑ i : Fin 8192, a (ix2 i (y 0)) * b (ix2 i (y 1))

/-- The hidden activation: the gate times its logistic times the second factor. -/
def activation (g u : HiddenArr) : HiddenArr := fun y => g y * Ideal.logistic (g y) * u y

/-- What one block of frames adds to a weight's gradient. -/
def blockGrad (a : S1024x512.Idx → EReal) (b : S1024x2048.Idx → EReal) (f : Fin 512) (d : Fin 2048) : EReal :=
  ∑ i : Fin 1024, a (ix2 i f) * b (ix2 i d)

variable (m : (ℓ : Loc nD τ sig) → Buf (Elt Ideal) ℓ)

/-! ## One point's arithmetic -/

theorem pay8_read (h : S1024x2048.Idx → EReal) (x : S512x2048.Idx → EReal) (a : S1024x512.Idx → EReal) (f : Fin 512) (d : Fin 2048) :
    k0_pay8 (F := Ideal) h x a (ix2 f d) = x (ix2 f d) + blockGrad a h f d := by
  unfold blockGrad
  pointwise [k0_pay8]

theorem pay9_read (h : S1024x2048.Idx → EReal) (x : S512x2048.Idx → EReal) (a : S1024x512.Idx → EReal) (f : Fin 512) (d : Fin 2048) :
    k0_pay9 (F := Ideal) h x a (ix2 f d) = x (ix2 f d) + blockGrad a h f d := by
  unfold blockGrad
  pointwise [k0_pay9]

theorem pay1_read (h : S1024x2048.Idx → EReal) (x : S512x2048.Idx → EReal) (a : S1024x512.Idx → EReal) (f : Fin 512) (d : Fin 2048) :
    k0_pay1 (F := Ideal) a x h (constant S512x2048 .f32 0x00000000#32) (ix2 f d) = x (ix2 f d) + blockGrad a h f d := by
  unfold blockGrad
  pointwise [k0_pay1]

theorem pay10_read (g u : S1024x512.Idx → EReal) (i : Fin 1024) (f : Fin 512) :
    k0_pay10 (F := Ideal) g u (ix2 i f) = g (ix2 i f) * Ideal.logistic (g (ix2 i f)) * u (ix2 i f) := by
  pointwise [k0_pay10]

theorem pay5_read (f : Fin 512) (d : Fin 2048) : k0_pay5 (F := Ideal) (ix2 f d) = 0 := by pointwise [k0_pay5]
theorem pay6_read (f : Fin 512) (d : Fin 2048) : k0_pay6 (F := Ideal) (ix2 f d) = 0 := by pointwise [k0_pay6]
theorem pay7_read (f : Fin 512) (d : Fin 2048) : k0_pay7 (F := Ideal) (ix2 f d) = 0 := by pointwise [k0_pay7]

/-! ## The three accumulators from point to point -/

theorem gate_first (c : Dev nD) (t : Fin cfg0.N) (h : t.val % 8 = 0) :
    (outsAt0 m c t.val t.isLt).2.2.2.1 = k0_pay8 (F := Ideal) (iblk m c 0 t) (k0_pay5 (F := Ideal)) (iblk m c 4 t) := by
  rw [outsAt0_A m c t h (by omega)]; frame_out

theorem up_first (c : Dev nD) (t : Fin cfg0.N) (h : t.val % 8 = 0) :
    (outsAt0 m c t.val t.isLt).2.2.2.2.1 = k0_pay9 (F := Ideal) (iblk m c 0 t) (k0_pay6 (F := Ideal)) (iblk m c 5 t) := by
  rw [outsAt0_A m c t h (by omega)]; frame_out

theorem down_first (c : Dev nD) (t : Fin cfg0.N) (h : t.val % 8 = 0) :
    (outsAt0 m c t.val t.isLt).2.2.2.2.2 = k0_pay1 (F := Ideal) (k0_pay10 (F := Ideal) (iblk m c 2 t) (iblk m c 3 t)) (k0_pay7 (F := Ideal))
      (iblk m c 1 t) (constant S512x2048 .f32 0x00000000#32) := by
  rw [outsAt0_A m c t h (by omega)]; frame_out

theorem gate_next (c : Dev nD) (t : Fin cfg0.N) (h : ¬ t.val % 8 = 0) :
    (outsAt0 m c t.val t.isLt).2.2.2.1 = k0_pay8 (F := Ideal) (iblk m c 0 t)
      (outsAt0 m c (t.val - 1) (Nat.lt_of_le_of_lt (Nat.sub_le _ _) t.isLt)).2.2.2.1 (iblk m c 4 t) := by
  by_cases h7 : t.val % 8 = 7
  · rw [outsAt0_C m c t h h7]; frame_out; simp only [read_unread_whole]
  · rw [outsAt0_B m c t h h7]; frame_out; simp only [read_unread_whole]

theorem up_next (c : Dev nD) (t : Fin cfg0.N) (h : ¬ t.val % 8 = 0) :
    (outsAt0 m c t.val t.isLt).2.2.2.2.1 = k0_pay9 (F := Ideal) (iblk m c 0 t)
      (outsAt0 m c (t.val - 1) (Nat.lt_of_le_of_lt (Nat.sub_le _ _) t.isLt)).2.2.2.2.1 (iblk m c 5 t) := by
  by_cases h7 : t.val % 8 = 7
  · rw [outsAt0_C m c t h h7]; frame_out; simp only [read_unread_whole]
  · rw [outsAt0_B m c t h h7]; frame_out; simp only [read_unread_whole]

theorem down_next (c : Dev nD) (t : Fin cfg0.N) (h : ¬ t.val % 8 = 0) :
    (outsAt0 m c t.val t.isLt).2.2.2.2.2 = k0_pay1 (F := Ideal) (k0_pay10 (F := Ideal) (iblk m c 2 t) (iblk m c 3 t))
      (outsAt0 m c (t.val - 1) (Nat.lt_of_le_of_lt (Nat.sub_le _ _) t.isLt)).2.2.2.2.2 (iblk m c 1 t) (constant S512x2048 .f32 0x00000000#32) := by
  by_cases h7 : t.val % 8 = 7
  · rw [outsAt0_C m c t h h7]; frame_out; simp only [read_unread_whole]
  · rw [outsAt0_B m c t h h7]; frame_out; simp only [read_unread_whole]

theorem gate_last (c : Dev nD) (t : Fin cfg0.N) (h7 : t.val % 8 = 7) (y : S512x2048.Idx) :
    (outsAt0 m c t.val t.isLt).1 y = (outsAt0 m c t.val t.isLt).2.2.2.1 y := by
  rw [gate_next m c t (by omega), outsAt0_C m c t (by omega) h7]; frame_out; simp only [read_unread_whole]; rfl

theorem up_last (c : Dev nD) (t : Fin cfg0.N) (h7 : t.val % 8 = 7) (y : S512x2048.Idx) :
    (outsAt0 m c t.val t.isLt).2.1 y = (outsAt0 m c t.val t.isLt).2.2.2.2.1 y := by
  rw [up_next m c t (by omega), outsAt0_C m c t (by omega) h7]; frame_out; simp only [read_unread_whole]; rfl

theorem down_last (c : Dev nD) (t : Fin cfg0.N) (h7 : t.val % 8 = 7) (y : S512x2048.Idx) :
    (outsAt0 m c t.val t.isLt).2.2.1 y = (outsAt0 m c t.val t.isLt).2.2.2.2.2 y := by
  rw [down_next m c t (by omega), outsAt0_C m c t (by omega) h7]; frame_out; simp only [read_unread_whole]; rfl

/-! ## The staged blocks -/

/-- The argument arrays. -/
abbrev argHn (c : Dev nD) : TokenArr := m ((c.tc : Thread nD τ).loc main_arg0)
abbrev argDy (c : Dev nD) : TokenArr := m ((c.tc : Thread nD τ).loc main_arg1)
abbrev argGate (c : Dev nD) : HiddenArr := m ((c.tc : Thread nD τ).loc main_arg2)
abbrev argUp (c : Dev nD) : HiddenArr := m ((c.tc : Thread nD τ).loc main_arg3)
abbrev argDgate (c : Dev nD) : HiddenArr := m ((c.tc : Thread nD τ).loc main_arg4)
abbrev argDup (c : Dev nD) : HiddenArr := m ((c.tc : Thread nD τ).loc main_arg5)

theorem coord0 (t : Fin grid0.N) : (grid0.coords t 0).val = t.val / 8 := by
  have h : (grid0.coords t 0).val = t.val / 8 % 11 := Pipeline.Grid.coords_val t 0 (by decide) rfl
  have := Nat.lt_of_lt_of_eq t.isLt N_0
  omega

theorem coord1 (t : Fin grid0.N) : (grid0.coords t 1).val = t.val % 8 := by
  have h : (grid0.coords t 1).val = t.val / 1 % 8 := Pipeline.Grid.coords_val t 1 (by decide) rfl
  omega

/-- Frame `i` of a point's block of frames, and hidden unit `f` of its block of units. -/
def frameRow (t : Fin cfg0.N) (i : Fin 1024) : Fin 8192 := ⟨t.val % 8 * 1024 + i.val, by omega⟩
def unitRow (t : Fin cfg0.N) (f : Fin 512) : Fin 5632 := ⟨t.val / 8 * 512 + f.val, by
  have := Nat.lt_of_lt_of_eq t.isLt N_0
  omega⟩

theorem index_0 : ∀ t : Fin grid0.N, win0_0.index t = ![(grid0.coords t 1).val, 0] := by decide +kernel
theorem index_1 : ∀ t : Fin grid0.N, win0_1.index t = ![(grid0.coords t 1).val, 0] := by decide +kernel
theorem index_2 : ∀ t : Fin grid0.N, win0_2.index t = ![(grid0.coords t 1).val, (grid0.coords t 0).val] := by decide +kernel
theorem index_3 : ∀ t : Fin grid0.N, win0_3.index t = ![(grid0.coords t 1).val, (grid0.coords t 0).val] := by decide +kernel
theorem index_4 : ∀ t : Fin grid0.N, win0_4.index t = ![(grid0.coords t 1).val, (grid0.coords t 0).val] := by decide +kernel
theorem index_5 : ∀ t : Fin grid0.N, win0_5.index t = ![(grid0.coords t 1).val, (grid0.coords t 0).val] := by decide +kernel
theorem index_6 : ∀ t : Fin grid0.N, win0_6.index t = ![(grid0.coords t 0).val, 0] := by decide +kernel
theorem index_7 : ∀ t : Fin grid0.N, win0_7.index t = ![(grid0.coords t 0).val, 0] := by decide +kernel
theorem index_8 : ∀ t : Fin grid0.N, win0_8.index t = ![(grid0.coords t 0).val, 0] := by decide +kernel

theorem read_0 (c : Dev nD) (t : Fin cfg0.N) (i : Fin 1024) (d : Fin 2048) : iblk m c 0 t (ix2 i d) = argHn m c (ix2 (frameRow t i) d) := by
  show V m c main_arg0 _ = _
  rw [V_main_arg0]
  refine congrArg (argHn m c) (funext fun a => Fin.ext ?_)
  have h1 := coord1 t
  match a with
  | ⟨0, _⟩ => blk_simp [index_0]; show (grid0.coords t 1).val * 1024 + i.val = t.val % 8 * 1024 + i.val; rw [h1]
  | ⟨1, _⟩ => blk_simp [index_0]

theorem read_1 (c : Dev nD) (t : Fin cfg0.N) (i : Fin 1024) (d : Fin 2048) : iblk m c 1 t (ix2 i d) = argDy m c (ix2 (frameRow t i) d) := by
  show V m c main_arg1 _ = _
  rw [V_main_arg1]
  refine congrArg (argDy m c) (funext fun a => Fin.ext ?_)
  have h1 := coord1 t
  match a with
  | ⟨0, _⟩ => blk_simp [index_1]; show (grid0.coords t 1).val * 1024 + i.val = t.val % 8 * 1024 + i.val; rw [h1]
  | ⟨1, _⟩ => blk_simp [index_1]

theorem read_2 (c : Dev nD) (t : Fin cfg0.N) (i : Fin 1024) (f : Fin 512) :
    iblk m c 2 t (ix2 i f) = argGate m c (ix2 (frameRow t i) (unitRow t f)) := by
  show V m c main_arg2 _ = _
  rw [V_main_arg2]
  refine congrArg (argGate m c) (funext fun a => Fin.ext ?_)
  have h0 := coord0 t
  have h1 := coord1 t
  match a with
  | ⟨0, _⟩ => blk_simp [index_2]; show (grid0.coords t 1).val * 1024 + i.val = t.val % 8 * 1024 + i.val; rw [h1]
  | ⟨1, _⟩ => blk_simp [index_2]; show (grid0.coords t 0).val * 512 + f.val = t.val / 8 * 512 + f.val; rw [h0]

theorem read_3 (c : Dev nD) (t : Fin cfg0.N) (i : Fin 1024) (f : Fin 512) :
    iblk m c 3 t (ix2 i f) = argUp m c (ix2 (frameRow t i) (unitRow t f)) := by
  show V m c main_arg3 _ = _
  rw [V_main_arg3]
  refine congrArg (argUp m c) (funext fun a => Fin.ext ?_)
  have h0 := coord0 t
  have h1 := coord1 t
  match a with
  | ⟨0, _⟩ => blk_simp [index_3]; show (grid0.coords t 1).val * 1024 + i.val = t.val % 8 * 1024 + i.val; rw [h1]
  | ⟨1, _⟩ => blk_simp [index_3]; show (grid0.coords t 0).val * 512 + f.val = t.val / 8 * 512 + f.val; rw [h0]

theorem read_4 (c : Dev nD) (t : Fin cfg0.N) (i : Fin 1024) (f : Fin 512) :
    iblk m c 4 t (ix2 i f) = argDgate m c (ix2 (frameRow t i) (unitRow t f)) := by
  show V m c main_arg4 _ = _
  rw [V_main_arg4]
  refine congrArg (argDgate m c) (funext fun a => Fin.ext ?_)
  have h0 := coord0 t
  have h1 := coord1 t
  match a with
  | ⟨0, _⟩ => blk_simp [index_4]; show (grid0.coords t 1).val * 1024 + i.val = t.val % 8 * 1024 + i.val; rw [h1]
  | ⟨1, _⟩ => blk_simp [index_4]; show (grid0.coords t 0).val * 512 + f.val = t.val / 8 * 512 + f.val; rw [h0]

theorem read_5 (c : Dev nD) (t : Fin cfg0.N) (i : Fin 1024) (f : Fin 512) :
    iblk m c 5 t (ix2 i f) = argDup m c (ix2 (frameRow t i) (unitRow t f)) := by
  show V m c main_arg5 _ = _
  rw [V_main_arg5]
  refine congrArg (argDup m c) (funext fun a => Fin.ext ?_)
  have h0 := coord0 t
  have h1 := coord1 t
  match a with
  | ⟨0, _⟩ => blk_simp [index_5]; show (grid0.coords t 1).val * 1024 + i.val = t.val % 8 * 1024 + i.val; rw [h1]
  | ⟨1, _⟩ => blk_simp [index_5]; show (grid0.coords t 0).val * 512 + f.val = t.val / 8 * 512 + f.val; rw [h0]

/-! ## The sums of a run of eight points -/

/-- The eight blocks of frames that the points of one run of `t` take, added up, are all the frames. -/
theorem run_sum (a : HiddenArr) (b : TokenArr) (t : Fin cfg0.N) (h7 : t.val % 8 = 7) (f : Fin 512) (d : Fin 2048) :
    ∑ s : Fin 8, ∑ i : Fin 1024, a (ix2 (frameRow ⟨8 * (t.val / 8) + s.val, Pipeline.run_point_lt_of_flush t h7 s⟩ i)
        (unitRow ⟨8 * (t.val / 8) + s.val, Pipeline.run_point_lt_of_flush t h7 s⟩ f))
      * b (ix2 (frameRow ⟨8 * (t.val / 8) + s.val, Pipeline.run_point_lt_of_flush t h7 s⟩ i) d)
    = weightGrad a b (ix2 (unitRow t f) d) := by
  refine Fin.sum_mul_add_congr fun s i hl => ?_
  have e1 : frameRow ⟨8 * (t.val / 8) + s.val, Pipeline.run_point_lt_of_flush t h7 s⟩ i = ⟨s.val * 1024 + i.val, hl⟩ :=
    Fin.ext (by unfold frameRow; dsimp only; omega)
  have e2 : unitRow ⟨8 * (t.val / 8) + s.val, Pipeline.run_point_lt_of_flush t h7 s⟩ f = unitRow t f :=
    Fin.ext (by unfold unitRow; dsimp only; omega)
  rw [e1, e2]
  rfl

/-- The accumulator of the gate weight's gradient at a run's last point. -/
theorem gate_total (c : Dev nD) (t : Fin cfg0.N) (h7 : t.val % 8 = 7) (f : Fin 512) (d : Fin 2048) :
    (outsAt0 m c t.val t.isLt).2.2.2.1 (ix2 f d) = weightGrad (argDgate m c) (argHn m c) (ix2 (unitRow t f) d) := by
  rw [Pipeline.eq_sum_fin_of_reset_step_apply_of_flush (ι := Fin 512 × Fin 2048) (M := EReal)
    (fun n h y => (outsAt0 m c n h).2.2.2.1 (ix2 y.1 y.2)) 8 (fun _ => 0)
    (fun t y => ∑ i : Fin 1024, argDgate m c (ix2 (frameRow t i) (unitRow t y.1)) * argHn m c (ix2 (frameRow t i) y.2))
    (fun t h y => by
      rw [gate_first m c t h]
      refine (pay8_read _ _ _ y.1 y.2).trans (congrArg₂ (· + ·) (pay5_read y.1 y.2) (Finset.sum_congr rfl fun i _ => ?_))
      rw [read_4, read_0])
    (fun t h y => by
      rw [gate_next m c t h]
      refine (pay8_read _ _ _ y.1 y.2).trans (congrArg (_ + ·) (Finset.sum_congr rfl fun i _ => ?_))
      rw [read_4, read_0])
    t h7 (f, d)]
  exact (zero_add _).trans (run_sum _ _ t h7 f d)

/-- The accumulator of the up weight's gradient at a run's last point. -/
theorem up_total (c : Dev nD) (t : Fin cfg0.N) (h7 : t.val % 8 = 7) (f : Fin 512) (d : Fin 2048) :
    (outsAt0 m c t.val t.isLt).2.2.2.2.1 (ix2 f d) = weightGrad (argDup m c) (argHn m c) (ix2 (unitRow t f) d) := by
  rw [Pipeline.eq_sum_fin_of_reset_step_apply_of_flush (ι := Fin 512 × Fin 2048) (M := EReal)
    (fun n h y => (outsAt0 m c n h).2.2.2.2.1 (ix2 y.1 y.2)) 8 (fun _ => 0)
    (fun t y => ∑ i : Fin 1024, argDup m c (ix2 (frameRow t i) (unitRow t y.1)) * argHn m c (ix2 (frameRow t i) y.2))
    (fun t h y => by
      rw [up_first m c t h]
      refine (pay9_read _ _ _ y.1 y.2).trans (congrArg₂ (· + ·) (pay6_read y.1 y.2) (Finset.sum_congr rfl fun i _ => ?_))
      rw [read_5, read_0])
    (fun t h y => by
      rw [up_next m c t h]
      refine (pay9_read _ _ _ y.1 y.2).trans (congrArg (_ + ·) (Finset.sum_congr rfl fun i _ => ?_))
      rw [read_5, read_0])
    t h7 (f, d)]
  exact (zero_add _).trans (run_sum _ _ t h7 f d)

/-- The accumulator of the down weight's gradient at a run's last point. -/
theorem down_total (c : Dev nD) (t : Fin cfg0.N) (h7 : t.val % 8 = 7) (f : Fin 512) (d : Fin 2048) :
    (outsAt0 m c t.val t.isLt).2.2.2.2.2 (ix2 f d)
      = weightGrad (activation (argGate m c) (argUp m c)) (argDy m c) (ix2 (unitRow t f) d) := by
  rw [Pipeline.eq_sum_fin_of_reset_step_apply_of_flush (ι := Fin 512 × Fin 2048) (M := EReal)
    (fun n h y => (outsAt0 m c n h).2.2.2.2.2 (ix2 y.1 y.2)) 8 (fun _ => 0)
    (fun t y => ∑ i : Fin 1024, activation (argGate m c) (argUp m c) (ix2 (frameRow t i) (unitRow t y.1)) * argDy m c (ix2 (frameRow t i) y.2))
    (fun t h y => by
      rw [down_first m c t h]
      refine (pay1_read _ _ _ y.1 y.2).trans (congrArg₂ (· + ·) (pay7_read y.1 y.2) (Finset.sum_congr rfl fun i _ => ?_))
      rw [pay10_read, read_1, read_2, read_3]
      rfl)
    (fun t h y => by
      rw [down_next m c t h]
      refine (pay1_read _ _ _ y.1 y.2).trans (congrArg (_ + ·) (Finset.sum_congr rfl fun i _ => ?_))
      rw [pay10_read, read_1, read_2, read_3]
      rfl)
    t h7 (f, d)]
  exact (zero_add _).trans (run_sum _ _ t h7 f d)

/-! ## The arrays after the run -/

/-- The three results. -/
def outGate (c : Dev nD) : WeightArr := weightGrad (argDgate m c) (argHn m c)
def outUp (c : Dev nD) : WeightArr := weightGrad (argDup m c) (argHn m c)
def outDown (c : Dev nD) : WeightArr := weightGrad (activation (argGate m c) (argUp m c)) (argDy m c)

/-- The gate weight's gradient after the run. -/
theorem arr_gate (c : Dev nD) : (dats m 0 c).arrAt 6 cfg0.N = outGate m c := by
  refine (dats m 0 c).arrAt_eq_of_covers 6 _ (by decide +kernel) fun t hf y => ?_
  have h7 : t.val % 8 = 7 := (flush0_6 t).mp hf
  blk_simp
  rw [after0_6]
  obtain ⟨f, d, rfl⟩ : ∃ (f : Fin 512) (d : Fin 2048), y = ix2 f d := ⟨y 0, y 1, eq_ix2 y⟩
  refine ((gate_last m c t h7 (ix2 f d)).trans (gate_total m c t h7 f d)).trans ?_
  refine congrArg (outGate m c) (funext fun a => Fin.ext ?_)
  have h0 := coord0 t
  match a with
  | ⟨0, _⟩ => blk_simp [index_6]; show t.val / 8 * 512 + f.val = (grid0.coords t 0).val * 512 + f.val; rw [h0]
  | ⟨1, _⟩ => blk_simp [index_6]

/-- The up weight's gradient after the run. -/
theorem arr_up (c : Dev nD) : (dats m 0 c).arrAt 7 cfg0.N = outUp m c := by
  refine (dats m 0 c).arrAt_eq_of_covers 7 _ (by decide +kernel) fun t hf y => ?_
  have h7 : t.val % 8 = 7 := (flush0_7 t).mp hf
  blk_simp
  rw [after0_7]
  obtain ⟨f, d, rfl⟩ : ∃ (f : Fin 512) (d : Fin 2048), y = ix2 f d := ⟨y 0, y 1, eq_ix2 y⟩
  refine ((up_last m c t h7 (ix2 f d)).trans (up_total m c t h7 f d)).trans ?_
  refine congrArg (outUp m c) (funext fun a => Fin.ext ?_)
  have h0 := coord0 t
  match a with
  | ⟨0, _⟩ => blk_simp [index_7]; show t.val / 8 * 512 + f.val = (grid0.coords t 0).val * 512 + f.val; rw [h0]
  | ⟨1, _⟩ => blk_simp [index_7]

/-- The down weight's gradient after the run. -/
theorem arr_down (c : Dev nD) : (dats m 0 c).arrAt 8 cfg0.N = outDown m c := by
  refine (dats m 0 c).arrAt_eq_of_covers 8 _ (by decide +kernel) fun t hf y => ?_
  have h7 : t.val % 8 = 7 := (flush0_8 t).mp hf
  blk_simp
  rw [after0_8]
  obtain ⟨f, d, rfl⟩ : ∃ (f : Fin 512) (d : Fin 2048), y = ix2 f d := ⟨y 0, y 1, eq_ix2 y⟩
  refine ((down_last m c t h7 (ix2 f d)).trans (down_total m c t h7 f d)).trans ?_
  refine congrArg (outDown m c) (funext fun a => Fin.ext ?_)
  have h0 := coord0 t
  match a with
  | ⟨0, _⟩ => blk_simp [index_8]; show t.val / 8 * 512 + f.val = (grid0.coords t 0).val * 512 + f.val; rw [h0]
  | ⟨1, _⟩ => blk_simp [index_8]

end Cert.Kernel2Ideal.Gen

end
-- ==== Proof.FfnWeightsRef.lean ====
module

public import proofs.«01_k».proof.Proof.Gen.Reference2Ideal.Read
public import proofs.«01_k».proof.Proof.FfnWeights

/-! # The reference's gradients of the feed-forward weights, as sums over the frames -/

@[expose] public section

noncomputable section

namespace Cert.Reference2Ideal.Read

open Idealize.ShloMosaic Cert.Kernel2Ideal.Gen
open scoped BigOperators

/-- The gradient of the gate's weight. -/
theorem gate_weight (b : TokenArr) (a : HiddenArr) : val_main_v22 (F := Ideal) b a = weightGrad a b := by
  funext y
  obtain ⟨f, d, rfl⟩ : ∃ (f : Fin 5632) (d : Fin 2048), y = ix2 f d := ⟨y 0, y 1, eq_ix2 y⟩
  unfold weightGrad
  pointwise [val_main_v22, val_main_v16, val_main_v15, val_main_v14, val_main_v0, val_main_v4]

/-- The gradient of the second factor's weight. -/
theorem up_weight (b : TokenArr) (a : HiddenArr) : val_main_v23 (F := Ideal) b a = weightGrad a b := by
  funext y
  obtain ⟨f, d, rfl⟩ : ∃ (f : Fin 5632) (d : Fin 2048), y = ix2 f d := ⟨y 0, y 1, eq_ix2 y⟩
  unfold weightGrad
  pointwise [val_main_v23, val_main_v13, val_main_v12, val_main_v11, val_main_v0, val_main_v5]

/-- The hidden activation. -/
theorem activation_read (g u : HiddenArr) (i : Fin 8192) (f : Fin 5632) : val_main_v18 (F := Ideal) g u (ix2 i f) = activation g u (ix2 i f) := by
  pointwise [val_main_v18, val_main_v17, val_main_v2, val_main_v3, val_main_call0_v0,
    val_main_call0_v1, val_main_call0_v2, val_main_call0_v3, val_main_call0_v4, val_main_call0_v5, val_main_call0_cst, val_main_call0_cst_0, activation, Ideal.logistic]

/-- The gradient of the down weight. -/
theorem down_weight (b : TokenArr) (g u : HiddenArr) : val_main_v24 (F := Ideal) b g u = weightGrad (activation g u) b := by
  funext y
  obtain ⟨f, d, rfl⟩ : ∃ (f : Fin 5632) (d : Fin 2048), y = ix2 f d := ⟨y 0, y 1, eq_ix2 y⟩
  have h : val_main_v24 (F := Ideal) b g u (ix2 f d) = ∑ i : Fin 8192, b (ix2 i d) * val_main_v18 (F := Ideal) g u (ix2 i f) := by
    pointwise [val_main_v24, val_main_v21, val_main_v20, val_main_v1]
  rw [h]
  exact Finset.sum_congr rfl fun i _ => (congrArg (_ * ·) (activation_read g u i f)).trans (mul_comm _ _)

end Cert.Reference2Ideal.Read

end
-- ==== Proof.FfnWeightsClaim.lean ====
module

public import proofs.«01_k».proof.Defs
public import proofs.«01_k».proof.Proof.Gen.Reference2Ideal.Run
public import proofs.«01_k».proof.Proof.FfnWeightsRef

/-! # The gradients of the feed-forward weights: the claims

The kernel's three gradients are the reference's over the extended reals, with no condition on the arguments. -/

@[expose] public section

set_option maxRecDepth 16384

noncomputable section

namespace Cert.FfnWeights

open Idealize.ShloMosaic Idealize.SL.Sem
open Cert.Kernel2Ideal.Gen (outGate outUp outDown arr_gate arr_up arr_down)

/-- The reference leaves its arguments as they were; it declares no semaphore. -/
theorem reference_frame : Cert.quiescent_Reference2Ideal (hReference2Ideal := Cert.Reference2Ideal.Gen.facts) := fun m g _ =>
  (θ_run _ _ _).mono (fun r h => ⟨fun c => (h c).2.2.2, sem_eq_zero_of_no_sems (by decide) r.2⟩) (Cert.Reference2Ideal.Value.run m g)

/-- The kernel ends at the three sums over the frames. -/
theorem kernel_run (m : (ℓ : Loc Cert.Kernel2Ideal.nD Cert.Kernel2Ideal.τ Cert.Kernel2Ideal.sig) → Buf (Elt Ideal) ℓ)
    (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩
      (fun r => (∀ c : Dev Cert.Kernel2Ideal.nD,
        r.2.mem ((c.tc : Thread Cert.Kernel2Ideal.nD Cert.Kernel2Ideal.τ).loc Cert.Kernel2Ideal.main_v0_0) = outGate m c
        ∧ r.2.mem ((c.tc : Thread Cert.Kernel2Ideal.nD Cert.Kernel2Ideal.τ).loc Cert.Kernel2Ideal.main_v0_1) = outUp m c
        ∧ r.2.mem ((c.tc : Thread Cert.Kernel2Ideal.nD Cert.Kernel2Ideal.τ).loc Cert.Kernel2Ideal.main_v0_2) = outDown m c)) :=
  (θ_run _ _ _).mono (fun _ h c => ⟨((h c).1 6).trans (arr_gate m c), ((h c).1 7).trans (arr_up m c), ((h c).1 8).trans (arr_down m c)⟩)
    (Cert.Kernel2Ideal.Gen.run_main m g)

/-- The kernel's results are the reference's. -/
theorem gradients_equal : Cert.algebraic_Kernel2Ideal_Reference2Ideal (hKernel2Ideal := Cert.Kernel2Ideal.Gen.facts)
    (hReference2Ideal := Cert.Reference2Ideal.Gen.facts) := by
  intro m g m' g' _ hagree
  refine ⟨outGate m, outUp m, outDown m, ?_, ?_⟩
  · refine (θ_run _ _ _).mono (fun r h c => ?_) (θ_run_and (kernel_run m g) (Cert.Kernel2Ideal.Gen.frame m g))
    exact ⟨(h.1 c).1, (h.1 c).2.1, (h.1 c).2.2, h.2.1 c⟩
  · refine (θ_run _ _ _).mono (fun r h c => ?_) (Cert.Reference2Ideal.Value.run m' g')
    obtain ⟨e0, e1, e2, e3, e4, e5⟩ := hagree c
    obtain ⟨h0, h1, h2, h3⟩ := h c
    refine ⟨h0.trans ?_, h1.trans ?_, h2.trans ?_, h3⟩
    · rw [Cert.Reference2Ideal.Read.val_main_v22_eq, e0, e4]; exact Cert.Reference2Ideal.Read.gate_weight _ _
    · rw [Cert.Reference2Ideal.Read.val_main_v23_eq, e0, e5]; exact Cert.Reference2Ideal.Read.up_weight _ _
    · rw [Cert.Reference2Ideal.Read.val_main_v24_eq, e1, e2, e3]; exact Cert.Reference2Ideal.Read.down_weight _ _ _

end Cert.FfnWeights

end
-- ==== Proof.FfnInputSpec.lean ====
module

public import Idealize.ShloMosaic.PureOps.Ideal
public import Idealize.ShloMosaic.Lib.Pointwise

/-! # The half step's input gradient, as functions of the argument arrays

Over the extended reals: the output gradient `o`, the token rows `x`, the norm's gain `n`, the two hidden factors `g` and `u`, and the three
weights. A row's hidden gradients are products along the weights; the gradient of the normalised row is the sum of two such products, and the
normalisation's own backward pass acts on each row alone. -/

@[expose] public section

noncomputable section

namespace Cert.FfnInput

open Idealize.ShloMosaic
open scoped BigOperators

/-- Arrays over the tokens' features, over the hidden units, of a weight, and of the gain. -/
abbrev TokenArr : Type := (⟨2, ![8192, 2048]⟩ : Shape).Idx → EReal
abbrev HiddenArr : Type := (⟨2, ![8192, 5632]⟩ : Shape).Idx → EReal
abbrev WeightArr : Type := (⟨2, ![5632, 2048]⟩ : Shape).Idx → EReal
abbrev GainArr : Type := (⟨2, ![1, 2048]⟩ : Shape).Idx → EReal

/-- The half step's factor, the number of features, and the normalisation's small addend. -/
def half : EReal := Ideal.ofBits .f32 0x3F000000#32
def width : EReal := Ideal.ofBits .f32 0x45000000#32
def small : EReal := Ideal.ofBits .f32 0x358637BD#32

/-- The gradient of a gate whose product with `u` was taken, `a` the gradient of the activation. -/
def gateGrad (a g u : EReal) : EReal := a * u * (Ideal.logistic g * (1 + g * (1 - Ideal.logistic g)))

/-- The gradient of the second factor. -/
def upGrad (a g : EReal) : EReal := a * (g * Ideal.logistic g)

/-- The reciprocal root mean square of a row. -/
def invRms (x : Fin 2048 → EReal) : EReal := Ideal.rsqrt (Ideal.div (∑ e, x e * x e) width + small)

/-- A row's gradient through the normalisation, with `o` added: `h` is the gradient of the normalised and scaled row, `n` the gain. -/
def normRow (x n h o : Fin 2048 → EReal) (d : Fin 2048) : EReal :=
  o d + invRms x * (h d * n d - x d * invRms x * Ideal.div (∑ e, h e * n e * (x e * invRms x)) width)

/-- The narrowed output gradient. -/
def dyArr (o : TokenArr) : TokenArr := fun y => half * o y

/-- The gradient of the hidden activation. -/
def actGrad (o : TokenArr) (wd : WeightArr) (r : Fin 8192) (f : Fin 5632) : EReal := ∑ d : Fin 2048, half * o (ix2 r d) * wd (ix2 f d)

/-- The gradients of the two hidden factors. -/
def dgateArr (o : TokenArr) (g u : HiddenArr) (wd : WeightArr) : HiddenArr := fun y => gateGrad (actGrad o wd (y 0) (y 1)) (g y) (u y)
def dupArr (o : TokenArr) (g : HiddenArr) (wd : WeightArr) : HiddenArr := fun y => upGrad (actGrad o wd (y 0) (y 1)) (g y)

/-- The gradient of the normalised and scaled row. -/
def dhRow (o : TokenArr) (g u : HiddenArr) (wg wu wd : WeightArr) (r : Fin 8192) (d : Fin 2048) : EReal :=
  ∑ f : Fin 5632, dgateArr o g u wd (ix2 r f) * wg (ix2 f d) + ∑ f : Fin 5632, dupArr o g wd (ix2 r f) * wu (ix2 f d)

/-- The input gradient. -/
def dxiArr (o x : TokenArr) (n : GainArr) (g u : HiddenArr) (wg wu wd : WeightArr) : TokenArr := fun y =>
  normRow (fun e => x (ix2 (y 0) e)) (fun e => n (ix2 0 e)) (dhRow o g u wg wu wd (y 0)) (fun e => o (ix2 (y 0) e)) (y 1)

/-- The gain's gradient. -/
def dgainArr (o x : TokenArr) (g u : HiddenArr) (wg wu wd : WeightArr) : GainArr := fun y =>
  ∑ r : Fin 8192, dhRow o g u wg wu wd r (y 1) * (x (ix2 r (y 1)) * invRms fun e => x (ix2 r e))

end Cert.FfnInput

end
-- ==== Proof.FfnInputReal.lean ====
module

public import proofs.«01_k».proof.Proof.FfnInputSpec
public import proofs.«01_k».proof.Proof.Model

/-! # The half step's input gradient: two ways of writing it

Two ways of writing the gate's gradient agree where the activation's gradient and the second factor are finite; two of writing the normalisation's
backward pass agree always, because the square of the reciprocal root of a positive number is its reciprocal. -/

@[expose] public section

noncomputable section

namespace Cert.FfnInput

open Idealize.ShloMosaic Cert.AttnGrad
open scoped BigOperators

/-- An element that is a real number. -/
def IsReal (x : EReal) : Prop := ∃ r : ℝ, x = (r : EReal)

theorem isReal_of_finite {x : EReal} (h : x ≠ ⊤ ∧ x ≠ ⊥) : IsReal x := ⟨x.toReal, (EReal.coe_toReal h.1 h.2).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_one : IsReal 1 := ⟨1, EReal.coe_one.symm⟩

theorem IsReal.logistic {x : EReal} (hx : IsReal x) : IsReal (Ideal.logistic x) := by
  obtain ⟨a, rfl⟩ := hx
  exact ⟨_, Ideal.logistic_coe a⟩

theorem isReal_sum {n : ℕ} (f : Fin n → EReal) (h : ∀ i, IsReal (f i)) : IsReal (∑ i, f i) := by
  choose g hg using h
  exact ⟨∑ i, g i, (Finset.sum_congr rfl fun i _ => hg i).trans (coe_sum g)⟩

/-! ## The constants -/

theorem half_real : half = ((1 / 2 : ℝ) : EReal) := by
  have he : (BitVec.extractLsb' 23 8 (0x3F000000#32 : BitVec 32)).toNat = 126 := by decide
  have hm : (BitVec.extractLsb' 0 23 (0x3F000000#32 : BitVec 32)).toNat = 0 := by decide
  have hn : (BitVec.extractLsb' 31 1 (0x3F000000#32 : BitVec 32) == 1#1) = false := by decide
  have h : half = Ideal.ieee 8 23 (0x3F000000#32 : BitVec 32) := rfl
  rw [h]
  unfold Ideal.ieee
  rw [he, hn, hm]
  norm_num

theorem width_real : width = ((2048 : ℝ) : EReal) := by
  have he : (BitVec.extractLsb' 23 8 (0x45000000#32 : BitVec 32)).toNat = 138 := by decide
  have hm : (BitVec.extractLsb' 0 23 (0x45000000#32 : BitVec 32)).toNat = 0 := by decide
  have hn : (BitVec.extractLsb' 31 1 (0x45000000#32 : BitVec 32) == 1#1) = false := by decide
  have h : width = Ideal.ieee 8 23 (0x45000000#32 : BitVec 32) := rfl
  rw [h]
  unfold Ideal.ieee
  rw [he, hn, hm]
  norm_num

theorem minusHalf_real : Ideal.ofBits .f32 0xBF000000#32 = ((-(1 / 2) : ℝ) : EReal) := by
  have he : (BitVec.extractLsb' 23 8 (0xBF000000#32 : BitVec 32)).toNat = 126 := by decide
  have hm : (BitVec.extractLsb' 0 23 (0xBF000000#32 : BitVec 32)).toNat = 0 := by decide
  have hn : (BitVec.extractLsb' 31 1 (0xBF000000#32 : BitVec 32) == 1#1) = true := by decide
  show Ideal.ieee 8 23 (0xBF000000#32 : BitVec 32) = _
  unfold Ideal.ieee
  rw [he, hn, hm]
  norm_num

theorem small_real : ∃ e : ℝ, small = (e : EReal) ∧ 0 < e := by
  have he : (BitVec.extractLsb' 23 8 (0x358637BD#32 : BitVec 32)).toNat = 107 := by decide
  have hn : (BitVec.extractLsb' 31 1 (0x358637BD#32 : BitVec 32) == 1#1) = false := by decide
  have h : small = Ideal.ieee 8 23 (0x358637BD#32 : BitVec 32) := rfl
  rw [h]
  unfold Ideal.ieee
  rw [he, hn]
  exact ⟨_, by rw [if_neg (by decide), if_neg (by decide)], by simp only [Bool.false_eq_true, if_false]; positivity⟩

/-! ## The gate's gradient -/

/-- The gate's gradient, as the sum of the logistic's share and the gate's. An infinite gate has the logistic one or zero. -/
theorem gateGrad_split {a u : EReal} (g : EReal) (ha : IsReal a) (hu : IsReal u) :
    a * u * Ideal.logistic g + g * (a * u) * (Ideal.logistic g * (1 - Ideal.logistic g)) = gateGrad a g u := by
  have h1 : (1 : EReal) - 1 = 0 := by rw [← EReal.coe_one, ← EReal.coe_sub, sub_self, EReal.coe_zero]
  unfold gateGrad
  induction g with
  | bot => rw [Ideal.logistic_bot]; simp only [zero_mul, mul_zero, add_zero]
  | top => rw [Ideal.logistic_top, h1]; simp only [mul_zero, add_zero, mul_one]
  | coe g =>
    obtain ⟨s, hs⟩ := IsReal.logistic ⟨g, rfl⟩
    obtain ⟨a, rfl⟩ := ha
    obtain ⟨u, rfl⟩ := hu
    rw [hs, ← EReal.coe_one]
    simp only [← EReal.coe_mul, ← EReal.coe_sub, ← EReal.coe_add]
    exact congrArg _ (by ring)

variable {o : TokenArr} {wd : WeightArr}

theorem actGrad_isReal (ho : ∀ y, IsReal (o y)) (hd : ∀ y, IsReal (wd y)) (r : Fin 8192) (f : Fin 5632) : IsReal (actGrad o wd r f) :=
  isReal_sum _ fun _ => (IsReal.mul ⟨_, half_real⟩ (ho _)).mul (hd _)

/-! ## The normalisation's backward pass -/

/-- The mean square of a row with the small addend. -/
def meanSq (x : Fin 2048 → EReal) : EReal := Ideal.div (∑ e, x e * x e) width + small

/-- The normalisation's backward pass through the mean square: the share of the row itself and, twice, that of its square. -/
def normRowByParts (x n h o : Fin 2048 → EReal) (d : Fin 2048) : EReal :=
  o d + (h d * n d * invRms x
    + x d * Ideal.div ((∑ e, x e * (h e * n e)) * (Ideal.ofBits .f32 0xBF000000#32 * Ideal.div (invRms x) (meanSq x))) width
    + Ideal.div ((∑ e, x e * (h e * n e)) * (Ideal.ofBits .f32 0xBF000000#32 * Ideal.div (invRms x) (meanSq x))) width * x d)

/-- Of a row of reals the mean square is a positive real and the reciprocal root the root of its reciprocal. -/
theorem invRms_real (x : Fin 2048 → ℝ) : ∃ v ρ : ℝ, meanSq (fun e => (x e : EReal)) = (v : EReal) ∧ invRms (fun e => (x e : EReal)) = (ρ : EReal)
    ∧ 0 < v ∧ ρ * ρ * v = 1 ∧ 0 ≤ ρ := by
  obtain ⟨e, he, hpos⟩ := small_real
  have hv : meanSq (fun e => (x e : EReal)) = (((∑ i, x i * x i) * (1 / 2048) + e : ℝ) : EReal) := by
    unfold meanSq
    rw [width_real, Ideal.div_coe (by norm_num), he]
    simp only [← EReal.coe_mul]
    rw [coe_sum, ← EReal.coe_mul, ← EReal.coe_add]
  have h0 : 0 < (∑ i, x i * x i) * (1 / 2048) + e :=
    add_pos_of_nonneg_of_pos (mul_nonneg (Finset.sum_nonneg fun i _ => mul_self_nonneg (x i)) (by norm_num)) hpos
  refine ⟨_, (Real.sqrt ((∑ i, x i * x i) * (1 / 2048) + e))⁻¹, hv, ?_, h0, ?_, inv_nonneg.mpr (Real.sqrt_nonneg _)⟩
  · show Ideal.rsqrt (meanSq fun e => (x e : EReal)) = _
    rw [hv, Ideal.rsqrt_coe, if_neg (not_lt.mpr h0.le), if_neg h0.ne']
  · have hs := Real.mul_self_sqrt h0.le
    have hne : Real.sqrt ((∑ i, x i * x i) * (1 / 2048) + e) ≠ 0 := (Real.sqrt_pos.mpr h0).ne'
    rw [← mul_inv, hs, inv_mul_cancel₀ h0.ne']

/-- A real factor that is not negative leaves a sum. -/
theorem sum_mul_coe {n : ℕ} (f : Fin n → EReal) {r : ℝ} (hr : 0 ≤ r) : ∑ i, f i * (r : EReal) = (∑ i, f i) * (r : EReal) := by
  induction (Finset.univ : Finset (Fin n)) using Finset.induction_on with
  | empty => simp only [Finset.sum_empty, zero_mul]
  | insert a s ha ih =>
    rw [Finset.sum_insert ha, Finset.sum_insert ha, ih,
      EReal.right_distrib_of_nonneg_of_ne_top (EReal.coe_nonneg.mpr hr) (EReal.coe_ne_top r)]

/-- Twice an element. -/
theorem add_self (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul, mul_two]

/-- A square is not negative. -/
theorem square_nonneg (a : EReal) : 0 ≤ a * a := by
  induction a with
  | bot => rw [EReal.bot_mul_bot]; exact le_top
  | top => rw [EReal.top_mul_top]; exact le_top
  | coe a => rw [← EReal.coe_mul]; exact EReal.coe_nonneg.mpr (mul_self_nonneg a)

/-- Of a row with an infinite element the mean square is infinite. -/
theorem meanSq_top {x : Fin 2048 → EReal} (hx : ¬∀ e, IsReal (x e)) : meanSq x = ⊤ := by
  obtain ⟨e, he⟩ := not_forall.mp hx
  have hsq : x e * x e = ⊤ := by
    induction h : x e with
    | bot => exact EReal.bot_mul_bot
    | top => exact EReal.top_mul_top
    | coe r => exact absurd ⟨r, h⟩ he
  have hs : ∑ i, x i * x i = ⊤ :=
    top_le_iff.mp (hsq ▸ Finset.single_le_sum (f := fun i => x i * x i) (fun i _ => square_nonneg (x i)) (Finset.mem_univ e))
  obtain ⟨s, hsm, _⟩ := small_real
  unfold meanSq
  rw [hs, width_real, Ideal.div_coe (by norm_num), EReal.top_mul_coe_of_pos (by norm_num), hsm]
  rfl

/-- The two ways of writing the normalisation's backward pass agree: of a row of reals the reciprocal root's square is the reciprocal of the mean
square, and of a row with an infinite element it is zero. -/
theorem normRowByParts_eq (x n h o : Fin 2048 → EReal) (d : Fin 2048) : normRowByParts x n h o d = normRow x n h o d := by
  by_cases hx : ∀ e, IsReal (x e)
  · choose x' hx using hx
    obtain rfl : x = fun e => (x' e : EReal) := funext hx
    obtain ⟨v, ρ, hv, hρ, hpos, hsq, hρ0⟩ := invRms_real x'
    have hS : ∑ e, h e * n e * ((x' e : EReal) * (ρ : EReal)) = (∑ e, (x' e : EReal) * (h e * n e)) * (ρ : EReal) := by
      rw [← sum_mul_coe _ hρ0]
      exact Finset.sum_congr rfl fun e _ => by rw [← mul_assoc, mul_comm (h e * n e)]
    have hi : 1 / v = ρ * ρ := by
      rw [div_eq_iff hpos.ne']
      exact hsq.symm
    unfold normRowByParts normRow
    rw [hv, hρ, hS, width_real, minusHalf_real, Ideal.div_coe hpos.ne', Ideal.div_coe (by norm_num), Ideal.div_coe (by norm_num)]
    generalize (∑ e, (x' e : EReal) * (h e * n e)) = S
    generalize h d * n d = D
    refine congrArg _ ?_
    rw [mul_comm (_ : EReal) (x' d : EReal), add_assoc, add_self, sub_eq_add_neg,
      EReal.left_distrib_of_nonneg_of_ne_top (EReal.coe_nonneg.mpr hρ0) (EReal.coe_ne_top ρ), mul_comm D, ← mul_neg, hi]
    refine congrArg _ ?_
    rw [show (x' d : EReal) * (S * (((-(1 / 2) : ℝ) : EReal) * ((ρ : EReal) * ((ρ * ρ : ℝ) : EReal))) * ((1 / 2048 : ℝ) : EReal)) * ((2 : ℝ) : EReal)
        = S * ((x' d * (-(1 / 2) * (ρ * (ρ * ρ))) * (1 / 2048) * 2 : ℝ) : EReal) by simp only [EReal.coe_mul]; ac_rfl]
    rw [mul_neg, mul_neg, show (ρ : EReal) * ((x' d : EReal) * (ρ : EReal) * (S * (ρ : EReal) * ((1 / 2048 : ℝ) : EReal)))
        = S * ((ρ * (x' d * ρ * (ρ * (1 / 2048))) : ℝ) : EReal) by simp only [EReal.coe_mul]; ac_rfl, ← mul_neg, ← EReal.coe_neg]
    exact congrArg (fun r : ℝ => S * (r : EReal)) (by ring)
  · have hv := meanSq_top hx
    have hρ : invRms x = 0 := (congrArg Ideal.rsqrt hv).trans Ideal.rsqrt_top
    have hd : Ideal.div 0 ⊤ = 0 := by
      unfold Ideal.div
      rw [if_neg EReal.top_ne_zero, zero_mul]
    unfold normRowByParts normRow
    rw [hv, hρ, hd, width_real, Ideal.div_coe (by norm_num)]
    simp only [mul_zero, zero_mul, add_zero]

end Cert.FfnInput

end
-- ==== Proof.FfnInputRef.lean ====
module

public import proofs.«01_k».proof.Proof.Gen.Reference3Ideal.Read
public import proofs.«01_k».proof.Proof.FfnInputReal

/-! # The reference's gradients of the half step, where its output gradient, second factor and down weight are finite -/

@[expose] public section

noncomputable section

namespace Cert.Reference3Ideal.Read

open Idealize.ShloMosaic Cert.FfnInput
open scoped BigOperators

variable (o x : TokenArr) (n : GainArr) (g u : HiddenArr) (wg wu wd : WeightArr)

/-- The narrowed output gradient. -/
theorem dy_ref : val_main_v62 (F := Ideal) o = dyArr o := by
  funext y
  obtain ⟨r, d, rfl⟩ : ∃ (r : Fin 8192) (d : Fin 2048), y = ix2 r d := ⟨y 0, y 1, eq_ix2 y⟩
  unfold dyArr half
  pointwise [val_main_v62, val_main_v32, val_main_v31, val_main_v30, val_main_cst_4]

/-- The gradient of the hidden activation. -/
theorem act_ref (r : Fin 8192) (f : Fin 5632) : val_main_v33 (F := Ideal) o wd (ix2 r f) = actGrad o wd r f := by
  unfold actGrad half
  pointwise [val_main_v33, val_main_v32, val_main_v31, val_main_v30, val_main_cst_4, val_main_v4]

/-- The second factor's gradient, before and after it is narrowed. -/
theorem up_read (r : Fin 8192) (f : Fin 5632) : val_main_v34 (F := Ideal) o g wd (ix2 r f) = dupArr o g wd (ix2 r f) := by
  have h : val_main_v34 (F := Ideal) o g wd (ix2 r f) = g (ix2 r f) * Ideal.logistic (g (ix2 r f)) * val_main_v33 (F := Ideal) o wd (ix2 r f) := by
    pointwise [val_main_v34, val_main_v24_0, val_main_v24_2, val_main_call0_v0, val_main_call0_v1, val_main_call0_v2, val_main_call0_v3,
      val_main_call0_v4, val_main_call0_cst, val_main_call0_cst_0, val_main_v0, Ideal.logistic]
  rw [h, act_ref]
  exact mul_comm _ _

theorem dup_ref : val_main_v61 (F := Ideal) o g wd = dupArr o g wd := by
  funext y
  obtain ⟨r, f, rfl⟩ : ∃ (r : Fin 8192) (f : Fin 5632), y = ix2 r f := ⟨y 0, y 1, eq_ix2 y⟩
  refine Eq.trans ?_ (up_read o g wd r f)
  pointwise [val_main_v61]

variable {o x n g u wg wu wd}

/-- The gate's gradient, before and after it is narrowed. -/
theorem gate_read (ho : ∀ y, IsReal (o y)) (hu : ∀ y, IsReal (u y)) (hd : ∀ y, IsReal (wd y)) (r : Fin 8192) (f : Fin 5632) :
    val_main_v36 (F := Ideal) o g u wd (ix2 r f) = dgateArr o g u wd (ix2 r f) := by
  have h : val_main_v36 (F := Ideal) o g u wd (ix2 r f)
      = val_main_v33 (F := Ideal) o wd (ix2 r f) * u (ix2 r f) * Ideal.logistic (g (ix2 r f))
        + g (ix2 r f) * (val_main_v33 (F := Ideal) o wd (ix2 r f) * u (ix2 r f))
          * (Ideal.logistic (g (ix2 r f)) * (1 - Ideal.logistic (g (ix2 r f)))) := by
    pointwise [val_main_v36, val_main_call1_v2, val_main_call1_v1, val_main_call1_v0, val_main_v35, val_main_v1, val_main_v24_1, val_main_call0_v7,
      val_main_call0_v6, val_main_call0_cst_1, val_main_v24_2, val_main_call0_v0, val_main_call0_v1, val_main_call0_v2, val_main_call0_v3,
      val_main_call0_v4, val_main_call0_cst, val_main_call0_cst_0, val_main_v0, Ideal.logistic]
  rw [h, act_ref]
  exact gateGrad_split (g (ix2 r f)) (actGrad_isReal ho hd r f) (hu _)

theorem dgate_ref (ho : ∀ y, IsReal (o y)) (hu : ∀ y, IsReal (u y)) (hd : ∀ y, IsReal (wd y)) :
    val_main_v60 (F := Ideal) o g u wd = dgateArr o g u wd := by
  funext y
  obtain ⟨r, f, rfl⟩ : ∃ (r : Fin 8192) (f : Fin 5632), y = ix2 r f := ⟨y 0, y 1, eq_ix2 y⟩
  refine Eq.trans ?_ (gate_read ho hu hd r f)
  pointwise [val_main_v60]

/-- The gradient of the normalised and scaled row. -/
theorem dh_read (ho : ∀ y, IsReal (o y)) (hu : ∀ y, IsReal (u y)) (hd : ∀ y, IsReal (wd y)) (r : Fin 8192) (d : Fin 2048) :
    val_main_v39 (F := Ideal) o g u wg wu wd (ix2 r d) = dhRow o g u wg wu wd r d := by
  have h : val_main_v39 (F := Ideal) o g u wg wu wd (ix2 r d)
      = ∑ f : Fin 5632, val_main_v34 (F := Ideal) o g wd (ix2 r f) * wu (ix2 f d)
        + ∑ f : Fin 5632, val_main_v36 (F := Ideal) o g u wd (ix2 r f) * wg (ix2 f d) := by
    pointwise [val_main_v39, val_main_v38, val_main_v37, val_main_v22, val_main_v20, val_main_v2, val_main_v3]
  rw [h]
  simp only [up_read, gate_read ho hu hd]
  exact add_comm _ _

/-- The gain's gradient. -/
theorem dgain_ref (ho : ∀ y, IsReal (o y)) (hu : ∀ y, IsReal (u y)) (hd : ∀ y, IsReal (wd y)) :
    val_main_v42 (F := Ideal) o x g u wg wu wd = dgainArr o x g u wg wu wd := by
  funext y
  obtain ⟨a, d, rfl⟩ : ∃ (a : Fin 1) (d : Fin 2048), y = ix2 a d := ⟨y 0, y 1, eq_ix2 y⟩
  have h : val_main_v42 (F := Ideal) o x g u wg wu wd (ix2 a d)
      = ∑ r : Fin 8192, x (ix2 r d) * (invRms fun e => x (ix2 r e)) * val_main_v39 (F := Ideal) o g u wg wu wd (ix2 r d) := by
    unfold invRms width small
    pointwise [val_main_v42, val_main_v41, val_main_v40, val_main_v17, val_main_v16, val_main_v12, val_main_v11, val_main_v10, val_main_cst_1,
      val_main_v9, val_main_v8, val_main_cst_0, val_main_v7, val_main_v6, val_main_cst, val_main_v5, val_main_cst_5]
  rw [h]
  simp only [dh_read ho hu hd]
  exact Finset.sum_congr rfl fun r _ => mul_comm _ _

/-- The input gradient. -/
theorem dxi_ref (ho : ∀ y, IsReal (o y)) (hu : ∀ y, IsReal (u y)) (hd : ∀ y, IsReal (wd y)) :
    val_main_v59 (F := Ideal) o x n g u wg wu wd = dxiArr o x n g u wg wu wd := by
  funext y
  obtain ⟨r, d, rfl⟩ : ∃ (r : Fin 8192) (d : Fin 2048), y = ix2 r d := ⟨y 0, y 1, eq_ix2 y⟩
  have h : val_main_v59 (F := Ideal) o x n g u wg wu wd (ix2 r d)
      = normRowByParts (fun e => x (ix2 r e)) (fun e => n (ix2 0 e)) (fun e => val_main_v39 (F := Ideal) o g u wg wu wd (ix2 r e))
          (fun e => o (ix2 r e)) d := by
    unfold normRowByParts meanSq invRms width small
    pointwise [val_main_v59, val_main_v58, val_main_v57, val_main_v56, val_main_v55, val_main_v54, val_main_v53, val_main_v52, val_main_v51,
      val_main_v50, val_main_v49, val_main_v48, val_main_v47, val_main_v46, val_main_v45, val_main_v44, val_main_v43, val_main_cst_6,
      val_main_cst_7, val_main_cst_8, val_main_v15, val_main_v14, val_main_cst_2, val_main_v13, val_main_v12, val_main_v11, val_main_v10,
      val_main_cst_1, val_main_v9, val_main_v8, val_main_cst_0, val_main_v7, val_main_v6, val_main_cst, val_main_v5, Fin.sum_univ_one]
  rw [h]
  simp only [dh_read ho hu hd]
  exact normRowByParts_eq _ _ _ _ d

end Cert.Reference3Ideal.Read

end
-- ==== Proof.FfnInputStep.lean ====
module

public import proofs.«01_k».proof.Proof.Gen.Kernel3Ideal.Skeleton
public import Idealize.ShloMosaic.Lib.VecWindow

/-! # What one grid point of the half step's gradient does, as plain functions

A grid point takes 512 token rows and 512 hidden columns. The hidden gradients are made in two halves of 256 columns;
at the last point of a row block the four chunks of 128 rows are taken through the normalisation. -/

@[expose] public section

noncomputable section

namespace Cert.Kernel3Ideal.Gen

open Idealize.ShloMosaic Idealize.SL.Sem

variable {F : FTy → Type} [FloatOps F]

/-- The left 256 columns of a hidden block. -/
abbrev leftHalf {α : Type} (x : S512x512.Idx → α) : S512x256.Idx → α :=
  VecWindow.window x ![0, 0] S512x256.size inb_S512x512_S512x256_0_0

/-- The right 256 columns of a hidden block. -/
abbrev rightHalf {α : Type} (x : S512x512.Idx → α) : S512x256.Idx → α :=
  VecWindow.window x ![0, 256] S512x256.size inb_S512x512_S512x256_0_256

/-- The upper 256 rows of a weight block. -/
abbrev upperHalf {α : Type} (x : S512x2048.Idx → α) : S256x2048.Idx → α :=
  VecWindow.window x ![0, 0] S256x2048.size inb_S512x2048_S256x2048_0_0

/-- The lower 256 rows of a weight block. -/
abbrev lowerHalf {α : Type} (x : S512x2048.Idx → α) : S256x2048.Idx → α :=
  VecWindow.window x ![256, 0] S256x2048.size inb_S512x2048_S256x2048_256_0

/-- The gradient of the gate block, over what its buffer held. -/
def dgateStep (dy : Vec F S512x2048 .bf16) (x3 x4 : Vec F S512x512 .bf16) (x7 : Vec F S512x2048 .bf16) (d : Vec F S512x512 .bf16) : Vec F S512x512 .bf16 :=
  VecWindow.put (VecWindow.put d ![0, 0] S512x256.size (k0_pay28 dy (upperHalf x7) (leftHalf x3) (leftHalf x4))) ![0, 256] S512x256.size
    (k0_pay33 (k0_pay24 dy) (lowerHalf x7) (rightHalf x3) (rightHalf x4))

/-- The gradient of the up block, over what its buffer held. -/
def dupStep (dy : Vec F S512x2048 .bf16) (x3 : Vec F S512x512 .bf16) (x7 : Vec F S512x2048 .bf16) (d : Vec F S512x512 .bf16) : Vec F S512x512 .bf16 :=
  VecWindow.put (VecWindow.put d ![0, 0] S512x256.size (k0_pay29 dy (upperHalf x7) (leftHalf x3))) ![0, 256] S512x256.size
    (k0_pay34 (k0_pay24 dy) (lowerHalf x7) (rightHalf x3))

/-- The offsets of the 128 rows of chunk `s`. -/
def chunkOff (s : Fin 4) : Fin 2 → ℕ := ![128 * s.val, 0]

theorem chunkOff_inb (s : Fin 4) : ∀ a, chunkOff s a + S128x2048.size a ≤ S512x2048.size a := by
  have h := s.isLt
  intro a
  fin_cases a
  · show 128 * s.val + 128 ≤ 512; omega
  · show 0 + 2048 ≤ 2048; omega

/-- The 128 rows of chunk `s`. -/
abbrev chunk {α : Type} (s : Fin 4) (x : S512x2048.Idx → α) : S128x2048.Idx → α :=
  VecWindow.window x (chunkOff s) S128x2048.size (chunkOff_inb s)

/-- The gain row, as the body's load spells it. -/
abbrev gainRow {α : Type} (x : S1x2048.Idx → α) : S1x2048.Idx → α :=
  VecWindow.window x ![0, 0] S1x2048.size inb_S1x2048_S1x2048_0_0

/-- Chunk `s` of the input gradient taken through the normalisation and put in place. -/
def normStep (x0 x1 : Vec F S512x2048 .f32) (x2 : Vec F S1x2048 .f32) (d : Vec F S512x2048 .f32) (s : Fin 4) : Vec F S512x2048 .f32 :=
  VecWindow.put d (chunkOff s) S128x2048.size (k0_pay4 (chunk s x1) (gainRow x2) (chunk s d) (chunk s x0))

/-- Chunk `s`'s share of the gain gradient, added; `d` is the input gradient before the chunk is taken. -/
def gainStep (x1 d : Vec F S512x2048 .f32) (g : Vec F S1x2048 .f32) (s : Fin 4) : Vec F S1x2048 .f32 :=
  k0_pay5 (chunk s x1) (chunk s d) g

/-- The input gradient with all four chunks taken through the normalisation. -/
def normAll (x0 x1 : Vec F S512x2048 .f32) (x2 : Vec F S1x2048 .f32) (d : Vec F S512x2048 .f32) : Vec F S512x2048 .f32 :=
  normStep x0 x1 x2 (normStep x0 x1 x2 (normStep x0 x1 x2 (normStep x0 x1 x2 d 0) 1) 2) 3

/-- The gain gradient with all four chunks' shares added. -/
def gainAll (x0 x1 : Vec F S512x2048 .f32) (x2 : Vec F S1x2048 .f32) (d : Vec F S512x2048 .f32) (g : Vec F S1x2048 .f32) : Vec F S1x2048 .f32 :=
  gainStep x1 (normStep x0 x1 x2 (normStep x0 x1 x2 (normStep x0 x1 x2 d 0) 1) 2)
    (gainStep x1 (normStep x0 x1 x2 (normStep x0 x1 x2 d 0) 1) (gainStep x1 (normStep x0 x1 x2 d 0) (gainStep x1 d g 0) 1) 2) 3

end Cert.Kernel3Ideal.Gen

end
-- ==== Proof.FfnInputRead.lean ====
module

public import proofs.«01_k».proof.Proof.FfnInputSpec
public import proofs.«01_k».proof.Proof.FfnInputStep
public import Idealize.ShloMosaic.Lib.Pipeline.ValueKit
public import Idealize.ShloMosaic.Lib.Pointwise

/-! # One grid point's arithmetic, element by element -/

@[expose] public section

set_option maxRecDepth 16384

noncomputable section

namespace Cert.Kernel3Ideal.Gen

open Idealize.ShloMosaic Idealize.ShloMosaic.TcCoe Idealize.ShloMosaic.Tactic Cert.FfnInput
open scoped BigOperators

/-! ## The stored values -/

theorem pay21_read (x : S512x2048.Idx → EReal) (i : Fin 512) (d : Fin 2048) : k0_pay21 (F := Ideal) x (ix2 i d) = half * x (ix2 i d) := by
  unfold half
  pointwise [k0_pay21]

theorem pay22_read (i : Fin 512) (d : Fin 2048) : k0_pay22 (F := Ideal) (ix2 i d) = 0 := by pointwise [k0_pay22]
theorem pay23_read (i : Fin 1) (d : Fin 2048) : k0_pay23 (F := Ideal) (ix2 i d) = 0 := by pointwise [k0_pay23]

theorem pay24_read (x : S512x2048.Idx → EReal) (i : Fin 512) (d : Fin 2048) : k0_pay24 (F := Ideal) x (ix2 i d) = x (ix2 i d) := by
  pointwise [k0_pay24]

theorem pay28_read (dy : S512x2048.Idx → EReal) (w : S256x2048.Idx → EReal) (g u : S512x256.Idx → EReal) (i : Fin 512) (f : Fin 256) :
    k0_pay28 (F := Ideal) dy w g u (ix2 i f) = gateGrad (∑ e, dy (ix2 i e) * w (ix2 f e)) (g (ix2 i f)) (u (ix2 i f)) := by
  unfold gateGrad
  pointwise [k0_pay28, k0_pay25, k0_pay26, k0_pay27, k0_pay24]

theorem pay33_read (dy : S512x2048.Idx → EReal) (w : S256x2048.Idx → EReal) (g u : S512x256.Idx → EReal) (i : Fin 512) (f : Fin 256) :
    k0_pay33 (F := Ideal) (k0_pay24 (F := Ideal) dy) w g u (ix2 i f) = gateGrad (∑ e, dy (ix2 i e) * w (ix2 f e)) (g (ix2 i f)) (u (ix2 i f)) := by
  unfold gateGrad
  pointwise [k0_pay33, k0_pay30, k0_pay31, k0_pay32, k0_pay24]

theorem pay29_read (dy : S512x2048.Idx → EReal) (w : S256x2048.Idx → EReal) (g : S512x256.Idx → EReal) (i : Fin 512) (f : Fin 256) :
    k0_pay29 (F := Ideal) dy w g (ix2 i f) = upGrad (∑ e, dy (ix2 i e) * w (ix2 f e)) (g (ix2 i f)) := by
  unfold upGrad
  pointwise [k0_pay29, k0_pay25, k0_pay26, k0_pay27, k0_pay24]

theorem pay34_read (dy : S512x2048.Idx → EReal) (w : S256x2048.Idx → EReal) (g : S512x256.Idx → EReal) (i : Fin 512) (f : Fin 256) :
    k0_pay34 (F := Ideal) (k0_pay24 (F := Ideal) dy) w g (ix2 i f) = upGrad (∑ e, dy (ix2 i e) * w (ix2 f e)) (g (ix2 i f)) := by
  unfold upGrad
  pointwise [k0_pay34, k0_pay30, k0_pay31, k0_pay32, k0_pay24]

theorem pay35_read (a : S512x2048.Idx → EReal) (g : S512x512.Idx → EReal) (w : S512x2048.Idx → EReal) (u : S512x512.Idx → EReal)
    (v : S512x2048.Idx → EReal) (i : Fin 512) (d : Fin 2048) :
    k0_pay35 (F := Ideal) a g w u v (ix2 i d) = a (ix2 i d) + (∑ f, g (ix2 i f) * w (ix2 f d) + ∑ f, u (ix2 i f) * v (ix2 f d)) := by
  pointwise [k0_pay35]

theorem pay4_read (x : S128x2048.Idx → EReal) (n : S1x2048.Idx → EReal) (h o : S128x2048.Idx → EReal) (i : Fin 128) (d : Fin 2048) :
    k0_pay4 (F := Ideal) x n h o (ix2 i d)
      = normRow (fun e => x (ix2 i e)) (fun e => n (ix2 0 e)) (fun e => h (ix2 i e)) (fun e => o (ix2 i e)) d := by
  unfold normRow invRms width small
  pointwise [k0_pay4, k0_pay1, k0_pay2, k0_pay3]

theorem pay5_read (x h : S128x2048.Idx → EReal) (g : S1x2048.Idx → EReal) (i : Fin 1) (d : Fin 2048) :
    k0_pay5 (F := Ideal) x h g (ix2 i d)
      = g (ix2 i d) + ∑ r : Fin 128, h (ix2 r d) * (x (ix2 r d) * invRms fun e => x (ix2 r e)) := by
  unfold invRms width small
  pointwise [k0_pay5, k0_pay1, k0_pay2, k0_pay3]

/-! ## Windows and puts at an index -/

theorem leftHalf_read (x : S512x512.Idx → EReal) (i : Fin 512) (f : Fin 256) : leftHalf x (ix2 i f) = x (ix2 i ⟨f.val, by omega⟩) :=
  congrArg x (funext fun a => Fin.ext (by
    match a with
    | ⟨0, _⟩ => show 0 + 1 * i.val = i.val; omega
    | ⟨1, _⟩ => show 0 + 1 * f.val = f.val; omega))

theorem rightHalf_read (x : S512x512.Idx → EReal) (i : Fin 512) (f : Fin 256) : rightHalf x (ix2 i f) = x (ix2 i ⟨256 + f.val, by omega⟩) :=
  congrArg x (funext fun a => Fin.ext (by
    match a with
    | ⟨0, _⟩ => show 0 + 1 * i.val = i.val; omega
    | ⟨1, _⟩ => show 256 + 1 * f.val = 256 + f.val; omega))

theorem upperHalf_read (x : S512x2048.Idx → EReal) (f : Fin 256) (d : Fin 2048) : upperHalf x (ix2 f d) = x (ix2 ⟨f.val, by omega⟩ d) :=
  congrArg x (funext fun a => Fin.ext (by
    match a with
    | ⟨0, _⟩ => show 0 + 1 * f.val = f.val; omega
    | ⟨1, _⟩ => show 0 + 1 * d.val = d.val; omega))

theorem lowerHalf_read (x : S512x2048.Idx → EReal) (f : Fin 256) (d : Fin 2048) : lowerHalf x (ix2 f d) = x (ix2 ⟨256 + f.val, by omega⟩ d) :=
  congrArg x (funext fun a => Fin.ext (by
    match a with
    | ⟨0, _⟩ => show 256 + 1 * f.val = 256 + f.val; omega
    | ⟨1, _⟩ => show 0 + 1 * d.val = d.val; omega))

/-- Row `i` of chunk `s`. -/
def chunkRow (s : Fin 4) (i : Fin 128) : Fin 512 := ⟨s.val * 128 + i.val, by omega⟩

theorem chunk_read (s : Fin 4) (x : S512x2048.Idx → EReal) (i : Fin 128) (d : Fin 2048) : chunk s x (ix2 i d) = x (ix2 (chunkRow s i) d) :=
  congrArg x (funext fun a => Fin.ext (by
    match a with
    | ⟨0, _⟩ => show 128 * s.val + 1 * i.val = s.val * 128 + i.val; omega
    | ⟨1, _⟩ => show 0 + 1 * d.val = d.val; omega))

theorem gainRow_read (x : S1x2048.Idx → EReal) (d : Fin 2048) : gainRow x (ix2 0 d) = x (ix2 0 d) :=
  congrArg x (funext fun a => Fin.ext (by
    match a with
    | ⟨0, _⟩ => rfl
    | ⟨1, _⟩ => show 0 + 1 * d.val = d.val; omega))

/-- The two halves put over a buffer, at an index: the half the column lies in. -/
theorem halves_read (z : S512x512.Idx → EReal) (w v : S512x256.Idx → EReal) (y : Fin 512 → Fin 512 → EReal)
    (hw : ∀ (i : Fin 512) (f : Fin 256), w (ix2 i f) = y i ⟨f.val, by omega⟩)
    (hv : ∀ (i : Fin 512) (f : Fin 256), v (ix2 i f) = y i ⟨256 + f.val, by omega⟩) (i f : Fin 512) :
    VecWindow.put (VecWindow.put z ![0, 0] S512x256.size w) ![0, 256] S512x256.size v (ix2 i f) = y i f := by
  by_cases hf : f.val < 256
  · have hout : ¬∀ a, (![0, 256] : Fin 2 → ℕ) a ≤ ((ix2 i f : S512x512.Idx) a).val
        ∧ ((ix2 i f : S512x512.Idx) a).val < (![0, 256] : Fin 2 → ℕ) a + S512x256.size a := fun h => by
      have h1 : 256 ≤ f.val := (h 1).1
      omega
    have hin : ∀ a, (![0, 0] : Fin 2 → ℕ) a ≤ ((ix2 i f : S512x512.Idx) a).val
        ∧ ((ix2 i f : S512x512.Idx) a).val < (![0, 0] : Fin 2 → ℕ) a + S512x256.size a := fun a => by
      match a with
      | ⟨0, _⟩ => show 0 ≤ i.val ∧ i.val < 0 + 512; omega
      | ⟨1, _⟩ => show 0 ≤ f.val ∧ f.val < 0 + 256; omega
    refine (dif_neg hout).trans ((dif_pos hin).trans ?_)
    refine Eq.trans (congrArg w (funext fun a => Fin.ext ?_)) (hw i ⟨f.val, hf⟩)
    match a with
    | ⟨0, _⟩ => show i.val - 0 = i.val; omega
    | ⟨1, _⟩ => show f.val - 0 = f.val; omega
  · have hin : ∀ a, (![0, 256] : Fin 2 → ℕ) a ≤ ((ix2 i f : S512x512.Idx) a).val
        ∧ ((ix2 i f : S512x512.Idx) a).val < (![0, 256] : Fin 2 → ℕ) a + S512x256.size a := fun a => by
      match a with
      | ⟨0, _⟩ => show 0 ≤ i.val ∧ i.val < 0 + 512; omega
      | ⟨1, _⟩ => show 256 ≤ f.val ∧ f.val < 256 + 256; omega
    refine (dif_pos hin).trans ?_
    refine Eq.trans (congrArg v (funext fun a => Fin.ext ?_)) ((hv i ⟨f.val - 256, by omega⟩).trans (congrArg (y i) (Fin.ext ?_)))
    · match a with
      | ⟨0, _⟩ => show i.val - 0 = i.val; omega
      | ⟨1, _⟩ => rfl
    · show 256 + (f.val - 256) = f.val; omega

/-- The gate's gradient block. -/
theorem dgateStep_read (dy : S512x2048.Idx → EReal) (x3 x4 : S512x512.Idx → EReal) (x7 : S512x2048.Idx → EReal) (z : S512x512.Idx → EReal)
    (i f : Fin 512) : dgateStep (F := Ideal) dy x3 x4 x7 z (ix2 i f)
      = gateGrad (∑ e, dy (ix2 i e) * x7 (ix2 f e)) (x3 (ix2 i f)) (x4 (ix2 i f)) := by
  refine halves_read z _ _ (fun i f => gateGrad (∑ e, dy (ix2 i e) * x7 (ix2 f e)) (x3 (ix2 i f)) (x4 (ix2 i f))) (fun i f => ?_) (fun i f => ?_) i f
  · refine (pay28_read _ _ _ _ i f).trans ?_
    rw [leftHalf_read, leftHalf_read]
    simp only [upperHalf_read]
  · refine (pay33_read _ _ _ _ i f).trans ?_
    rw [rightHalf_read, rightHalf_read]
    simp only [lowerHalf_read]

/-- The second factor's gradient block. -/
theorem dupStep_read (dy : S512x2048.Idx → EReal) (x3 : S512x512.Idx → EReal) (x7 : S512x2048.Idx → EReal) (z : S512x512.Idx → EReal)
    (i f : Fin 512) : dupStep (F := Ideal) dy x3 x7 z (ix2 i f) = upGrad (∑ e, dy (ix2 i e) * x7 (ix2 f e)) (x3 (ix2 i f)) := by
  refine halves_read z _ _ (fun i f => upGrad (∑ e, dy (ix2 i e) * x7 (ix2 f e)) (x3 (ix2 i f))) (fun i f => ?_) (fun i f => ?_) i f
  · refine (pay29_read _ _ _ i f).trans ?_
    rw [leftHalf_read]
    simp only [upperHalf_read]
  · refine (pay34_read _ _ _ i f).trans ?_
    rw [rightHalf_read]
    simp only [lowerHalf_read]

/-! ## The four chunks through the normalisation -/

variable (x0 x1 : S512x2048.Idx → EReal) (x2 : S1x2048.Idx → EReal)

/-- Inside chunk `s` the step is the row's normalisation … -/
theorem normStep_in (z : S512x2048.Idx → EReal) (s : Fin 4) (r : Fin 512) (hr : r.val / 128 = s.val) (d : Fin 2048) :
    normStep (F := Ideal) x0 x1 x2 z s (ix2 r d)
      = normRow (fun e => x1 (ix2 r e)) (fun e => x2 (ix2 0 e)) (fun e => z (ix2 r e)) (fun e => x0 (ix2 r e)) d := by
  have hin : ∀ a, chunkOff s a ≤ ((ix2 r d : S512x2048.Idx) a).val ∧ ((ix2 r d : S512x2048.Idx) a).val < chunkOff s a + S128x2048.size a := fun a => by
    match a with
    | ⟨0, _⟩ => show 128 * s.val ≤ r.val ∧ r.val < 128 * s.val + 128; omega
    | ⟨1, _⟩ => show 0 ≤ d.val ∧ d.val < 0 + 2048; omega
  refine (dif_pos hin).trans ?_
  have hrow : chunkRow s ⟨r.val - 128 * s.val, by omega⟩ = r := Fin.ext (by show s.val * 128 + (r.val - 128 * s.val) = r.val; omega)
  refine Eq.trans (congrArg _ (funext fun a => Fin.ext ?_)) ((pay4_read (chunk s x1) (gainRow x2) (chunk s z) (chunk s x0) ⟨r.val - 128 * s.val, by omega⟩ d).trans ?_)
  · match a with
    | ⟨0, _⟩ => rfl
    | ⟨1, _⟩ => show d.val - 0 = d.val; omega
  · simp only [chunk_read, gainRow_read, hrow]

/-- … and outside it nothing changes. -/
theorem normStep_out (z : S512x2048.Idx → EReal) (s : Fin 4) (r : Fin 512) (hr : ¬r.val / 128 = s.val) (d : Fin 2048) :
    normStep (F := Ideal) x0 x1 x2 z s (ix2 r d) = z (ix2 r d) := by
  refine dif_neg fun h => hr ?_
  have h0 : 128 * s.val ≤ r.val ∧ r.val < 128 * s.val + 128 := h 0
  omega

/-- After the four steps every row is normalised. -/
theorem normAll_read (z : S512x2048.Idx → EReal) (r : Fin 512) (d : Fin 2048) :
    normAll (F := Ideal) x0 x1 x2 z (ix2 r d)
      = normRow (fun e => x1 (ix2 r e)) (fun e => x2 (ix2 0 e)) (fun e => z (ix2 r e)) (fun e => x0 (ix2 r e)) d := by
  unfold normAll
  have hlt : r.val / 128 < 4 := by omega
  have hc : r.val / 128 = 0 ∨ r.val / 128 = 1 ∨ r.val / 128 = 2 ∨ r.val / 128 = 3 := by omega
  have out : ∀ (z' : S512x2048.Idx → EReal) (s : Fin 4), ¬r.val / 128 = s.val → ∀ e, normStep (F := Ideal) x0 x1 x2 z' s (ix2 r e) = z' (ix2 r e) :=
    fun z' s h e => normStep_out x0 x1 x2 z' s r h e
  rcases hc with h | h | h | h
  · rw [out _ 3 (by rw [h]; decide), out _ 2 (by rw [h]; decide), out _ 1 (by rw [h]; decide), normStep_in x0 x1 x2 z 0 r h]
  · rw [out _ 3 (by rw [h]; decide), out _ 2 (by rw [h]; decide), normStep_in x0 x1 x2 _ 1 r h]
    simp only [out _ 0 (show ¬r.val / 128 = (0 : Fin 4).val by rw [h]; decide)]
  · rw [out _ 3 (by rw [h]; decide), normStep_in x0 x1 x2 _ 2 r h]
    simp only [out _ 0 (show ¬r.val / 128 = (0 : Fin 4).val by rw [h]; decide), out _ 1 (show ¬r.val / 128 = (1 : Fin 4).val by rw [h]; decide)]
  · rw [normStep_in x0 x1 x2 _ 3 r h]
    simp only [out _ 0 (show ¬r.val / 128 = (0 : Fin 4).val by rw [h]; decide), out _ 1 (show ¬r.val / 128 = (1 : Fin 4).val by rw [h]; decide),
      out _ 2 (show ¬r.val / 128 = (2 : Fin 4).val by rw [h]; decide)]

/-- One row's share of the gain's gradient. -/
def gainTerm (z : S512x2048.Idx → EReal) (d : Fin 2048) (r : Fin 512) : EReal := z (ix2 r d) * (x1 (ix2 r d) * invRms fun e => x1 (ix2 r e))

theorem gainStep_read (z : S512x2048.Idx → EReal) (g : S1x2048.Idx → EReal) (s : Fin 4) (d : Fin 2048) :
    gainStep (F := Ideal) x1 z g s (ix2 0 d) = g (ix2 0 d) + ∑ i : Fin 128, gainTerm x1 z d (chunkRow s i) := by
  refine (pay5_read (chunk s x1) (chunk s z) g 0 d).trans ?_
  simp only [chunk_read]
  rfl

/-- A step of another chunk leaves a chunk's share as it was. -/
theorem gainTerm_out (z : S512x2048.Idx → EReal) (d : Fin 2048) (s s' : Fin 4) (h : s' ≠ s) (i : Fin 128) :
    gainTerm x1 (normStep (F := Ideal) x0 x1 x2 z s') d (chunkRow s i) = gainTerm x1 z d (chunkRow s i) := by
  unfold gainTerm
  rw [normStep_out x0 x1 x2 z s' (chunkRow s i) (fun e => h (Fin.ext (by
    have e' : (s.val * 128 + i.val) / 128 = s'.val := e
    omega))) d]

/-- After the four steps the gain's gradient has every row's share. -/
theorem gainAll_read (z : S512x2048.Idx → EReal) (g : S1x2048.Idx → EReal) (d : Fin 2048) :
    gainAll (F := Ideal) x0 x1 x2 z g (ix2 0 d) = g (ix2 0 d) + ∑ r : Fin 512, gainTerm x1 z d r := by
  unfold gainAll
  rw [gainStep_read, gainStep_read, gainStep_read, gainStep_read]
  simp only [gainTerm_out x0 x1 x2 _ d 3 2 (by decide), gainTerm_out x0 x1 x2 _ d 3 1 (by decide), gainTerm_out x0 x1 x2 _ d 3 0 (by decide),
    gainTerm_out x0 x1 x2 _ d 2 1 (by decide), gainTerm_out x0 x1 x2 _ d 2 0 (by decide), gainTerm_out x0 x1 x2 _ d 1 0 (by decide)]
  have e : ∑ s : Fin 4, ∑ i : Fin 128, gainTerm x1 z d (chunkRow s i) = ∑ r : Fin 512, gainTerm x1 z d r :=
    Fin.sum_mul_add_congr fun s i hl => rfl
  rw [← e, Fin.sum_univ_four]
  simp only [add_assoc]

end Cert.Kernel3Ideal.Gen

end
-- ==== Proof.FfnInputBody.lean ====
module

public import proofs.«01_k».proof.Proof.Gen.Kernel3Ideal.Frame
public import proofs.«01_k».proof.Proof.FfnInputStep

/-! # The body of the half step's gradient at one grid point

Four cases, by where the point lies in its row block. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Two halves put side by side leave nothing of what was there before. -/
theorem put_halves {α : Type} (d d' : S512x512.Idx → α) (a b : S512x256.Idx → α) :
    VecWindow.put (VecWindow.put d ![0, 0] S512x256.size a) ![0, 256] S512x256.size b
      = VecWindow.put (VecWindow.put d' ![0, 0] S512x256.size a) ![0, 256] S512x256.size b := by
  funext y
  have h0 : (y 0).val < 512 := (y 0).isLt
  have h1 : (y 1).val < 512 := (y 1).isLt
  unfold VecWindow.put
  by_cases hr : ∀ x : Fin 2, (![0, 256] : Fin 2 → ℕ) x ≤ (y x).val ∧ (y x).val < (![0, 256] : Fin 2 → ℕ) x + S512x256.size x
  · rw [dif_pos hr, dif_pos hr]
  · rw [dif_neg hr, dif_neg hr]
    by_cases hl : ∀ x : Fin 2, (![0, 0] : Fin 2 → ℕ) x ≤ (y x).val ∧ (y x).val < (![0, 0] : Fin 2 → ℕ) x + S512x256.size x
    · rw [dif_pos hl, dif_pos hl]
    · exfalso
      by_cases hc : (y 1).val < 256
      · refine hl fun x => ?_
        fin_cases x
        · show 0 ≤ (y 0).val ∧ (y 0).val < 0 + 512; omega
        · show 0 ≤ (y 1).val ∧ (y 1).val < 0 + 256; omega
      · refine hr fun x => ?_
        fin_cases x
        · show 0 ≤ (y 0).val ∧ (y 0).val < 0 + 512; omega
        · show 256 ≤ (y 1).val ∧ (y 1).val < 256 + 256; omega

/-- The two stores of the gate's gradient. -/
theorem gate_stores {dy dy' : Vec F S512x2048 .bf16} (x3 x4 : Vec F S512x512 .bf16) (x7 : Vec F S512x2048 .bf16) (d : Vec F S512x512 .bf16)
    (v : View sig .tc .vmem S512x512 .bf16) (f : v.ty.Contents (Elt F)) (h : dy' = dy) :
    v.read (Elt F) (v.writes (Elt F) f
      [⟨Rect.unit ![0, 256] S512x256.size inb_S512x512_S512x256_0_256, k0_pay33 (k0_pay24 dy') (lowerHalf x7) (rightHalf x3) (rightHalf x4)⟩,
       ⟨Rect.unit ![0, 0] S512x256.size inb_S512x512_S512x256_0_0, k0_pay28 dy' (upperHalf x7) (leftHalf x3) (leftHalf x4)⟩])
      = dgateStep dy x3 x4 x7 d := by
  subst h
  rw [View.read_writes_cons_put v f _ _ _ rfl, View.read_writes_cons_put v f _ _ _ rfl]
  exact put_halves _ _ _ _

/-- The same read back by a load of the whole block. -/
theorem gate_cov {dy dy' : Vec F S512x2048 .bf16} (x3 x4 : Vec F S512x512 .bf16) (x7 : Vec F S512x2048 .bf16) (d : Vec F S512x512 .bf16)
    (v : View sig .tc .vmem S512x512 .bf16) (h : dy' = dy) :
    v.readCov
      [⟨Rect.unit ![0, 256] S512x256.size inb_S512x512_S512x256_0_256, k0_pay33 (k0_pay24 dy') (lowerHalf x7) (rightHalf x3) (rightHalf x4)⟩,
       ⟨Rect.unit ![0, 0] S512x256.size inb_S512x512_S512x256_0_0, k0_pay28 dy' (upperHalf x7) (leftHalf x3) (leftHalf x4)⟩]
      (Rect.unit ![0, 0] S512x512.size inb_S512x512_S512x512_0_0).toLoadRect = dgateStep dy x3 x4 x7 d :=
  (View.readAt_full v _ _).trans (gate_stores x3 x4 x7 d v v.junk h)

/-- The two stores of the up projection's gradient. -/
theorem up_stores {dy dy' : Vec F S512x2048 .bf16} (x3 : Vec F S512x512 .bf16) (x7 : Vec F S512x2048 .bf16) (d : Vec F S512x512 .bf16)
    (v : View sig .tc .vmem S512x512 .bf16) (f : v.ty.Contents (Elt F)) (h : dy' = dy) :
    v.read (Elt F) (v.writes (Elt F) f
      [⟨Rect.unit ![0, 256] S512x256.size inb_S512x512_S512x256_0_256, k0_pay34 (k0_pay24 dy') (lowerHalf x7) (rightHalf x3)⟩,
       ⟨Rect.unit ![0, 0] S512x256.size inb_S512x512_S512x256_0_0, k0_pay29 dy' (upperHalf x7) (leftHalf x3)⟩])
      = dupStep dy x3 x7 d := by
  subst h
  rw [View.read_writes_cons_put v f _ _ _ rfl, View.read_writes_cons_put v f _ _ _ rfl]
  exact put_halves _ _ _ _

/-- The same read back by a load of the whole block. -/
theorem up_cov {dy dy' : Vec F S512x2048 .bf16} (x3 : Vec F S512x512 .bf16) (x7 : Vec F S512x2048 .bf16) (d : Vec F S512x512 .bf16)
    (v : View sig .tc .vmem S512x512 .bf16) (h : dy' = dy) :
    v.readCov
      [⟨Rect.unit ![0, 256] S512x256.size inb_S512x512_S512x256_0_256, k0_pay34 (k0_pay24 dy') (lowerHalf x7) (rightHalf x3)⟩,
       ⟨Rect.unit ![0, 0] S512x256.size inb_S512x512_S512x256_0_0, k0_pay29 dy' (upperHalf x7) (leftHalf x3)⟩]
      (Rect.unit ![0, 0] S512x512.size inb_S512x512_S512x512_0_0).toLoadRect = dupStep dy x3 x7 d :=
  (View.readAt_full v _ _).trans (up_stores x3 x7 d v v.junk h)

/-- The store of the input gradient's running sum, whatever stores lie under it. -/
theorem acc_store {acc acc' : Vec F S512x2048 .f32} {dg dg' du du' : Vec F S512x512 .bf16} {w5 w5' w6 w6' : Vec F S512x2048 .bf16}
    {v : View sig .tc .vmem S512x2048 .f32} {L : List (View.Piece (Elt F) S512x2048 .f32)}
    (ha : acc' = acc) (hg : dg' = dg) (h5 : w5' = w5) (hu : du' = du) (h6 : w6' = w6) (f : v.ty.Contents (Elt F)) :
    v.read (Elt F) (v.writes (Elt F) f (⟨Rect.unit ![0, 0] S512x2048.size inb_S512x2048_S512x2048_0_0, k0_pay35 acc' dg' w5' du' w6'⟩ :: L))
      = k0_pay35 acc dg w5 du w6 := by
  subst ha hg h5 hu h6
  exact View.read_writes_full v f _ _ L

/-- The input gradient's buffer after one more chunk's store. -/
theorem norm_cons (x0 x1 : Vec F S512x2048 .f32) (x2 : Vec F S1x2048 .f32) {d : Vec F S512x2048 .f32} {v : View sig .tc .vmem S512x2048 .f32}
    {L : List (View.Piece (Elt F) S512x2048 .f32)} (s : Fin 4) (h : ∀ f, v.read (Elt F) (v.writes (Elt F) f L) = d) (f : v.ty.Contents (Elt F)) :
    v.read (Elt F) (v.writes (Elt F) f (⟨Rect.unit (chunkOff s) S128x2048.size (chunkOff_inb s),
      k0_pay4 (chunk s x1) (gainRow x2) (v.readCov L (Rect.unit (s := S512x2048) (chunkOff s) S128x2048.size (chunkOff_inb s)).toLoadRect) (chunk s x0)⟩ :: L))
      = normStep x0 x1 x2 d s := by
  unfold View.readCov
  rw [View.read_writes_cons_put v f _ _ L rfl, h, View.readAt_unit v _ _ rfl (chunkOff_inb s), h]; rfl

/-- One chunk's share added to the gain gradient. -/
theorem gain_val (x1 : Vec F S512x2048 .f32) {d : Vec F S512x2048 .f32} {g g' : Vec F S1x2048 .f32} {v : View sig .tc .vmem S512x2048 .f32}
    {L : List (View.Piece (Elt F) S512x2048 .f32)} (s : Fin 4) (h : ∀ f, v.read (Elt F) (v.writes (Elt F) f L) = d) (hg : g' = g) :
    k0_pay5 (chunk s x1) (v.readCov L (Rect.unit (s := S512x2048) (chunkOff s) S128x2048.size (chunkOff_inb s)).toLoadRect) g'
      = gainStep x1 d g s := by
  subst hg
  unfold View.readCov
  rw [View.readAt_unit v _ _ rfl (chunkOff_inb s), h]; rfl

set_option maxHeartbeats 1000000 in
/-- The body at the first point of all. -/
theorem body_start (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x2048 .bf16) (harg13 : arg13.IsWhole) (arg14 : Memref sig .tc .vmem S1x2048 .f32) (harg14 : arg14.IsWhole) (hc0 : k0_cond1 i = 1#1) (hc1 : k0_cond2 i = 1#1) (hc2 : ¬k0_cond3 i = 1#1)
    (x0 : Vec F S512x2048 .f32) (x1 : Vec F S512x2048 .f32) (x2 : Vec F S1x2048 .f32) (x3 : Vec F S512x512 .bf16) (x4 : Vec F S512x512 .bf16) (x5 : Vec F S512x2048 .bf16) (x6 : Vec F S512x2048 .bf16) (x7 : Vec F S512x2048 .bf16) (d8 : Vec F S512x2048 .f32) (d9 : Vec F S512x512 .bf16) (d10 : Vec F S512x512 .bf16) (d11 : Vec F S512x2048 .bf16) (d12 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay35 k0_pay22 (dgateStep (k0_pay21 x0) x3 x4 x7 d9) x5 (dupStep (k0_pay21 x0) x3 x7 d10) x6) ∗ owns (c : Thread nD τ) arg11 fullShare (dgateStep (k0_pay21 x0) x3 x4 x7 d9) ∗ owns (c : Thread nD τ) arg12 fullShare (dupStep (k0_pay21 x0) x3 x7 d10) ∗ owns (c : Thread nD τ) arg13 fullShare (k0_pay21 x0) ∗ owns (c : Thread nD τ) arg14 fullShare k0_pay23) -∗ K ⟨⟩))
          ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
    intro E K
    simp only [cc0_ffn_bwd_x_eq_skeleton]; unfold cc0_ffn_bwd_x_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    subst hf0 hf1 hf2 hf3 hf4 hf5 hf6 hf7 hf8 hf9 hf10 hf11 hf12
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro
      refine acc_store ?_ ?_ ?_ ?_ ?_ _
      · exact View.readCov_full _ _ _ _ _
      · exact gate_cov (arg5.view.read (Elt F) f3) (arg6.view.read (Elt F) f4) (arg9.view.read (Elt F) f7) (arg11.view.read (Elt F) f9) _ (by refine (View.readCov_full _ _ _ _ _).trans ?_; exact congrArg k0_pay21 (View.readAt_full _ _ _))
      · exact View.readAt_full _ _ _
      · exact up_cov (arg5.view.read (Elt F) f3) (arg9.view.read (Elt F) f7) (arg12.view.read (Elt F) f10) _ (by refine (View.readCov_full _ _ _ _ _).trans ?_; exact congrArg k0_pay21 (View.readAt_full _ _ _))
      · exact View.readAt_full _ _ _
    isplitl [H9]
    · iexists _; isplitr; swap; · iexact H9
      ipureintro
      exact gate_stores (arg5.view.read (Elt F) f3) (arg6.view.read (Elt F) f4) (arg9.view.read (Elt F) f7) (arg11.view.read (Elt F) f9) _ _ (by refine (View.readCov_full _ _ _ _ _).trans ?_; exact congrArg k0_pay21 (View.readAt_full _ _ _))
    isplitl [H10]
    · iexists _; isplitr; swap; · iexact H10
      ipureintro
      exact up_stores (arg5.view.read (Elt F) f3) (arg9.view.read (Elt F) f7) (arg12.view.read (Elt F) f10) _ _ (by refine (View.readCov_full _ _ _ _ _).trans ?_; exact congrArg k0_pay21 (View.readAt_full _ _ _))
    isplitl [H11]
    · iexists _; isplitr; swap; · iexact H11
      ipureintro
      exact (View.read_writes_full _ _ _ _ _).trans (congrArg k0_pay21 (View.readAt_full _ _ _))
    iexists _; isplitr; swap; · iexact H12
    ipureintro
    exact View.read_writes_full _ _ _ _ _

set_option maxHeartbeats 1000000 in
/-- The body at a row block's first point. -/
theorem body_open (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x2048 .bf16) (harg13 : arg13.IsWhole) (arg14 : Memref sig .tc .vmem S1x2048 .f32) (harg14 : arg14.IsWhole) (hc0 : k0_cond1 i = 1#1) (hc1 : ¬k0_cond2 i = 1#1) (hc2 : ¬k0_cond3 i = 1#1)
    (x0 : Vec F S512x2048 .f32) (x1 : Vec F S512x2048 .f32) (x2 : Vec F S1x2048 .f32) (x3 : Vec F S512x512 .bf16) (x4 : Vec F S512x512 .bf16) (x5 : Vec F S512x2048 .bf16) (x6 : Vec F S512x2048 .bf16) (x7 : Vec F S512x2048 .bf16) (d8 : Vec F S512x2048 .f32) (d9 : Vec F S512x512 .bf16) (d10 : Vec F S512x512 .bf16) (d11 : Vec F S512x2048 .bf16) (d12 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay35 k0_pay22 (dgateStep (k0_pay21 x0) x3 x4 x7 d9) x5 (dupStep (k0_pay21 x0) x3 x7 d10) x6) ∗ owns (c : Thread nD τ) arg11 fullShare (dgateStep (k0_pay21 x0) x3 x4 x7 d9) ∗ owns (c : Thread nD τ) arg12 fullShare (dupStep (k0_pay21 x0) x3 x7 d10) ∗ owns (c : Thread nD τ) arg13 fullShare (k0_pay21 x0) ∗ owns (c : Thread nD τ) arg14 fullShare d12) -∗ K ⟨⟩))
          ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
    intro E K
    simp only [cc0_ffn_bwd_x_eq_skeleton]; unfold cc0_ffn_bwd_x_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    subst hf0 hf1 hf2 hf3 hf4 hf5 hf6 hf7 hf8 hf9 hf10 hf11 hf12
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro
      refine acc_store ?_ ?_ ?_ ?_ ?_ _
      · exact View.readCov_full _ _ _ _ _
      · exact gate_cov (arg5.view.read (Elt F) f3) (arg6.view.read (Elt F) f4) (arg9.view.read (Elt F) f7) (arg11.view.read (Elt F) f9) _ (by refine (View.readCov_full _ _ _ _ _).trans ?_; exact congrArg k0_pay21 (View.readAt_full _ _ _))
      · exact View.readAt_full _ _ _
      · exact up_cov (arg5.view.read (Elt F) f3) (arg9.view.read (Elt F) f7) (arg12.view.read (Elt F) f10) _ (by refine (View.readCov_full _ _ _ _ _).trans ?_; exact congrArg k0_pay21 (View.readAt_full _ _ _))
      · exact View.readAt_full _ _ _
    isplitl [H9]
    · iexists _; isplitr; swap; · iexact H9
      ipureintro
      exact gate_stores (arg5.view.read (Elt F) f3) (arg6.view.read (Elt F) f4) (arg9.view.read (Elt F) f7) (arg11.view.read (Elt F) f9) _ _ (by refine (View.readCov_full _ _ _ _ _).trans ?_; exact congrArg k0_pay21 (View.readAt_full _ _ _))
    isplitl [H10]
    · iexists _; isplitr; swap; · iexact H10
      ipureintro
      exact up_stores (arg5.view.read (Elt F) f3) (arg9.view.read (Elt F) f7) (arg12.view.read (Elt F) f10) _ _ (by refine (View.readCov_full _ _ _ _ _).trans ?_; exact congrArg k0_pay21 (View.readAt_full _ _ _))
    isplitl [H11]
    · iexists _; isplitr; swap; · iexact H11
      ipureintro
      exact (View.read_writes_full _ _ _ _ _).trans (congrArg k0_pay21 (View.readAt_full _ _ _))
    iexists _; isplitr; swap; · iexact H12
    ipureintro
    rfl

set_option maxHeartbeats 1000000 in
/-- The body at a point between a row block's first and last. -/
theorem body_mid (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x2048 .bf16) (harg13 : arg13.IsWhole) (arg14 : Memref sig .tc .vmem S1x2048 .f32) (harg14 : arg14.IsWhole) (hc0 : ¬k0_cond1 i = 1#1) (hc1 : ¬k0_cond2 i = 1#1) (hc2 : ¬k0_cond3 i = 1#1)
    (x0 : Vec F S512x2048 .f32) (x1 : Vec F S512x2048 .f32) (x2 : Vec F S1x2048 .f32) (x3 : Vec F S512x512 .bf16) (x4 : Vec F S512x512 .bf16) (x5 : Vec F S512x2048 .bf16) (x6 : Vec F S512x2048 .bf16) (x7 : Vec F S512x2048 .bf16) (d8 : Vec F S512x2048 .f32) (d9 : Vec F S512x512 .bf16) (d10 : Vec F S512x512 .bf16) (d11 : Vec F S512x2048 .bf16) (d12 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay35 d8 (dgateStep d11 x3 x4 x7 d9) x5 (dupStep d11 x3 x7 d10) x6) ∗ owns (c : Thread nD τ) arg11 fullShare (dgateStep d11 x3 x4 x7 d9) ∗ owns (c : Thread nD τ) arg12 fullShare (dupStep d11 x3 x7 d10) ∗ owns (c : Thread nD τ) arg13 fullShare d11 ∗ owns (c : Thread nD τ) arg14 fullShare d12) -∗ K ⟨⟩))
          ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
    intro E K
    simp only [cc0_ffn_bwd_x_eq_skeleton]; unfold cc0_ffn_bwd_x_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    subst hf0 hf1 hf2 hf3 hf4 hf5 hf6 hf7 hf8 hf9 hf10 hf11 hf12
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro
      refine acc_store ?_ ?_ ?_ ?_ ?_ _
      · exact View.readAt_full _ _ _
      · exact gate_cov (arg5.view.read (Elt F) f3) (arg6.view.read (Elt F) f4) (arg9.view.read (Elt F) f7) (arg11.view.read (Elt F) f9) _ (View.readAt_full _ _ _)
      · exact View.readAt_full _ _ _
      · exact up_cov (arg5.view.read (Elt F) f3) (arg9.view.read (Elt F) f7) (arg12.view.read (Elt F) f10) _ (View.readAt_full _ _ _)
      · exact View.readAt_full _ _ _
    isplitl [H9]
    · iexists _; isplitr; swap; · iexact H9
      ipureintro
      exact gate_stores (arg5.view.read (Elt F) f3) (arg6.view.read (Elt F) f4) (arg9.view.read (Elt F) f7) (arg11.view.read (Elt F) f9) _ _ (View.readAt_full _ _ _)
    isplitl [H10]
    · iexists _; isplitr; swap; · iexact H10
      ipureintro
      exact up_stores (arg5.view.read (Elt F) f3) (arg9.view.read (Elt F) f7) (arg12.view.read (Elt F) f10) _ _ (View.readAt_full _ _ _)
    isplitl [H11]
    · iexists _; isplitr; swap; · iexact H11
      ipureintro
      rfl
    iexists _; isplitr; swap; · iexact H12
    ipureintro
    rfl

set_option maxHeartbeats 1000000 in
/-- The body at a row block's last point. -/
theorem body_close (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x2048 .bf16) (harg13 : arg13.IsWhole) (arg14 : Memref sig .tc .vmem S1x2048 .f32) (harg14 : arg14.IsWhole) (hc0 : ¬k0_cond1 i = 1#1) (hc1 : ¬k0_cond2 i = 1#1) (hc2 : k0_cond3 i = 1#1)
    (x0 : Vec F S512x2048 .f32) (x1 : Vec F S512x2048 .f32) (x2 : Vec F S1x2048 .f32) (x3 : Vec F S512x512 .bf16) (x4 : Vec F S512x512 .bf16) (x5 : Vec F S512x2048 .bf16) (x6 : Vec F S512x2048 .bf16) (x7 : Vec F S512x2048 .bf16) (d8 : Vec F S512x2048 .f32) (d9 : Vec F S512x512 .bf16) (d10 : Vec F S512x512 .bf16) (d11 : Vec F S512x2048 .bf16) (d12 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (normAll x0 x1 x2 (k0_pay35 d8 (dgateStep d11 x3 x4 x7 d9) x5 (dupStep d11 x3 x7 d10) x6)) ∗ owns (c : Thread nD τ) arg11 fullShare (dgateStep d11 x3 x4 x7 d9) ∗ owns (c : Thread nD τ) arg12 fullShare (dupStep d11 x3 x7 d10) ∗ owns (c : Thread nD τ) arg13 fullShare d11 ∗ owns (c : Thread nD τ) arg14 fullShare (gainAll x0 x1 x2 (k0_pay35 d8 (dgateStep d11 x3 x4 x7 d9) x5 (dupStep d11 x3 x7 d10) x6) d12)) -∗ K ⟨⟩))
          ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14) K := by
    intro E K
    simp only [cc0_ffn_bwd_x_eq_skeleton]; unfold cc0_ffn_bwd_x_skel
    simp only [k0_part4_eq_skeleton, k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    subst hf0 hf1 hf2 hf3 hf4 hf5 hf6 hf7 hf8 hf9 hf10 hf11 hf12
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro
      refine norm_cons (arg2.view.read (Elt F) f0) (arg3.view.read (Elt F) f1) (arg4.view.read (Elt F) f2) 3 (fun f => ?_) _
      refine norm_cons (arg2.view.read (Elt F) f0) (arg3.view.read (Elt F) f1) (arg4.view.read (Elt F) f2) 2 (fun f => ?_) f
      refine norm_cons (arg2.view.read (Elt F) f0) (arg3.view.read (Elt F) f1) (arg4.view.read (Elt F) f2) 1 (fun f => ?_) f
      refine norm_cons (arg2.view.read (Elt F) f0) (arg3.view.read (Elt F) f1) (arg4.view.read (Elt F) f2) 0 (fun f => ?_) f
      refine acc_store ?_ ?_ ?_ ?_ ?_ f
      · exact View.readAt_full _ _ _
      · exact gate_cov (arg5.view.read (Elt F) f3) (arg6.view.read (Elt F) f4) (arg9.view.read (Elt F) f7) (arg11.view.read (Elt F) f9) _ (View.readAt_full _ _ _)
      · exact View.readAt_full _ _ _
      · exact up_cov (arg5.view.read (Elt F) f3) (arg9.view.read (Elt F) f7) (arg12.view.read (Elt F) f10) _ (View.readAt_full _ _ _)
      · exact View.readAt_full _ _ _
    isplitl [H9]
    · iexists _; isplitr; swap; · iexact H9
      ipureintro
      exact gate_stores (arg5.view.read (Elt F) f3) (arg6.view.read (Elt F) f4) (arg9.view.read (Elt F) f7) (arg11.view.read (Elt F) f9) _ _ (View.readAt_full _ _ _)
    isplitl [H10]
    · iexists _; isplitr; swap; · iexact H10
      ipureintro
      exact up_stores (arg5.view.read (Elt F) f3) (arg9.view.read (Elt F) f7) (arg12.view.read (Elt F) f10) _ _ (View.readAt_full _ _ _)
    isplitl [H11]
    · iexists _; isplitr; swap; · iexact H11
      ipureintro
      rfl
    iexists _; isplitr; swap; · iexact H12
    ipureintro
    refine (View.read_writes_full _ _ _ _ _).trans (gain_val (arg3.view.read (Elt F) f1) 3 (fun f => ?_) ?_)
    · refine norm_cons (arg2.view.read (Elt F) f0) (arg3.view.read (Elt F) f1) (arg4.view.read (Elt F) f2) 2 (fun f => ?_) f
      refine norm_cons (arg2.view.read (Elt F) f0) (arg3.view.read (Elt F) f1) (arg4.view.read (Elt F) f2) 1 (fun f => ?_) f
      refine norm_cons (arg2.view.read (Elt F) f0) (arg3.view.read (Elt F) f1) (arg4.view.read (Elt F) f2) 0 (fun f => ?_) f
      refine acc_store ?_ ?_ ?_ ?_ ?_ f
      · exact View.readAt_full _ _ _
      · exact gate_cov (arg5.view.read (Elt F) f3) (arg6.view.read (Elt F) f4) (arg9.view.read (Elt F) f7) (arg11.view.read (Elt F) f9) _ (View.readAt_full _ _ _)
      · exact View.readAt_full _ _ _
      · exact up_cov (arg5.view.read (Elt F) f3) (arg9.view.read (Elt F) f7) (arg12.view.read (Elt F) f10) _ (View.readAt_full _ _ _)
      · exact View.readAt_full _ _ _
    refine (View.readCov_full _ _ _ _ _).trans (gain_val (arg3.view.read (Elt F) f1) 2 (fun f => ?_) ?_)
    · refine norm_cons (arg2.view.read (Elt F) f0) (arg3.view.read (Elt F) f1) (arg4.view.read (Elt F) f2) 1 (fun f => ?_) f
      refine norm_cons (arg2.view.read (Elt F) f0) (arg3.view.read (Elt F) f1) (arg4.view.read (Elt F) f2) 0 (fun f => ?_) f
      refine acc_store ?_ ?_ ?_ ?_ ?_ f
      · exact View.readAt_full _ _ _
      · exact gate_cov (arg5.view.read (Elt F) f3) (arg6.view.read (Elt F) f4) (arg9.view.read (Elt F) f7) (arg11.view.read (Elt F) f9) _ (View.readAt_full _ _ _)
      · exact View.readAt_full _ _ _
      · exact up_cov (arg5.view.read (Elt F) f3) (arg9.view.read (Elt F) f7) (arg12.view.read (Elt F) f10) _ (View.readAt_full _ _ _)
      · exact View.readAt_full _ _ _
    refine (View.readCov_full _ _ _ _ _).trans (gain_val (arg3.view.read (Elt F) f1) 1 (fun f => ?_) ?_)
    · refine norm_cons (arg2.view.read (Elt F) f0) (arg3.view.read (Elt F) f1) (arg4.view.read (Elt F) f2) 0 (fun f => ?_) f
      refine acc_store ?_ ?_ ?_ ?_ ?_ f
      · exact View.readAt_full _ _ _
      · exact gate_cov (arg5.view.read (Elt F) f3) (arg6.view.read (Elt F) f4) (arg9.view.read (Elt F) f7) (arg11.view.read (Elt F) f9) _ (View.readAt_full _ _ _)
      · exact View.readAt_full _ _ _
      · exact up_cov (arg5.view.read (Elt F) f3) (arg9.view.read (Elt F) f7) (arg12.view.read (Elt F) f10) _ (View.readAt_full _ _ _)
      · exact View.readAt_full _ _ _
    refine (View.readCov_full _ _ _ _ _).trans (gain_val (arg3.view.read (Elt F) f1) 0 (fun f => ?_) ?_)
    · refine acc_store ?_ ?_ ?_ ?_ ?_ f
      · exact View.readAt_full _ _ _
      · exact gate_cov (arg5.view.read (Elt F) f3) (arg6.view.read (Elt F) f4) (arg9.view.read (Elt F) f7) (arg11.view.read (Elt F) f9) _ (View.readAt_full _ _ _)
      · exact View.readAt_full _ _ _
      · exact up_cov (arg5.view.read (Elt F) f3) (arg9.view.read (Elt F) f7) (arg12.view.read (Elt F) f10) _ (View.readAt_full _ _ _)
      · exact View.readAt_full _ _ _
    exact View.readAt_full _ _ _

end Cert.Kernel3Ideal.Gen

end
-- ==== Proof.FfnInputRun.lean ====
module

public import proofs.«01_k».proof.Proof.FfnInputBody
public import Idealize.ShloMosaic.Lib.WordCmp
public import Idealize.ShloMosaic.Lib.Claim
public import Idealize.ShloMosaic.Lib.Pipeline.TableIdle

/-! # The run of the half step's gradient

What the five output buffers hold after each grid point, and the whole run from it. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point opens its row block when its number is divisible by eleven. -/
theorem opens_iff : ∀ t : Fin cfg0.N, k0_cond1 (grid0.coords t) = 1#1 ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- Only the first point of all starts the gain gradient. -/
theorem starts_iff : ∀ t : Fin cfg0.N, k0_cond2 (grid0.coords t) = 1#1 ↔ t.val % 176 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond2, e0, e1]
    word_cmp
   : ∀ t : Fin grid0.N, k0_cond2 (grid0.coords t) = 1#1 ↔ t.val % 176 = 0)

/-- A point closes its row block when its number is ten more than a multiple of eleven. -/
theorem closes_iff : ∀ t : Fin cfg0.N, k0_cond3 (grid0.coords t) = 1#1 ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond3, e0, e1]
    word_cmp
   : ∀ t : Fin grid0.N, k0_cond3 (grid0.coords t) = 1#1 ↔ t.val % 11 = 10)

/-- The narrowed output gradient's block after point `n`: made where a row block opens, left alone after. -/
def dyAt (c : Dev nD) : (n : ℕ) → n < cfg0.N → Vec F S512x2048 .bf16
  | 0, h => k0_pay21 (iblk m c 0 ⟨0, h⟩)
  | n + 1, h => if (n + 1) % 11 = 0 then k0_pay21 (iblk m c 0 ⟨n + 1, h⟩) else dyAt c n (Nat.lt_of_succ_lt h)

/-- The gate gradient's block after point `t`. -/
def dgateAt (c : Dev nD) (t : Fin cfg0.N) : Vec F S512x512 .bf16 :=
  dgateStep (dyAt m c t.val t.isLt) (iblk m c 3 t) (iblk m c 4 t) (iblk m c 7 t) (iblk m c 3 t)

/-- The up gradient's block after point `t`. -/
def dupAt (c : Dev nD) (t : Fin cfg0.N) : Vec F S512x512 .bf16 :=
  dupStep (dyAt m c t.val t.isLt) (iblk m c 3 t) (iblk m c 7 t) (iblk m c 3 t)

/-- The input gradient's running sum after point `n`, from zero where a row block opens. -/
def accAt (c : Dev nD) : (n : ℕ) → n < cfg0.N → Vec F S512x2048 .f32
  | 0, h => k0_pay35 k0_pay22 (dgateAt m c ⟨0, h⟩) (iblk m c 5 ⟨0, h⟩) (dupAt m c ⟨0, h⟩) (iblk m c 6 ⟨0, h⟩)
  | n + 1, h => k0_pay35 (if (n + 1) % 11 = 0 then k0_pay22 else accAt c n (Nat.lt_of_succ_lt h))
      (dgateAt m c ⟨n + 1, h⟩) (iblk m c 5 ⟨n + 1, h⟩) (dupAt m c ⟨n + 1, h⟩) (iblk m c 6 ⟨n + 1, h⟩)

/-- The input gradient's block after point `t`: the sum, taken through the normalisation where the row block closes. -/
def dxiAt (c : Dev nD) (t : Fin cfg0.N) : Vec F S512x2048 .f32 :=
  if t.val % 11 = 10 then normAll (iblk m c 0 t) (iblk m c 1 t) (iblk m c 2 t) (accAt m c t.val t.isLt) else accAt m c t.val t.isLt

/-- The gain gradient's row after point `n`: each closing row block adds its share. -/
def gainAt (c : Dev nD) : (n : ℕ) → n < cfg0.N → Vec F S1x2048 .f32
  | 0, _ => k0_pay23
  | n + 1, h => if (n + 1) % 11 = 10 then
        gainAll (iblk m c 0 ⟨n + 1, h⟩) (iblk m c 1 ⟨n + 1, h⟩) (iblk m c 2 ⟨n + 1, h⟩) (accAt m c (n + 1) h) (gainAt c n (Nat.lt_of_succ_lt h))
      else gainAt c n (Nat.lt_of_succ_lt h)

/-- The proof data: inputs stay at their blocks, outputs end as the functions above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxiAt m c t
    | ⟨9, _⟩ => dgateAt m c t
    | ⟨10, _⟩ => dupAt m c t
    | ⟨11, _⟩ => dyAt m c t.val t.isLt
    | ⟨12, _⟩ => gainAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dxiAt m c t := by dsimp only [dats]
theorem after0_9 (c : Dev nD) (t : Fin cfg0.N) : (dats m 0 c).after 9 t = dgateAt m c t := by dsimp only [dats]
theorem after0_10 (c : Dev nD) (t : Fin cfg0.N) : (dats m 0 c).after 10 t = dupAt m c t := by dsimp only [dats]
theorem after0_11 (c : Dev nD) (t : Fin cfg0.N) : (dats m 0 c).after 11 t = dyAt m c t.val t.isLt := by dsimp only [dats]
theorem after0_12 (c : Dev nD) (t : Fin cfg0.N) : (dats m 0 c).after 12 t = gainAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem dyAt_open (c : Dev nD) (t : Fin cfg0.N) (h : t.val % 11 = 0) : dyAt m c t.val t.isLt = k0_pay21 (iblk m c 0 t) := by
  obtain ⟨n, hn⟩ := t
  cases n with
  | zero => rfl
  | succ n => unfold dyAt; exact if_pos h

theorem dyAt_rest (c : Dev nD) (n : ℕ) (hn : n + 1 < cfg0.N) (h : ¬(n + 1) % 11 = 0) : dyAt m c (n + 1) hn = dyAt m c n (Nat.lt_of_succ_lt hn) := by
  conv_lhs => unfold dyAt
  exact if_neg h

theorem accAt_open (c : Dev nD) (t : Fin cfg0.N) (h : t.val % 11 = 0) :
    accAt m c t.val t.isLt = k0_pay35 k0_pay22 (dgateAt m c t) (iblk m c 5 t) (dupAt m c t) (iblk m c 6 t) := by
  obtain ⟨n, hn⟩ := t
  cases n with
  | zero => rfl
  | succ n => unfold accAt; rw [if_pos h]

theorem accAt_rest (c : Dev nD) (n : ℕ) (hn : n + 1 < cfg0.N) (h : ¬(n + 1) % 11 = 0) :
    accAt m c (n + 1) hn = k0_pay35 (accAt m c n (Nat.lt_of_succ_lt hn)) (dgateAt m c ⟨n + 1, hn⟩) (iblk m c 5 ⟨n + 1, hn⟩) (dupAt m c ⟨n + 1, hn⟩) (iblk m c 6 ⟨n + 1, hn⟩) := by
  conv_lhs => unfold accAt
  rw [if_neg h]

theorem gainAt_close (c : Dev nD) (n : ℕ) (hn : n + 1 < cfg0.N) (h : (n + 1) % 11 = 10) :
    gainAt m c (n + 1) hn = gainAll (iblk m c 0 ⟨n + 1, hn⟩) (iblk m c 1 ⟨n + 1, hn⟩) (iblk m c 2 ⟨n + 1, hn⟩) (accAt m c (n + 1) hn) (gainAt m c n (Nat.lt_of_succ_lt hn)) := by
  conv_lhs => unfold gainAt
  exact if_pos h

theorem gainAt_rest (c : Dev nD) (n : ℕ) (hn : n + 1 < cfg0.N) (h : ¬(n + 1) % 11 = 10) : gainAt m c (n + 1) hn = gainAt m c n (Nat.lt_of_succ_lt hn) := by
  conv_lhs => unfold gainAt
  exact if_neg h

/-- The narrowed output gradient's buffer is left alone except where a row block opens. -/
theorem idle_11 (t : Fin cfg0.N) : cfg0.idle 11 (grid0.coords t) = !decide (t.val % 11 = 0) := by
  show (!(k0_cond1 (grid0.coords t) == 1#1)) = _
  rw [show (k0_cond1 (grid0.coords t) == 1#1) = decide (t.val % 11 = 0) from by
    rw [Bool.eq_iff_iff, beq_iff_eq, decide_eq_true_iff]; exact opens_iff t]

/-- The gain gradient's buffer is left alone except at the first point and where a row block closes. -/
theorem idle_12 (t : Fin cfg0.N) : cfg0.idle 12 (grid0.coords t) = !(decide (t.val % 176 = 0) || decide (t.val % 11 = 10)) := by
  show (!(k0_cond2 (grid0.coords t) == 1#1) && !(k0_cond3 (grid0.coords t) == 1#1)) = _
  rw [← Bool.not_or]
  rw [show (k0_cond2 (grid0.coords t) == 1#1) = decide (t.val % 176 = 0) from by
      rw [Bool.eq_iff_iff, beq_iff_eq, decide_eq_true_iff]; exact starts_iff t,
    show (k0_cond3 (grid0.coords t) == 1#1) = decide (t.val % 11 = 10) from by
      rw [Bool.eq_iff_iff, beq_iff_eq, decide_eq_true_iff]; exact closes_iff t]

/-- The narrowed output gradient's buffer holds nothing of the body's exactly where a row block opens. -/
theorem fresh_11 (n : ℕ) (hn : n ≤ cfg0.N) : cfg0.fresh 11 n = decide (n % 11 = 0) := by
  refine cfg0.fresh_tab 11 (fun n => decide (n % 11 = 0)) rfl (fun t => ?_) n hn
  rw [show (cfg0.win 11).flush t = decide (t.val % 11 = 10) from by
    rw [Bool.eq_iff_iff, decide_eq_true_iff]; exact flush0_11 t]
  rw [show cfg0.idle 11 (cfg0.grid.coords t) = _ from idle_11 t]
  rw [Bool.eq_iff_iff]
  simp only [Bool.or_eq_true, Bool.and_eq_true, Bool.not_eq_true', decide_eq_true_iff, decide_eq_false_iff_not]
  omega

/-- The gain gradient's buffer holds nothing of the body's only before the first point and after the last. -/
theorem fresh_12 (n : ℕ) (hn : n ≤ cfg0.N) : cfg0.fresh 12 n = decide (n % 176 = 0) := by
  refine cfg0.fresh_tab 12 (fun n => decide (n % 176 = 0)) rfl (fun t => ?_) n hn
  have ht : t.val < 176 := Nat.lt_of_lt_of_eq t.isLt N_0
  rw [show (cfg0.win 12).flush t = decide (t.val % 176 = 175) from by
    rw [Bool.eq_iff_iff, decide_eq_true_iff]; exact flush0_12 t]
  rw [show cfg0.idle 12 (cfg0.grid.coords t) = _ from idle_12 t]
  rw [Bool.eq_iff_iff]
  simp only [Bool.or_eq_true, Bool.and_eq_true, Bool.not_eq_true', decide_eq_true_iff, decide_eq_false_iff_not, Bool.or_eq_false_iff]
  omega

/-- Between openings the narrowed output gradient is found as it was left. -/
theorem before0_11 (c : Dev nD) (t : Fin cfg0.N) (h : ¬t.val % 11 = 0) (d) : (dats m 0 c).before 11 t d = dyAt m c t.val t.isLt := by
  rw [(dats m 0 c).before_out_traj 11 rfl (fun _ _ => rfl) ?_ t.val t rfl d, fresh_11 t.val (Nat.le_of_lt t.isLt), if_neg (by simpa using h)]
  · obtain ⟨n, hn⟩ := t
    cases n with
    | zero => exact absurd rfl h
    | succ n => rw [after0_11]; exact (dyAt_rest m c n hn h).symm
  · intro t ht hi _
    obtain ⟨n, hn⟩ := t
    cases n with
    | zero => exact absurd rfl ht
    | succ n =>
      have h' : ¬(n + 1) % 11 = 0 := by
        have e := (idle_11 ⟨n + 1, hn⟩).symm.trans hi
        simpa using e
      rw [after0_11, after0_11]; exact dyAt_rest m c n hn h'

/-- After the first point the gain gradient is found as it was left. -/
theorem before0_12 (c : Dev nD) (n : ℕ) (hn : n + 1 < cfg0.N) (d) : (dats m 0 c).before 12 ⟨n + 1, hn⟩ d = gainAt m c n (Nat.lt_of_succ_lt hn) := by
  have ht : n + 1 < 176 := Nat.lt_of_lt_of_eq hn N_0
  rw [(dats m 0 c).before_out_traj 12 rfl (fun _ _ => rfl) ?_ (n + 1) ⟨n + 1, hn⟩ rfl d, fresh_12 (n + 1) (Nat.le_of_lt hn),
    if_neg (by rw [decide_eq_true_iff]; omega)]
  · rw [after0_12]; rfl
  · intro t ht hi _
    obtain ⟨n, hn⟩ := t
    cases n with
    | zero => exact absurd rfl ht
    | succ n =>
      have h' : ¬(n + 1) % 11 = 10 := by
        have e := (idle_12 ⟨n + 1, hn⟩).symm.trans hi
        rw [Bool.not_eq_true', Bool.or_eq_false_iff, decide_eq_false_iff_not, decide_eq_false_iff_not] at e
        exact e.2
      rw [after0_12, after0_12]; exact gainAt_rest m c n hn h'

/-- Within a row block the input gradient is found at the running sum. -/
theorem before0_8 (c : Dev nD) (n : ℕ) (hn : n + 1 < cfg0.N) (h : ¬(n + 1) % 11 = 0) (d) : (dats m 0 c).before 8 ⟨n + 1, hn⟩ d = accAt m c n (Nat.lt_of_succ_lt hn) := by
  rw [(dats m 0 c).before_out_kept 8 rfl ⟨n + 1, hn⟩ (Nat.succ_ne_zero n)
    (Bool.eq_false_iff.mpr fun h' => h (by have := (flush0_8 _).mp h'; change n % 11 = 10 at this; omega)) (fun _ => rfl) (fun _ _ => rfl), after0_8]
  exact if_neg (by show ¬n % 11 = 10; omega)

/-- A buffer at its stated contents is what the pipeline wants back, idle or not. -/
theorem leaves_of_after (c : Dev nD) (w : Fin cfg0.W) (t : Fin cfg0.N)
    (h : cfg0.idle w (grid0.coords t) = true → ∃ d, (dats m 0 c).before w t d = (dats m 0 c).after w t) :
    (owns (c : Thread nD τ) ((cfg0.win w).stage (cfg0.slots t w)) fullShare ((dats m 0 c).after w t) : sProp 𝕄) ⊢ (dats m 0 c).leavesExact w t := by
  unfold Dat.leavesExact
  cases hi : cfg0.idle w (cfg0.grid.coords t) with
  | false => exact .rfl
  | true =>
    cases hf : (cfg0.win w).flush t with
    | true => exact .rfl
    | false =>
      obtain ⟨d, hd⟩ := h hi
      rw [← hd]
      iintro H
      iexists d
      iexact H

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t ∗ (dats m 0 c).leavesExact 12 t)

/-- What the body leaves at point `t`, every buffer at its stated contents. -/
def bodyLeft (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t) ∗ owns (c : Thread nD τ) (st0_12 t) fullShare ((dats m 0 c).after 12 t))

theorem bodyLeft_post (c : Dev nD) (t : Fin cfg0.N) : bodyLeft m c t ⊢ bodyPost m c t := by
  have h11 := leaves_of_after m c 11 t (fun hi => ⟨(dats m 0 c).after 11 t, by
    have e := (idle_11 t).symm.trans hi
    rw [before0_11 m c t (by simpa using e), after0_11]⟩)
  have h12 := leaves_of_after m c 12 t (fun hi => by
    have e := (idle_12 t).symm.trans hi
    rw [Bool.not_eq_true', Bool.or_eq_false_iff, decide_eq_false_iff_not, decide_eq_false_iff_not] at e
    obtain ⟨n, hn⟩ := t
    cases n with
    | zero => exact absurd rfl e.1
    | succ n => exact ⟨(dats m 0 c).after 12 ⟨n + 1, hn⟩, by rw [before0_12 m c n hn, after0_12]; exact (gainAt_rest m c n hn e.2).symm⟩)
  unfold bodyLeft bodyPost
  iintro ⟨HΦ, Ho, H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply h11; iexact H11
  iapply h12; iexact H12

/-- The body at the first point. -/
theorem sound_start (c : Dev nD) (t : Fin cfg0.N) (h : t.val % 11 = 0) (h0 : t.val % 176 = 0) :
    bodyPre m c t ⊢ wp frame (wpE (defs₀ (F := F)) Variants.none c none) Set.univ (bodyAt0 t) (fun _ => bodyLeft m c t) := by
  have e11 : ∀ d11 : Vec F S512x2048 .bf16, dyAt m c t.val t.isLt = k0_pay21 (iblk m c 0 t) := fun d11 => dyAt_open m c t h
  have e9 : ∀ (d9 : Vec F S512x512 .bf16) (d11 : Vec F S512x2048 .bf16), dgateAt m c t = dgateStep (k0_pay21 (iblk m c 0 t)) (iblk m c 3 t) (iblk m c 4 t) (iblk m c 7 t) ((dats m 0 c).before 9 t d9) := fun d9 d11 => by rw [← e11 d11]; exact put_halves _ _ _ _
  have e10 : ∀ (d10 : Vec F S512x512 .bf16) (d11 : Vec F S512x2048 .bf16), dupAt m c t = dupStep (k0_pay21 (iblk m c 0 t)) (iblk m c 3 t) (iblk m c 7 t) ((dats m 0 c).before 10 t d10) := fun d10 d11 => by rw [← e11 d11]; exact put_halves _ _ _ _
  have ea : ∀ (d8 : Vec F S512x2048 .f32) (d9 d10 : Vec F S512x512 .bf16) (d11 : Vec F S512x2048 .bf16), accAt m c t.val t.isLt = k0_pay35 (k0_pay22) (dgateStep (k0_pay21 (iblk m c 0 t)) (iblk m c 3 t) (iblk m c 4 t) (iblk m c 7 t) ((dats m 0 c).before 9 t d9)) (iblk m c 5 t) (dupStep (k0_pay21 (iblk m c 0 t)) (iblk m c 3 t) (iblk m c 7 t) ((dats m 0 c).before 10 t d10)) (iblk m c 6 t) := fun d8 d9 d10 d11 => by
    rw [← e9 d9 d11, ← e10 d10 d11]
    exact accAt_open m c t h
  have e8 : ∀ (d8 : Vec F S512x2048 .f32) (d9 d10 : Vec F S512x512 .bf16) (d11 : Vec F S512x2048 .bf16), dxiAt m c t = k0_pay35 (k0_pay22) (dgateStep (k0_pay21 (iblk m c 0 t)) (iblk m c 3 t) (iblk m c 4 t) (iblk m c 7 t) ((dats m 0 c).before 9 t d9)) (iblk m c 5 t) (dupStep (k0_pay21 (iblk m c 0 t)) (iblk m c 3 t) (iblk m c 7 t) ((dats m 0 c).before 10 t d10)) (iblk m c 6 t) := fun d8 d9 d10 d11 => by
    rw [← ea d8 d9 d10 d11]; exact if_neg (by omega)
  have e12 : gainAt m c t.val t.isLt = k0_pay23 := by
    have ht : t.val < 176 := Nat.lt_of_lt_of_eq t.isLt N_0
    obtain ⟨n, hn⟩ := t
    cases n with
    | zero => rfl
    | succ n => exact absurd h0 (by have : n + 1 < 176 := ht; show ¬(n + 1) % 176 = 0; omega)
  unfold bodyPre bodyLeft bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = (dats m 0 c).Φ t.castSucc from rfl]
  rw [after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [e8 d8 d9 d10 d11, e9 d9 d11, e10 d10 d11, e11 d11, e12]
  iapply (body_start c (grid0.coords t) _ _ _ _ _ _ _ _ _ _ _ _ _ _ _ _ _ _ _ _ _ _ _ _ _ _ ((opens_iff t).mpr h) ((starts_iff t).mpr h0) (mt (closes_iff t).mp (by omega)) (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at the other points that open a row block. -/
theorem sound_open (c : Dev nD) (t : Fin cfg0.N) (h : t.val % 11 = 0) (h0 : ¬t.val % 176 = 0) :
    bodyPre m c t ⊢ wp frame (wpE (defs₀ (F := F)) Variants.none c none) Set.univ (bodyAt0 t) (fun _ => bodyLeft m c t) := by
  have e11 : ∀ d11 : Vec F S512x2048 .bf16, dyAt m c t.val t.isLt = k0_pay21 (iblk m c 0 t) := fun d11 => dyAt_open m c t h
  have e9 : ∀ (d9 : Vec F S512x512 .bf16) (d11 : Vec F S512x2048 .bf16), dgateAt m c t = dgateStep (k0_pay21 (iblk m c 0 t)) (iblk m c 3 t) (iblk m c 4 t) (iblk m c 7 t) ((dats m 0 c).before 9 t d9) := fun d9 d11 => by rw [← e11 d11]; exact put_halves _ _ _ _
  have e10 : ∀ (d10 : Vec F S512x512 .bf16) (d11 : Vec F S512x2048 .bf16), dupAt m c t = dupStep (k0_pay21 (iblk m c 0 t)) (iblk m c 3 t) (iblk m c 7 t) ((dats m 0 c).before 10 t d10) := fun d10 d11 => by rw [← e11 d11]; exact put_halves _ _ _ _
  have ea : ∀ (d8 : Vec F S512x2048 .f32) (d9 d10 : Vec F S512x512 .bf16) (d11 : Vec F S512x2048 .bf16), accAt m c t.val t.isLt = k0_pay35 (k0_pay22) (dgateStep (k0_pay21 (iblk m c 0 t)) (iblk m c 3 t) (iblk m c 4 t) (iblk m c 7 t) ((dats m 0 c).before 9 t d9)) (iblk m c 5 t) (dupStep (k0_pay21 (iblk m c 0 t)) (iblk m c 3 t) (iblk m c 7 t) ((dats m 0 c).before 10 t d10)) (iblk m c 6 t) := fun d8 d9 d10 d11 => by
    rw [← e9 d9 d11, ← e10 d10 d11]
    exact accAt_open m c t h
  have e8 : ∀ (d8 : Vec F S512x2048 .f32) (d9 d10 : Vec F S512x512 .bf16) (d11 : Vec F S512x2048 .bf16), dxiAt m c t = k0_pay35 (k0_pay22) (dgateStep (k0_pay21 (iblk m c 0 t)) (iblk m c 3 t) (iblk m c 4 t) (iblk m c 7 t) ((dats m 0 c).before 9 t d9)) (iblk m c 5 t) (dupStep (k0_pay21 (iblk m c 0 t)) (iblk m c 3 t) (iblk m c 7 t) ((dats m 0 c).before 10 t d10)) (iblk m c 6 t) := fun d8 d9 d10 d11 => by
    rw [← ea d8 d9 d10 d11]; exact if_neg (by omega)
  have e12 : ∀ d12 : Vec F S1x2048 .f32, gainAt m c t.val t.isLt = (dats m 0 c).before 12 t d12 := fun d12 => by
    obtain ⟨n, hn⟩ := t
    cases n with
    | zero => exact absurd rfl h0
    | succ n => rw [before0_12 m c n hn]; exact gainAt_rest m c n hn (by change (n + 1) % 11 = 0 at h; omega)
  unfold bodyPre bodyLeft bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = (dats m 0 c).Φ t.castSucc from rfl]
  rw [after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [e8 d8 d9 d10 d11, e9 d9 d11, e10 d10 d11, e11 d11, e12 d12]
  iapply (body_open c (grid0.coords t) _ _ _ _ _ _ _ _ _ _ _ _ _ _ _ _ _ _ _ _ _ _ _ _ _ _ ((opens_iff t).mpr h) (mt (starts_iff t).mp h0) (mt (closes_iff t).mp (by omega)) (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at the points between. -/
theorem sound_mid (c : Dev nD) (t : Fin cfg0.N) (h : ¬t.val % 11 = 0) (h0 : ¬t.val % 11 = 10) :
    bodyPre m c t ⊢ wp frame (wpE (defs₀ (F := F)) Variants.none c none) Set.univ (bodyAt0 t) (fun _ => bodyLeft m c t) := by
  have e11 : ∀ d11 : Vec F S512x2048 .bf16, dyAt m c t.val t.isLt = (dats m 0 c).before 11 t d11 := fun d11 => (before0_11 m c t (by omega) d11).symm
  have e9 : ∀ (d9 : Vec F S512x512 .bf16) (d11 : Vec F S512x2048 .bf16), dgateAt m c t = dgateStep ((dats m 0 c).before 11 t d11) (iblk m c 3 t) (iblk m c 4 t) (iblk m c 7 t) ((dats m 0 c).before 9 t d9) := fun d9 d11 => by rw [← e11 d11]; exact put_halves _ _ _ _
  have e10 : ∀ (d10 : Vec F S512x512 .bf16) (d11 : Vec F S512x2048 .bf16), dupAt m c t = dupStep ((dats m 0 c).before 11 t d11) (iblk m c 3 t) (iblk m c 7 t) ((dats m 0 c).before 10 t d10) := fun d10 d11 => by rw [← e11 d11]; exact put_halves _ _ _ _
  have ea : ∀ (d8 : Vec F S512x2048 .f32) (d9 d10 : Vec F S512x512 .bf16) (d11 : Vec F S512x2048 .bf16), accAt m c t.val t.isLt = k0_pay35 ((dats m 0 c).before 8 t d8) (dgateStep ((dats m 0 c).before 11 t d11) (iblk m c 3 t) (iblk m c 4 t) (iblk m c 7 t) ((dats m 0 c).before 9 t d9)) (iblk m c 5 t) (dupStep ((dats m 0 c).before 11 t d11) (iblk m c 3 t) (iblk m c 7 t) ((dats m 0 c).before 10 t d10)) (iblk m c 6 t) := fun d8 d9 d10 d11 => by
    rw [← e9 d9 d11, ← e10 d10 d11]
    obtain ⟨n, hn⟩ := t
    cases n with
    | zero => exact absurd rfl h
    | succ n =>
      have h' : ¬(n + 1) % 11 = 0 := h
      rw [before0_8 m c n hn h']; exact accAt_rest m c n hn h'
  have e8 : ∀ (d8 : Vec F S512x2048 .f32) (d9 d10 : Vec F S512x512 .bf16) (d11 : Vec F S512x2048 .bf16), dxiAt m c t = k0_pay35 ((dats m 0 c).before 8 t d8) (dgateStep ((dats m 0 c).before 11 t d11) (iblk m c 3 t) (iblk m c 4 t) (iblk m c 7 t) ((dats m 0 c).before 9 t d9)) (iblk m c 5 t) (dupStep ((dats m 0 c).before 11 t d11) (iblk m c 3 t) (iblk m c 7 t) ((dats m 0 c).before 10 t d10)) (iblk m c 6 t) := fun d8 d9 d10 d11 => by
    rw [← ea d8 d9 d10 d11]; exact if_neg (by omega)
  have e12 : ∀ d12 : Vec F S1x2048 .f32, gainAt m c t.val t.isLt = (dats m 0 c).before 12 t d12 := fun d12 => by
    obtain ⟨n, hn⟩ := t
    cases n with
    | zero => exact absurd rfl h
    | succ n => rw [before0_12 m c n hn]; exact gainAt_rest m c n hn (by exact h0)
  unfold bodyPre bodyLeft bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = (dats m 0 c).Φ t.castSucc from rfl]
  rw [after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [e8 d8 d9 d10 d11, e9 d9 d11, e10 d10 d11, e11 d11, e12 d12]
  iapply (body_mid c (grid0.coords t) _ _ _ _ _ _ _ _ _ _ _ _ _ _ _ _ _ _ _ _ _ _ _ _ _ _ (mt (opens_iff t).mp h) (mt (starts_iff t).mp (by omega)) (mt (closes_iff t).mp h0) (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at the points that close a row block. -/
theorem sound_close (c : Dev nD) (t : Fin cfg0.N) (h0 : t.val % 11 = 10) :
    bodyPre m c t ⊢ wp frame (wpE (defs₀ (F := F)) Variants.none c none) Set.univ (bodyAt0 t) (fun _ => bodyLeft m c t) := by
  have e11 : ∀ d11 : Vec F S512x2048 .bf16, dyAt m c t.val t.isLt = (dats m 0 c).before 11 t d11 := fun d11 => (before0_11 m c t (by omega) d11).symm
  have e9 : ∀ (d9 : Vec F S512x512 .bf16) (d11 : Vec F S512x2048 .bf16), dgateAt m c t = dgateStep ((dats m 0 c).before 11 t d11) (iblk m c 3 t) (iblk m c 4 t) (iblk m c 7 t) ((dats m 0 c).before 9 t d9) := fun d9 d11 => by rw [← e11 d11]; exact put_halves _ _ _ _
  have e10 : ∀ (d10 : Vec F S512x512 .bf16) (d11 : Vec F S512x2048 .bf16), dupAt m c t = dupStep ((dats m 0 c).before 11 t d11) (iblk m c 3 t) (iblk m c 7 t) ((dats m 0 c).before 10 t d10) := fun d10 d11 => by rw [← e11 d11]; exact put_halves _ _ _ _
  have ea : ∀ (d8 : Vec F S512x2048 .f32) (d9 d10 : Vec F S512x512 .bf16) (d11 : Vec F S512x2048 .bf16), accAt m c t.val t.isLt = k0_pay35 ((dats m 0 c).before 8 t d8) (dgateStep ((dats m 0 c).before 11 t d11) (iblk m c 3 t) (iblk m c 4 t) (iblk m c 7 t) ((dats m 0 c).before 9 t d9)) (iblk m c 5 t) (dupStep ((dats m 0 c).before 11 t d11) (iblk m c 3 t) (iblk m c 7 t) ((dats m 0 c).before 10 t d10)) (iblk m c 6 t) := fun d8 d9 d10 d11 => by
    rw [← e9 d9 d11, ← e10 d10 d11]
    obtain ⟨n, hn⟩ := t
    cases n with
    | zero => exact absurd h0 (by show ¬0 % 11 = 10; decide)
    | succ n =>
      have h' : ¬(n + 1) % 11 = 0 := by change (n + 1) % 11 = 10 at h0; omega
      rw [before0_8 m c n hn h']; exact accAt_rest m c n hn h'
  have e8 : ∀ (d8 : Vec F S512x2048 .f32) (d9 d10 : Vec F S512x512 .bf16) (d11 : Vec F S512x2048 .bf16), dxiAt m c t = normAll (iblk m c 0 t) (iblk m c 1 t) (iblk m c 2 t) (k0_pay35 ((dats m 0 c).before 8 t d8) (dgateStep ((dats m 0 c).before 11 t d11) (iblk m c 3 t) (iblk m c 4 t) (iblk m c 7 t) ((dats m 0 c).before 9 t d9)) (iblk m c 5 t) (dupStep ((dats m 0 c).before 11 t d11) (iblk m c 3 t) (iblk m c 7 t) ((dats m 0 c).before 10 t d10)) (iblk m c 6 t)) := fun d8 d9 d10 d11 => by
    rw [← ea d8 d9 d10 d11]; exact if_pos h0
  have e12 : ∀ (d8 : Vec F S512x2048 .f32) (d9 d10 : Vec F S512x512 .bf16) (d11 : Vec F S512x2048 .bf16) (d12 : Vec F S1x2048 .f32), gainAt m c t.val t.isLt = gainAll (iblk m c 0 t) (iblk m c 1 t) (iblk m c 2 t) (k0_pay35 ((dats m 0 c).before 8 t d8) (dgateStep ((dats m 0 c).before 11 t d11) (iblk m c 3 t) (iblk m c 4 t) (iblk m c 7 t) ((dats m 0 c).before 9 t d9)) (iblk m c 5 t) (dupStep ((dats m 0 c).before 11 t d11) (iblk m c 3 t) (iblk m c 7 t) ((dats m 0 c).before 10 t d10)) (iblk m c 6 t)) ((dats m 0 c).before 12 t d12) := fun d8 d9 d10 d11 d12 => by
    rw [← ea d8 d9 d10 d11]
    obtain ⟨n, hn⟩ := t
    cases n with
    | zero => exact absurd h0 (by show ¬0 % 11 = 10; decide)
    | succ n => rw [before0_12 m c n hn]; exact gainAt_close m c n hn h0
  unfold bodyPre bodyLeft bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = (dats m 0 c).Φ t.castSucc from rfl]
  rw [after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [e8 d8 d9 d10 d11, e9 d9 d11, e10 d10 d11, e11 d11, e12 d8 d9 d10 d11 d12]
  iapply (body_close c (grid0.coords t) _ _ _ _ _ _ _ _ _ _ _ _ _ _ _ _ _ _ _ _ _ _ _ _ _ _ (mt (opens_iff t).mp (by omega)) (mt (starts_iff t).mp (by omega)) ((closes_iff t).mpr h0) (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point takes what the pipeline hands it to what the proof data say. -/
theorem sound_body (c : Dev nD) (t : Fin cfg0.N) :
    bodyPre m c t ⊢ wp frame (wpE (defs₀ (F := F)) Variants.none c none) Set.univ (bodyAt0 t) (fun _ => bodyPost m c t) := by
  refine BIBase.Entails.trans ?_ (Idealize.SL.Sem.wp_mono _ _ _ fun _ => bodyLeft_post m c t)
  by_cases h : t.val % 11 = 0
  · by_cases h0 : t.val % 176 = 0
    · exact sound_start m c t h h0
    · exact sound_open m c t h h0
  · by_cases h0 : t.val % 11 = 10
    · exact sound_close m c t h0
    · exact sound_mid m c t h h0

/-- The body's row of the label's table is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the call ends at what the proof data give, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel3Ideal.Gen

end
-- ==== Proof.FfnInputValue.lean ====
module

public import proofs.«01_k».proof.Proof.FfnInputRead
public import proofs.«01_k».proof.Proof.FfnInputRun
public import Idealize.ShloMosaic.Lib.Pipeline.ReadBack

/-! # The half step's input gradient: the run's five arrays

A row block takes eleven points, one for each 512 hidden units; after the eleventh the running sum is the whole product. -/

@[expose] public section

set_option maxRecDepth 16384

noncomputable section

namespace Cert.Kernel3Ideal.Gen

open Idealize.ShloMosaic Idealize.ShloMosaic.TcCoe Idealize.ShloMosaic.Tactic Cert.FfnInput
open scoped BigOperators

variable (m : (ℓ : Loc nD τ sig) → Buf (Elt Ideal) ℓ)

/-! ## The staged blocks -/

/-- The argument arrays. -/
abbrev argO (c : Dev nD) : TokenArr := m ((c.tc : Thread nD τ).loc main_arg0)
abbrev argX (c : Dev nD) : TokenArr := m ((c.tc : Thread nD τ).loc main_arg1)
abbrev argN (c : Dev nD) : GainArr := m ((c.tc : Thread nD τ).loc main_arg2)
abbrev argG (c : Dev nD) : HiddenArr := m ((c.tc : Thread nD τ).loc main_arg3)
abbrev argU (c : Dev nD) : HiddenArr := m ((c.tc : Thread nD τ).loc main_arg4)
abbrev argWg (c : Dev nD) : WeightArr := m ((c.tc : Thread nD τ).loc main_arg5)
abbrev argWu (c : Dev nD) : WeightArr := m ((c.tc : Thread nD τ).loc main_arg6)
abbrev argWd (c : Dev nD) : WeightArr := m ((c.tc : Thread nD τ).loc main_arg7)

theorem coord0 (t : Fin grid0.N) : (grid0.coords t 0).val = t.val / 11 := by
  have h : (grid0.coords t 0).val = t.val / 11 % 16 := Pipeline.Grid.coords_val t 0 (by decide) rfl
  have := Nat.lt_of_lt_of_eq t.isLt N_0
  omega

theorem coord1 (t : Fin grid0.N) : (grid0.coords t 1).val = t.val % 11 := by
  have h : (grid0.coords t 1).val = t.val / 1 % 11 := Pipeline.Grid.coords_val t 1 (by decide) rfl
  omega

/-- Token `i` of a point's row block, and hidden unit `f` of its block of units. -/
def tokenRow (t : Fin cfg0.N) (i : Fin 512) : Fin 8192 := ⟨t.val / 11 * 512 + i.val, by
  have := Nat.lt_of_lt_of_eq t.isLt N_0
  omega⟩
def unitRow (t : Fin cfg0.N) (f : Fin 512) : Fin 5632 := ⟨t.val % 11 * 512 + f.val, by omega⟩

theorem index_0 : ∀ t : Fin grid0.N, win0_0.index t = ![(grid0.coords t 0).val, 0] := by decide +kernel
theorem index_1 : ∀ t : Fin grid0.N, win0_1.index t = ![(grid0.coords t 0).val, 0] := by decide +kernel
theorem index_2 : ∀ t : Fin grid0.N, win0_2.index t = ![0, 0] := by decide +kernel
theorem index_3 : ∀ t : Fin grid0.N, win0_3.index t = ![(grid0.coords t 0).val, (grid0.coords t 1).val] := by decide +kernel
theorem index_4 : ∀ t : Fin grid0.N, win0_4.index t = ![(grid0.coords t 0).val, (grid0.coords t 1).val] := by decide +kernel
theorem index_5 : ∀ t : Fin grid0.N, win0_5.index t = ![(grid0.coords t 1).val, 0] := by decide +kernel
theorem index_6 : ∀ t : Fin grid0.N, win0_6.index t = ![(grid0.coords t 1).val, 0] := by decide +kernel
theorem index_7 : ∀ t : Fin grid0.N, win0_7.index t = ![(grid0.coords t 1).val, 0] := by decide +kernel
theorem index_8 : ∀ t : Fin grid0.N, win0_8.index t = ![(grid0.coords t 0).val, 0] := by decide +kernel
theorem index_9 : ∀ t : Fin grid0.N, win0_9.index t = ![(grid0.coords t 0).val, (grid0.coords t 1).val] := by decide +kernel
theorem index_10 : ∀ t : Fin grid0.N, win0_10.index t = ![(grid0.coords t 0).val, (grid0.coords t 1).val] := by decide +kernel
theorem index_11 : ∀ t : Fin grid0.N, win0_11.index t = ![(grid0.coords t 0).val, 0] := by decide +kernel
theorem index_12 : ∀ t : Fin grid0.N, win0_12.index t = ![0, 0] := by decide +kernel

theorem read_0 (c : Dev nD) (t : Fin cfg0.N) (i : Fin 512) (d : Fin 2048) : iblk m c 0 t (ix2 i d) = argO m c (ix2 (tokenRow t i) d) := by
  show V m c main_arg0 _ = _
  rw [V_main_arg0]
  refine congrArg (argO m c) (funext fun a => Fin.ext ?_)
  have h0 := coord0 t
  have h1 := coord1 t
  match a with
  | ⟨0, _⟩ => blk_simp [index_0]; show (grid0.coords t 0).val * 512 + i.val = t.val / 11 * 512 + i.val; rw [h0]
  | ⟨1, _⟩ => blk_simp [index_0]

theorem read_1 (c : Dev nD) (t : Fin cfg0.N) (i : Fin 512) (d : Fin 2048) : iblk m c 1 t (ix2 i d) = argX m c (ix2 (tokenRow t i) d) := by
  show V m c main_arg1 _ = _
  rw [V_main_arg1]
  refine congrArg (argX m c) (funext fun a => Fin.ext ?_)
  have h0 := coord0 t
  have h1 := coord1 t
  match a with
  | ⟨0, _⟩ => blk_simp [index_1]; show (grid0.coords t 0).val * 512 + i.val = t.val / 11 * 512 + i.val; rw [h0]
  | ⟨1, _⟩ => blk_simp [index_1]

theorem read_2 (c : Dev nD) (t : Fin cfg0.N) (d : Fin 2048) : iblk m c 2 t (ix2 0 d) = argN m c (ix2 0 d) := by
  show V m c main_arg2 _ = _
  rw [V_main_arg2]
  refine congrArg (argN m c) (funext fun a => Fin.ext ?_)
  have h0 := coord0 t
  have h1 := coord1 t
  match a with
  | ⟨0, _⟩ => blk_simp [index_2]
  | ⟨1, _⟩ => blk_simp [index_2]

theorem read_3 (c : Dev nD) (t : Fin cfg0.N) (i f : Fin 512) : iblk m c 3 t (ix2 i f) = argG m c (ix2 (tokenRow t i) (unitRow t f)) := by
  show V m c main_arg3 _ = _
  rw [V_main_arg3]
  refine congrArg (argG m c) (funext fun a => Fin.ext ?_)
  have h0 := coord0 t
  have h1 := coord1 t
  match a with
  | ⟨0, _⟩ => blk_simp [index_3]; show (grid0.coords t 0).val * 512 + i.val = t.val / 11 * 512 + i.val; rw [h0]
  | ⟨1, _⟩ => blk_simp [index_3]; show (grid0.coords t 1).val * 512 + f.val = t.val % 11 * 512 + f.val; rw [h1]

theorem read_4 (c : Dev nD) (t : Fin cfg0.N) (i f : Fin 512) : iblk m c 4 t (ix2 i f) = argU m c (ix2 (tokenRow t i) (unitRow t f)) := by
  show V m c main_arg4 _ = _
  rw [V_main_arg4]
  refine congrArg (argU m c) (funext fun a => Fin.ext ?_)
  have h0 := coord0 t
  have h1 := coord1 t
  match a with
  | ⟨0, _⟩ => blk_simp [index_4]; show (grid0.coords t 0).val * 512 + i.val = t.val / 11 * 512 + i.val; rw [h0]
  | ⟨1, _⟩ => blk_simp [index_4]; show (grid0.coords t 1).val * 512 + f.val = t.val % 11 * 512 + f.val; rw [h1]

theorem read_5 (c : Dev nD) (t : Fin cfg0.N) (f : Fin 512) (d : Fin 2048) : iblk m c 5 t (ix2 f d) = argWg m c (ix2 (unitRow t f) d) := by
  show V m c main_arg5 _ = _
  rw [V_main_arg5]
  refine congrArg (argWg m c) (funext fun a => Fin.ext ?_)
  have h0 := coord0 t
  have h1 := coord1 t
  match a with
  | ⟨0, _⟩ => blk_simp [index_5]; show (grid0.coords t 1).val * 512 + f.val = t.val % 11 * 512 + f.val; rw [h1]
  | ⟨1, _⟩ => blk_simp [index_5]

theorem read_6 (c : Dev nD) (t : Fin cfg0.N) (f : Fin 512) (d : Fin 2048) : iblk m c 6 t (ix2 f d) = argWu m c (ix2 (unitRow t f) d) := by
  show V m c main_arg6 _ = _
  rw [V_main_arg6]
  refine congrArg (argWu m c) (funext fun a => Fin.ext ?_)
  have h0 := coord0 t
  have h1 := coord1 t
  match a with
  | ⟨0, _⟩ => blk_simp [index_6]; show (grid0.coords t 1).val * 512 + f.val = t.val % 11 * 512 + f.val; rw [h1]
  | ⟨1, _⟩ => blk_simp [index_6]

theorem read_7 (c : Dev nD) (t : Fin cfg0.N) (f : Fin 512) (d : Fin 2048) : iblk m c 7 t (ix2 f d) = argWd m c (ix2 (unitRow t f) d) := by
  show V m c main_arg7 _ = _
  rw [V_main_arg7]
  refine congrArg (argWd m c) (funext fun a => Fin.ext ?_)
  have h0 := coord0 t
  have h1 := coord1 t
  match a with
  | ⟨0, _⟩ => blk_simp [index_7]; show (grid0.coords t 1).val * 512 + f.val = t.val % 11 * 512 + f.val; rw [h1]
  | ⟨1, _⟩ => blk_simp [index_7]

/-! ## From point to point -/

/-- The narrowed output gradient is the same at every point of a row block. -/
theorem dyAt_read (c : Dev nD) (n : ℕ) (hn : n < cfg0.N) (i : Fin 512) (d : Fin 2048) :
    dyAt (F := Ideal) m c n hn (ix2 i d) = half * argO m c (ix2 (tokenRow ⟨n, hn⟩ i) d) := by
  induction n with
  | zero =>
    rw [dyAt_open m c ⟨0, hn⟩ rfl]
    refine (pay21_read _ i d).trans ?_
    rw [read_0]
  | succ n ih =>
    by_cases h : (n + 1) % 11 = 0
    · rw [dyAt_open m c ⟨n + 1, hn⟩ h]
      refine (pay21_read _ i d).trans ?_
      rw [read_0]
    · rw [dyAt_rest m c n hn h, ih (Nat.lt_of_succ_lt hn)]
      have e : tokenRow ⟨n, Nat.lt_of_succ_lt hn⟩ i = tokenRow ⟨n + 1, hn⟩ i := Fin.ext (by
        show n / 11 * 512 + i.val = (n + 1) / 11 * 512 + i.val
        omega)
      rw [e]

/-- The results. -/
def outDxi (c : Dev nD) : TokenArr := dxiArr (argO m c) (argX m c) (argN m c) (argG m c) (argU m c) (argWg m c) (argWu m c) (argWd m c)
def outDgate (c : Dev nD) : HiddenArr := dgateArr (argO m c) (argG m c) (argU m c) (argWd m c)
def outDup (c : Dev nD) : HiddenArr := dupArr (argO m c) (argG m c) (argWd m c)
def outDy (c : Dev nD) : TokenArr := dyArr (argO m c)
def outDgain (c : Dev nD) : GainArr := dgainArr (argO m c) (argX m c) (argG m c) (argU m c) (argWg m c) (argWu m c) (argWd m c)

/-- The gradient of the normalised row. -/
def dhAt (c : Dev nD) (r : Fin 8192) (d : Fin 2048) : EReal := dhRow (argO m c) (argG m c) (argU m c) (argWg m c) (argWu m c) (argWd m c) r d

theorem dgateAt_read (c : Dev nD) (t : Fin cfg0.N) (i f : Fin 512) :
    dgateAt (F := Ideal) m c t (ix2 i f) = outDgate m c (ix2 (tokenRow t i) (unitRow t f)) := by
  unfold dgateAt
  refine (dgateStep_read _ _ _ _ _ i f).trans ?_
  simp only [dyAt_read, read_3, read_4, read_7]
  rfl

theorem dupAt_read (c : Dev nD) (t : Fin cfg0.N) (i f : Fin 512) :
    dupAt (F := Ideal) m c t (ix2 i f) = outDup m c (ix2 (tokenRow t i) (unitRow t f)) := by
  unfold dupAt
  refine (dupStep_read _ _ _ _ i f).trans ?_
  simp only [dyAt_read, read_3, read_7]
  rfl

/-- What a point adds to the running sum. -/
def partDh (c : Dev nD) (t : Fin cfg0.N) (i : Fin 512) (d : Fin 2048) : EReal :=
  ∑ f : Fin 512, outDgate m c (ix2 (tokenRow t i) (unitRow t f)) * argWg m c (ix2 (unitRow t f) d)
    + ∑ f : Fin 512, outDup m c (ix2 (tokenRow t i) (unitRow t f)) * argWu m c (ix2 (unitRow t f) d)

theorem acc_first (c : Dev nD) (t : Fin cfg0.N) (h : t.val % 11 = 0) (i : Fin 512) (d : Fin 2048) :
    accAt (F := Ideal) m c t.val t.isLt (ix2 i d) = 0 + partDh m c t i d := by
  rw [accAt_open m c t h]
  refine (pay35_read _ _ _ _ _ i d).trans (congrArg₂ (· + ·) (pay22_read i d) ?_)
  simp only [dgateAt_read, dupAt_read, read_5, read_6]
  rfl

theorem acc_next (c : Dev nD) (t : Fin cfg0.N) (h : ¬t.val % 11 = 0) (i : Fin 512) (d : Fin 2048) :
    accAt (F := Ideal) m c t.val t.isLt (ix2 i d)
      = accAt (F := Ideal) m c (t.val - 1) (Nat.lt_of_le_of_lt (Nat.sub_le _ _) t.isLt) (ix2 i d) + partDh m c t i d := by
  obtain ⟨n, hn⟩ := t
  cases n with
  | zero => exact absurd rfl h
  | succ n =>
    refine (congrFun (accAt_rest m c n hn h) (ix2 i d)).trans ((pay35_read _ _ _ _ _ i d).trans (congrArg (_ + ·) ?_))
    simp only [dgateAt_read, dupAt_read, read_5, read_6]
    rfl

/-- The eleven points of a row block take all hidden units. -/
theorem acc_total (c : Dev nD) (t : Fin cfg0.N) (h : t.val % 11 = 10) (i : Fin 512) (d : Fin 2048) :
    accAt (F := Ideal) m c t.val t.isLt (ix2 i d) = dhAt m c (tokenRow t i) d := by
  rw [Pipeline.eq_sum_fin_of_reset_step_apply_of_flush (ι := Fin 512 × Fin 2048) (M := EReal)
    (fun n h y => accAt (F := Ideal) m c n h (ix2 y.1 y.2)) 11 (fun _ => 0) (fun t y => partDh m c t y.1 y.2)
    (fun t h y => acc_first m c t h y.1 y.2) (fun t h y => acc_next m c t h y.1 y.2) t h (i, d)]
  refine (zero_add _).trans ?_
  unfold partDh
  rw [Finset.sum_add_distrib]
  have row : ∀ s : Fin 11, tokenRow ⟨11 * (t.val / 11) + s.val, Pipeline.run_point_lt_of_flush t h s⟩ i = tokenRow t i := fun s =>
    Fin.ext (by unfold tokenRow; dsimp only; omega)
  have unit : ∀ (s : Fin 11) (f : Fin 512) (hl : s.val * 512 + f.val < 5632),
      unitRow ⟨11 * (t.val / 11) + s.val, Pipeline.run_point_lt_of_flush t h s⟩ f = ⟨s.val * 512 + f.val, hl⟩ := fun s f hl =>
    Fin.ext (by unfold unitRow; dsimp only; omega)
  refine congrArg₂ (· + ·) (Fin.sum_mul_add_congr fun s f hl => ?_) (Fin.sum_mul_add_congr fun s f hl => ?_)
  · rw [row, unit s f hl]
    rfl
  · rw [row, unit s f hl]
    rfl

theorem dxiAt_read (c : Dev nD) (t : Fin cfg0.N) (h : t.val % 11 = 10) (i : Fin 512) (d : Fin 2048) :
    dxiAt (F := Ideal) m c t (ix2 i d) = outDxi m c (ix2 (tokenRow t i) d) := by
  unfold dxiAt
  rw [if_pos h]
  refine (normAll_read _ _ _ _ i d).trans ?_
  simp only [read_0, read_1, read_2, acc_total m c t h]
  rfl

/-! ## The gain's gradient -/

/-- A row's share. -/
def rowGain (c : Dev nD) (d : Fin 2048) (r : Fin 8192) : EReal :=
  dhAt m c r d * (argX m c (ix2 r d) * invRms fun e => argX m c (ix2 r e))

/-- What a point adds: a closing point the share of its rows, another nothing. -/
def partGain (c : Dev nD) (t : Fin cfg0.N) (d : Fin 2048) : EReal :=
  if t.val % 11 = 10 then ∑ i : Fin 512, rowGain m c d (tokenRow t i) else 0

theorem gain_first (c : Dev nD) (t : Fin cfg0.N) (h : t.val % 176 = 0) (d : Fin 2048) :
    gainAt (F := Ideal) m c t.val t.isLt (ix2 0 d) = 0 + partGain m c t d := by
  have h0 : t = ⟨0, by decide⟩ := Fin.ext (by
    show t.val = 0
    have := Nat.lt_of_lt_of_eq t.isLt N_0
    omega)
  subst h0
  unfold partGain
  rw [if_neg (by decide), add_zero]
  exact pay23_read 0 d

theorem gain_next (c : Dev nD) (t : Fin cfg0.N) (h : ¬t.val % 176 = 0) (d : Fin 2048) :
    gainAt (F := Ideal) m c t.val t.isLt (ix2 0 d)
      = gainAt (F := Ideal) m c (t.val - 1) (Nat.lt_of_le_of_lt (Nat.sub_le _ _) t.isLt) (ix2 0 d) + partGain m c t d := by
  obtain ⟨n, hn⟩ := t
  cases n with
  | zero => exact absurd rfl h
  | succ n =>
    unfold partGain
    by_cases hc : (n + 1) % 11 = 10
    · rw [if_pos hc]
      refine (congrFun (gainAt_close m c n hn hc) (ix2 0 d)).trans ((gainAll_read _ _ _ _ _ d).trans (congrArg (_ + ·) ?_))
      unfold gainTerm
      refine Finset.sum_congr rfl fun i _ => ?_
      rw [acc_total m c ⟨n + 1, hn⟩ hc i d]
      simp only [read_1]
      rfl
    · rw [if_neg hc, add_zero]
      exact congrFun (gainAt_rest m c n hn hc) (ix2 0 d)

/-- The sixteen row blocks have all rows. -/
theorem gain_total (c : Dev nD) (t : Fin cfg0.N) (h : t.val % 176 = 175) (d : Fin 2048) :
    gainAt (F := Ideal) m c t.val t.isLt (ix2 0 d) = outDgain m c (ix2 0 d) := by
  rw [Pipeline.eq_sum_fin_of_reset_step_apply_of_flush (ι := Fin 2048) (M := EReal)
    (fun n h y => gainAt (F := Ideal) m c n h (ix2 0 y)) 176 (fun _ => 0) (fun t y => partGain m c t y)
    (fun t h y => gain_first m c t h y) (fun t h y => gain_next m c t h y) t h d]
  refine (zero_add _).trans ?_
  have ht : t.val / 176 = 0 := by
    have := Nat.lt_of_lt_of_eq t.isLt N_0
    omega
  have e1 : ∑ s : Fin 176, partGain m c ⟨176 * (t.val / 176) + s.val, Pipeline.run_point_lt_of_flush t h s⟩ d
      = ∑ b : Fin 16, ∑ k : Fin 11, (if k = 10 then ∑ i : Fin 512, rowGain m c d ⟨b.val * 512 + i.val, by omega⟩ else 0) := by
    refine (Fin.sum_mul_add_congr fun b k hl => ?_).symm
    unfold partGain
    have hk : (176 * (t.val / 176) + (b.val * 11 + k.val)) % 11 = k.val := by
      rw [ht]
      have := k.isLt
      omega
    dsimp only
    rw [hk]
    by_cases h10 : k = 10
    · subst h10
      rw [if_pos rfl, if_pos (show (10 : Fin 11).val = 10 from rfl)]
      refine Finset.sum_congr rfl fun i _ => congrArg (rowGain m c d) (Fin.ext ?_)
      show b.val * 512 + i.val = (176 * (t.val / 176) + (b.val * 11 + 10)) / 11 * 512 + i.val
      rw [ht]
      omega
    · rw [if_neg h10, if_neg (show ¬k.val = 10 from fun e => h10 (Fin.ext e))]
  refine e1.trans ?_
  have e2 : ∀ b : Fin 16, ∑ k : Fin 11, (if k = 10 then ∑ i : Fin 512, rowGain m c d ⟨b.val * 512 + i.val, by omega⟩ else 0)
      = ∑ i : Fin 512, rowGain m c d ⟨b.val * 512 + i.val, by omega⟩ := fun b =>
    (Finset.sum_ite_eq' Finset.univ (10 : Fin 11) fun _ => ∑ i : Fin 512, rowGain m c d ⟨b.val * 512 + i.val, by omega⟩).trans
      (if_pos (Finset.mem_univ _))
  rw [Finset.sum_congr rfl fun b _ => e2 b]
  exact Fin.sum_mul_add_congr fun b i hl => rfl

/-! ## The arrays after the run -/

/-- The input gradient after the run. -/
theorem arr_dxi (c : Dev nD) : (dats (F := Ideal) m 0 c).arrAt 8 cfg0.N = outDxi m c := by
  refine (dats (F := Ideal) m 0 c).arrAt_eq_of_covers 8 _ (by decide +kernel) fun t hf y => ?_
  have h7 : t.val % 11 = 10 := (flush0_8 t).mp hf
  blk_simp
  rw [after0_8]
  obtain ⟨i, d, rfl⟩ : ∃ (i : Fin 512) (d : Fin 2048), y = ix2 i d := ⟨y 0, y 1, eq_ix2 y⟩
  refine (dxiAt_read m c t h7 i d).trans ?_
  refine congrArg (outDxi m c) (funext fun a => Fin.ext ?_)
  have h0 := coord0 t
  have h1 := coord1 t
  match a with
  | ⟨0, _⟩ => blk_simp [index_8]; show t.val / 11 * 512 + i.val = (grid0.coords t 0).val * 512 + i.val; rw [h0]
  | ⟨1, _⟩ => blk_simp [index_8]

/-- The gate's gradient after the run. -/
theorem arr_dgate (c : Dev nD) : (dats (F := Ideal) m 0 c).arrAt 9 cfg0.N = outDgate m c := by
  refine (dats (F := Ideal) m 0 c).arrAt_eq_of_covers 9 _ (by decide +kernel) fun t hf y => ?_
  blk_simp
  rw [after0_9]
  obtain ⟨i, f, rfl⟩ : ∃ (i : Fin 512) (f : Fin 512), y = ix2 i f := ⟨y 0, y 1, eq_ix2 y⟩
  refine (dgateAt_read m c t i f).trans ?_
  refine congrArg (outDgate m c) (funext fun a => Fin.ext ?_)
  have h0 := coord0 t
  have h1 := coord1 t
  match a with
  | ⟨0, _⟩ => blk_simp [index_9]; show t.val / 11 * 512 + i.val = (grid0.coords t 0).val * 512 + i.val; rw [h0]
  | ⟨1, _⟩ => blk_simp [index_9]; show t.val % 11 * 512 + f.val = (grid0.coords t 1).val * 512 + f.val; rw [h1]

/-- The second factor's gradient after the run. -/
theorem arr_dup (c : Dev nD) : (dats (F := Ideal) m 0 c).arrAt 10 cfg0.N = outDup m c := by
  refine (dats (F := Ideal) m 0 c).arrAt_eq_of_covers 10 _ (by decide +kernel) fun t hf y => ?_
  blk_simp
  rw [after0_10]
  obtain ⟨i, f, rfl⟩ : ∃ (i : Fin 512) (f : Fin 512), y = ix2 i f := ⟨y 0, y 1, eq_ix2 y⟩
  refine (dupAt_read m c t i f).trans ?_
  refine congrArg (outDup m c) (funext fun a => Fin.ext ?_)
  have h0 := coord0 t
  have h1 := coord1 t
  match a with
  | ⟨0, _⟩ => blk_simp [index_10]; show t.val / 11 * 512 + i.val = (grid0.coords t 0).val * 512 + i.val; rw [h0]
  | ⟨1, _⟩ => blk_simp [index_10]; show t.val % 11 * 512 + f.val = (grid0.coords t 1).val * 512 + f.val; rw [h1]

/-- The narrowed output gradient after the run. -/
theorem arr_dy (c : Dev nD) : (dats (F := Ideal) m 0 c).arrAt 11 cfg0.N = outDy m c := by
  refine (dats (F := Ideal) m 0 c).arrAt_eq_of_covers 11 _ (by decide +kernel) fun t hf y => ?_
  blk_simp
  rw [after0_11]
  obtain ⟨i, d, rfl⟩ : ∃ (i : Fin 512) (d : Fin 2048), y = ix2 i d := ⟨y 0, y 1, eq_ix2 y⟩
  refine (dyAt_read m c t.val t.isLt i d).trans ?_
  refine congrArg (outDy m c) (funext fun a => Fin.ext ?_)
  have h0 := coord0 t
  have h1 := coord1 t
  match a with
  | ⟨0, _⟩ => blk_simp [index_11]; show t.val / 11 * 512 + i.val = (grid0.coords t 0).val * 512 + i.val; rw [h0]
  | ⟨1, _⟩ => blk_simp [index_11]

/-- The gain's gradient after the run. -/
theorem arr_dgain (c : Dev nD) : (dats (F := Ideal) m 0 c).arrAt 12 cfg0.N = outDgain m c := by
  refine (dats (F := Ideal) m 0 c).arrAt_eq_of_covers 12 _ (by decide +kernel) fun t hf y => ?_
  have h7 : t.val % 176 = 175 := (flush0_12 t).mp hf
  blk_simp
  rw [after0_12]
  obtain ⟨d, rfl⟩ : ∃ d : Fin 2048, y = ix2 (0 : Fin 1) d := ⟨y 1, (eq_ix2 y).trans (congrArg (fun z : Fin 1 => ix2 z (y 1)) (Fin.ext (Nat.lt_one_iff.mp (y 0).isLt)))⟩
  refine (gain_total m c t h7 d).trans ?_
  refine congrArg (outDgain m c) (funext fun a => Fin.ext ?_)
  have h0 := coord0 t
  have h1 := coord1 t
  match a with
  | ⟨0, _⟩ => blk_simp [index_12]
  | ⟨1, _⟩ => blk_simp [index_12]

end Cert.Kernel3Ideal.Gen

end
-- ==== Proof.FfnInputClaim.lean ====
module

public import proofs.«01_k».proof.Defs
public import proofs.«01_k».proof.Proof.Gen.Reference3Ideal.Run
public import proofs.«01_k».proof.Proof.FfnInputRef
public import proofs.«01_k».proof.Proof.FfnInputValue
public import proofs.«01_k».proof.Proof.Pair

/-! # The gradient of the half step's input: the claims

Where the output gradient, the second factor and the down weight are finite the kernel's five results are the reference's over the extended reals. -/

@[expose] public section

set_option maxRecDepth 16384

noncomputable section

namespace Cert.FfnInput

open Idealize.ShloMosaic Idealize.SL.Sem
open Cert.AttnGrad (finite_of_abs ofBits_inf)
open Cert.Kernel3Ideal.Gen (outDxi outDgate outDup outDy outDgain arr_dxi arr_dgate arr_dup arr_dy arr_dgain
  argO argX argN argG argU argWg argWu argWd)

/-- The precondition's shape facts. -/
theorem finiteFacts : Cert.Pre_finite3.Facts where
  bcast_S_S8192x2048 := by decide
  bitsLt_bf16_f32 := by decide
  bcast_S_S8192x5632 := by decide
  bcast_S_S5632x2048 := by decide

variable (m : (ℓ : Loc Cert.Kernel3Ideal.nD Cert.Kernel3Ideal.τ Cert.Kernel3Ideal.sig) → Buf (Elt Ideal) ℓ)

/-- Where the precondition holds the output gradient, the second factor and the down weight are real. -/
theorem real_of_pre (h : Cert.Pre_Kernel3Ideal_finite3 (hPre_finite3 := finiteFacts) m) (c : Dev Cert.Kernel3Ideal.nD) :
    (∀ y, IsReal (argO m c y)) ∧ (∀ y, IsReal (argU m c y)) ∧ (∀ y, IsReal (argWd m c y)) := by
  obtain ⟨h0, h1, h2⟩ := h c
  refine ⟨fun i => ?_, fun i => ?_, fun i => ?_⟩
  · refine isReal_of_finite (finite_of_abs (Eq.trans ?_ (congrFun h0 i)))
    rw [← ofBits_inf]; rfl
  · refine isReal_of_finite (finite_of_abs (Eq.trans ?_ (congrFun h1 i)))
    rw [← ofBits_inf]; rfl
  · refine isReal_of_finite (finite_of_abs (Eq.trans ?_ (congrFun h2 i)))
    rw [← ofBits_inf]; rfl

/-- The reference leaves its arguments as they were; it declares no semaphore. -/
theorem reference_frame : Cert.quiescent_Reference3Ideal (hReference3Ideal := Cert.Reference3Ideal.Gen.facts) := fun m g _ =>
  (θ_run _ _ _).mono (fun r h => ⟨fun c => (h c).2.2.2.2.2, sem_eq_zero_of_no_sems (by decide) r.2⟩) (Cert.Reference3Ideal.Value.run m g)

/-- The kernel ends at the five arrays. -/
theorem kernel_run (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩
      (fun r => (∀ c : Dev Cert.Kernel3Ideal.nD,
        r.2.mem ((c.tc : Thread Cert.Kernel3Ideal.nD Cert.Kernel3Ideal.τ).loc Cert.Kernel3Ideal.main_v0_0) = outDxi m c
        ∧ r.2.mem ((c.tc : Thread Cert.Kernel3Ideal.nD Cert.Kernel3Ideal.τ).loc Cert.Kernel3Ideal.main_v0_1) = outDgate m c
        ∧ r.2.mem ((c.tc : Thread Cert.Kernel3Ideal.nD Cert.Kernel3Ideal.τ).loc Cert.Kernel3Ideal.main_v0_2) = outDup m c
        ∧ r.2.mem ((c.tc : Thread Cert.Kernel3Ideal.nD Cert.Kernel3Ideal.τ).loc Cert.Kernel3Ideal.main_v0_3) = outDy m c
        ∧ r.2.mem ((c.tc : Thread Cert.Kernel3Ideal.nD Cert.Kernel3Ideal.τ).loc Cert.Kernel3Ideal.main_v0_4) = outDgain m c)) :=
  (θ_run _ _ _).mono (fun _ h c => ⟨((h c).1 8).trans (arr_dxi m c), ((h c).1 9).trans (arr_dgate m c), ((h c).1 10).trans (arr_dup m c),
    ((h c).1 11).trans (arr_dy m c), ((h c).1 12).trans (arr_dgain m c)⟩) (Cert.Kernel3Ideal.Gen.run_main m g)

/-- The kernel's results are the reference's. -/
theorem gradients_equal : Cert.algebraic_Kernel3Ideal_Reference3Ideal_pre_finite3 (hKernel3Ideal := Cert.Kernel3Ideal.Gen.facts)
    (hReference3Ideal := Cert.Reference3Ideal.Gen.facts) (hPre_finite3 := finiteFacts) := by
  intro m g m' g' hpre hagree
  refine ⟨outDxi m, outDgate m, outDup m, outDy m, outDgain m, ?_, ?_⟩
  · refine (θ_run _ _ _).mono (fun r h c => ?_) (θ_run_and (kernel_run m g) (Cert.Kernel3Ideal.Gen.frame m g))
    exact ⟨(h.1 c).1, (h.1 c).2.1, (h.1 c).2.2.1, (h.1 c).2.2.2.1, (h.1 c).2.2.2.2, h.2.1 c⟩
  · refine (θ_run _ _ _).mono (fun r h c => ?_) (Cert.Reference3Ideal.Value.run m' g')
    obtain ⟨e0, e1, e2, e3, e4, e5, e6, e7⟩ := hagree c
    obtain ⟨rO, rU, rD⟩ := real_of_pre m hpre c
    obtain ⟨h0, h1, h2, h3, h4, h5⟩ := h c
    refine ⟨h0.trans ?_, h1.trans ?_, h2.trans ?_, h3.trans ?_, h4.trans ?_, h5⟩
    · rw [Cert.Reference3Ideal.Read.val_main_v59_eq, e0, e1, e2, e3, e4, e5, e6, e7]
      exact Cert.Reference3Ideal.Read.dxi_ref rO rU rD
    · rw [Cert.Reference3Ideal.Read.val_main_v60_eq, e0, e3, e4, e7]
      exact Cert.Reference3Ideal.Read.dgate_ref rO rU rD
    · rw [Cert.Reference3Ideal.Read.val_main_v61_eq, e0, e3, e7]
      exact Cert.Reference3Ideal.Read.dup_ref _ _ _
    · rw [Cert.Reference3Ideal.Read.val_main_v62_eq, e0]
      exact Cert.Reference3Ideal.Read.dy_ref _
    · rw [Cert.Reference3Ideal.Read.val_main_v42_eq, e0, e1, e3, e4, e5, e6, e7]
      exact Cert.Reference3Ideal.Read.dgain_ref rO rU rD

end Cert.FfnInput

end
-- ==== Proof.FfnForwardSpec.lean ====
module

public import proofs.«01_k».proof.Proof.FfnInputSpec

/-! # The forward half step as one formula

A token row is normalised and scaled, taken to the hidden units by two products, gated, taken back, halved and added to the row. -/

@[expose] public section

noncomputable section

namespace Cert.FfnForward

open Idealize.ShloMosaic Cert.FfnInput
open scoped BigOperators

/-- The normalised and scaled rows. -/
def hnArr (x : TokenArr) (n : GainArr) : TokenArr := fun y => x y * (invRms fun e => x (ix2 (y 0) e)) * n (ix2 0 (y 1))

/-- A product of rows with a hidden weight. -/
def hiddenArr (h : TokenArr) (w : WeightArr) : HiddenArr := fun y => ∑ e : Fin 2048, h (ix2 (y 0) e) * w (ix2 (y 1) e)

/-- The gated activation. -/
def activate (g u : EReal) : EReal := g * Ideal.logistic g * u

/-- The hidden activations. -/
def actArr (h : TokenArr) (wg wu : WeightArr) : HiddenArr := fun y => activate (hiddenArr h wg y) (hiddenArr h wu y)

/-- The hidden activations taken back to the features. -/
def downArr (a : HiddenArr) (wd : WeightArr) : TokenArr := fun y => ∑ f : Fin 5632, a (ix2 (y 0) f) * wd (ix2 f (y 1))

/-- The half step's output. -/
def outArr (x : TokenArr) (n : GainArr) (wg wu wd : WeightArr) : TokenArr := fun y => x y + half * downArr (actArr (hnArr x n) wg wu) wd y

end Cert.FfnForward

end
-- ==== Proof.FfnForwardRef.lean ====
module

public import proofs.«01_k».proof.Proof.Gen.Reference4Ideal.Read
public import proofs.«01_k».proof.Proof.FfnForwardSpec
public import Idealize.ShloMosaic.Lib.Pointwise

/-! # The reference's forward half step -/

@[expose] public section

noncomputable section

namespace Cert.Reference4Ideal.Read

open Idealize.ShloMosaic Cert.FfnInput Cert.FfnForward
open scoped BigOperators

variable (x : TokenArr) (n : GainArr) (wg wu wd : WeightArr)

/-- The normalised and scaled rows, before and after they are narrowed. -/
theorem hn_read (r : Fin 8192) (d : Fin 2048) : val_main_v14 (F := Ideal) x n (ix2 r d) = hnArr x n (ix2 r d) := by
  have h : val_main_v14 (F := Ideal) x n (ix2 r d) = x (ix2 r d) * (invRms fun e => x (ix2 r e)) * n (ix2 0 d) := by
    unfold invRms width small
    pointwise [val_main_v14, val_main_v13, val_main_v12, val_main_v11, val_main_v10, val_main_v9, val_main_v8, val_main_cst_1,
      val_main_v7, val_main_v6, val_main_cst_0, val_main_v5, val_main_v4, val_main_cst, val_main_v3]
  exact h

theorem hn_ref : val_main_v25 (F := Ideal) x n = hnArr x n := by
  funext y
  obtain ⟨r, d, rfl⟩ : ∃ (r : Fin 8192) (d : Fin 2048), y = ix2 r d := ⟨y 0, y 1, eq_ix2 y⟩
  refine Eq.trans ?_ (hn_read x n r d)
  pointwise [val_main_v25]

/-- The gate, before and after it is narrowed. -/
theorem gate_read (r : Fin 8192) (f : Fin 5632) : val_main_v16 (F := Ideal) x n wg (ix2 r f) = hiddenArr (hnArr x n) wg (ix2 r f) := by
  have h : val_main_v16 (F := Ideal) x n wg (ix2 r f) = ∑ e : Fin 2048, val_main_v14 (F := Ideal) x n (ix2 r e) * wg (ix2 f e) := by
    pointwise [val_main_v16, val_main_v15, val_main_v0]
  rw [h]
  simp only [hn_read]
  rfl

theorem gate_ref : val_main_v26 (F := Ideal) x n wg = hiddenArr (hnArr x n) wg := by
  funext y
  obtain ⟨r, f, rfl⟩ : ∃ (r : Fin 8192) (f : Fin 5632), y = ix2 r f := ⟨y 0, y 1, eq_ix2 y⟩
  refine Eq.trans ?_ (gate_read x n wg r f)
  pointwise [val_main_v26]

/-- The second factor, before and after it is narrowed. -/
theorem up_read (r : Fin 8192) (f : Fin 5632) : val_main_v18 (F := Ideal) x n wu (ix2 r f) = hiddenArr (hnArr x n) wu (ix2 r f) := by
  have h : val_main_v18 (F := Ideal) x n wu (ix2 r f) = ∑ e : Fin 2048, val_main_v14 (F := Ideal) x n (ix2 r e) * wu (ix2 f e) := by
    pointwise [val_main_v18, val_main_v17, val_main_v1]
  rw [h]
  simp only [hn_read]
  rfl

theorem up_ref : val_main_v27 (F := Ideal) x n wu = hiddenArr (hnArr x n) wu := by
  funext y
  obtain ⟨r, f, rfl⟩ : ∃ (r : Fin 8192) (f : Fin 5632), y = ix2 r f := ⟨y 0, y 1, eq_ix2 y⟩
  refine Eq.trans ?_ (up_read x n wu r f)
  pointwise [val_main_v27]

/-- The hidden activations. -/
theorem act_read (r : Fin 8192) (f : Fin 5632) : val_main_v20 (F := Ideal) x n wg wu (ix2 r f) = actArr (hnArr x n) wg wu (ix2 r f) := by
  have h : val_main_v20 (F := Ideal) x n wg wu (ix2 r f)
      = activate (val_main_v16 (F := Ideal) x n wg (ix2 r f)) (val_main_v18 (F := Ideal) x n wu (ix2 r f)) := by
    unfold activate
    pointwise [val_main_v20, val_main_v19, val_main_call0_v5, val_main_call0_v4, val_main_call0_cst_0, val_main_call0_v3, val_main_call0_v2,
      val_main_call0_cst, val_main_call0_v1, val_main_call0_v0, Ideal.logistic]
  rw [h, gate_read, up_read]
  rfl

/-- The half step's output. -/
theorem out_ref : val_main_v24 (F := Ideal) x n wg wu wd = outArr x n wg wu wd := by
  funext y
  obtain ⟨r, d, rfl⟩ : ∃ (r : Fin 8192) (d : Fin 2048), y = ix2 r d := ⟨y 0, y 1, eq_ix2 y⟩
  have h : val_main_v24 (F := Ideal) x n wg wu wd (ix2 r d)
      = x (ix2 r d) + half * ∑ f : Fin 5632, val_main_v20 (F := Ideal) x n wg wu (ix2 r f) * wd (ix2 f d) := by
    unfold half
    pointwise [val_main_v24, val_main_v23, val_main_v22, val_main_cst_2, val_main_v21, val_main_v2]
  rw [h]
  simp only [act_read]
  rfl

end Cert.Reference4Ideal.Read

end
-- ==== Proof.FfnForwardStep.lean ====
module

public import proofs.«01_k».proof.Proof.Gen.Kernel4Ideal.Skeleton
public import Idealize.ShloMosaic.Lib.VecWindow

/-! # What one grid point of the forward half step does, as plain functions

A grid point takes 1024 token rows and 512 hidden columns. Where a row block opens, its eight chunks of 128 rows are
normalised. The hidden block is made in two halves of 256 columns. -/

@[expose] public section

noncomputable section

namespace Cert.Kernel4Ideal.Gen

open Idealize.ShloMosaic Idealize.SL.Sem

variable {F : FTy → Type} [FloatOps F]

/-- The upper 256 rows of a weight block. -/
abbrev upperHalf {α : Type} (x : S512x2048.Idx → α) : S256x2048.Idx → α :=
  VecWindow.window x ![0, 0] S256x2048.size inb_S512x2048_S256x2048_0_0

/-- The lower 256 rows of a weight block. -/
abbrev lowerHalf {α : Type} (x : S512x2048.Idx → α) : S256x2048.Idx → α :=
  VecWindow.window x ![256, 0] S256x2048.size inb_S512x2048_S256x2048_256_0

/-- Two halves put side by side over what the buffer held. -/
def putHalves {α : Type} (d : S1024x512.Idx → α) (a b : S1024x256.Idx → α) : S1024x512.Idx → α :=
  VecWindow.put (VecWindow.put d ![0, 0] S1024x256.size a) ![0, 256] S1024x256.size b

/-- The gate block. -/
def gateStep (hn : Vec F S1024x2048 .bf16) (x2 : Vec F S512x2048 .bf16) (d : Vec F S1024x512 .bf16) : Vec F S1024x512 .bf16 :=
  putHalves d (k0_pay18 hn (upperHalf x2)) (k0_pay23 hn (lowerHalf x2))

/-- The up block. -/
def upStep (hn : Vec F S1024x2048 .bf16) (x3 : Vec F S512x2048 .bf16) (d : Vec F S1024x512 .bf16) : Vec F S1024x512 .bf16 :=
  putHalves d (k0_pay19 hn (upperHalf x3)) (k0_pay24 hn (lowerHalf x3))

/-- The activated block. -/
def actStep (hn : Vec F S1024x2048 .bf16) (x2 x3 : Vec F S512x2048 .bf16) (d : Vec F S1024x512 .bf16) : Vec F S1024x512 .bf16 :=
  putHalves d (k0_pay20 hn (upperHalf x2) (upperHalf x3)) (k0_pay1 (k0_pay21 hn (lowerHalf x2)) (k0_pay22 hn (lowerHalf x3)))

/-- The offsets of the 128 rows of chunk `s`. -/
def chunkOff (s : Fin 8) : Fin 2 → ℕ := ![128 * s.val, 0]

theorem chunkOff_inb (s : Fin 8) : ∀ a, chunkOff s a + S128x2048.size a ≤ S1024x2048.size a := by
  have h := s.isLt
  intro a
  fin_cases a
  · show 128 * s.val + 128 ≤ 1024; omega
  · show 0 + 2048 ≤ 2048; omega

/-- The 128 rows of chunk `s`. -/
abbrev chunk {α : Type} (s : Fin 8) (x : S1024x2048.Idx → α) : S128x2048.Idx → α :=
  VecWindow.window x (chunkOff s) S128x2048.size (chunkOff_inb s)

/-- The gain row, as the body's load spells it. -/
abbrev gainRow {α : Type} (x : S1x2048.Idx → α) : S1x2048.Idx → α :=
  VecWindow.window x ![0, 0] S1x2048.size inb_S1x2048_S1x2048_0_0

/-- Chunk `s` normalised and put in place. -/
def normStep (x0 : Vec F S1024x2048 .f32) (x1 : Vec F S1x2048 .f32) (d : Vec F S1024x2048 .bf16) (s : Fin 8) : Vec F S1024x2048 .bf16 :=
  VecWindow.put d (chunkOff s) S128x2048.size (k0_pay4 (chunk s x0) (gainRow x1))

/-- All eight chunks normalised, over what the buffer held. -/
def normAll (x0 : Vec F S1024x2048 .f32) (x1 : Vec F S1x2048 .f32) (d : Vec F S1024x2048 .bf16) : Vec F S1024x2048 .bf16 :=
  normStep x0 x1 (normStep x0 x1 (normStep x0 x1 (normStep x0 x1 (normStep x0 x1 (normStep x0 x1 (normStep x0 x1 (normStep x0 x1 d 0) 1) 2) 3) 4) 5) 6) 7

/-- The block row `y` lies in. -/
def chunkOf (y : S1024x2048.Idx) : Fin 8 := ⟨(y 0).val / 128, by have h : (y 0).val < 1024 := (y 0).isLt; omega⟩

theorem mem_chunk (y : S1024x2048.Idx) (a : Fin 2) :
    chunkOff (chunkOf y) a ≤ (y a).val ∧ (y a).val < chunkOff (chunkOf y) a + S128x2048.size a := by
  have h0 : (y 0).val < 1024 := (y 0).isLt
  have h1 : (y 1).val < 2048 := (y 1).isLt
  fin_cases a
  · show 128 * ((y 0).val / 128) ≤ (y 0).val ∧ (y 0).val < 128 * ((y 0).val / 128) + 128; omega
  · show 0 ≤ (y 1).val ∧ (y 1).val < 0 + 2048; omega

/-- `y`'s place within its chunk. -/
def inChunk (y : S1024x2048.Idx) : S128x2048.Idx := fun a => ⟨(y a).val - chunkOff (chunkOf y) a, by
  have h := mem_chunk y a
  omega⟩

/-- A chunk's step is seen in the chunk. -/
theorem normStep_in (x0 : Vec F S1024x2048 .f32) (x1 : Vec F S1x2048 .f32) (d : Vec F S1024x2048 .bf16) (y : S1024x2048.Idx) :
    normStep x0 x1 d (chunkOf y) y = k0_pay4 (chunk (chunkOf y) x0) (gainRow x1) (inChunk y) := by
  unfold normStep VecWindow.put
  rw [dif_pos (mem_chunk y)]
  rfl

/-- A chunk's step is not seen outside the chunk. -/
theorem normStep_out (x0 : Vec F S1024x2048 .f32) (x1 : Vec F S1x2048 .f32) (d : Vec F S1024x2048 .bf16) (y : S1024x2048.Idx) (s : Fin 8)
    (h : s ≠ chunkOf y) : normStep x0 x1 d s y = d y := by
  unfold normStep VecWindow.put
  rw [dif_neg]
  intro hc
  have h0 := hc 0
  change 128 * s.val ≤ (y 0).val ∧ (y 0).val < 128 * s.val + 128 at h0
  exact h (Fin.ext (by show s.val = (y 0).val / 128; omega))

/-- The normalised block at `y`, whatever the buffer held. -/
theorem normAll_apply (x0 : Vec F S1024x2048 .f32) (x1 : Vec F S1x2048 .f32) (d : Vec F S1024x2048 .bf16) (y : S1024x2048.Idx) :
    normAll x0 x1 d y = k0_pay4 (chunk (chunkOf y) x0) (gainRow x1) (inChunk y) := by
  unfold normAll
  by_cases h7 : (7 : Fin 8) = chunkOf y
  · rw [h7]; exact normStep_in x0 x1 _ y
  rw [normStep_out _ _ _ _ _ h7]
  by_cases h6 : (6 : Fin 8) = chunkOf y
  · rw [h6]; exact normStep_in x0 x1 _ y
  rw [normStep_out _ _ _ _ _ h6]
  by_cases h5 : (5 : Fin 8) = chunkOf y
  · rw [h5]; exact normStep_in x0 x1 _ y
  rw [normStep_out _ _ _ _ _ h5]
  by_cases h4 : (4 : Fin 8) = chunkOf y
  · rw [h4]; exact normStep_in x0 x1 _ y
  rw [normStep_out _ _ _ _ _ h4]
  by_cases h3 : (3 : Fin 8) = chunkOf y
  · rw [h3]; exact normStep_in x0 x1 _ y
  rw [normStep_out _ _ _ _ _ h3]
  by_cases h2 : (2 : Fin 8) = chunkOf y
  · rw [h2]; exact normStep_in x0 x1 _ y
  rw [normStep_out _ _ _ _ _ h2]
  by_cases h1 : (1 : Fin 8) = chunkOf y
  · rw [h1]; exact normStep_in x0 x1 _ y
  rw [normStep_out _ _ _ _ _ h1]
  have h0 : (0 : Fin 8) = chunkOf y := by
    generalize chunkOf y = s at *
    omega
  rw [h0]; exact normStep_in x0 x1 _ y

/-- What the buffer held leaves no trace. -/
theorem normAll_any (x0 : Vec F S1024x2048 .f32) (x1 : Vec F S1x2048 .f32) (d d' : Vec F S1024x2048 .bf16) : normAll x0 x1 d = normAll x0 x1 d' :=
  funext fun y => (normAll_apply x0 x1 d y).trans (normAll_apply x0 x1 d' y).symm

/-- Two halves put side by side leave nothing of what was there before. -/
theorem putHalves_any {α : Type} (d d' : S1024x512.Idx → α) (a b : S1024x256.Idx → α) : putHalves d a b = putHalves d' a b := by
  funext y
  have h0 : (y 0).val < 1024 := (y 0).isLt
  have h1 : (y 1).val < 512 := (y 1).isLt
  unfold putHalves VecWindow.put
  by_cases hr : ∀ x : Fin 2, (![0, 256] : Fin 2 → ℕ) x ≤ (y x).val ∧ (y x).val < (![0, 256] : Fin 2 → ℕ) x + S1024x256.size x
  · rw [dif_pos hr, dif_pos hr]
  · rw [dif_neg hr, dif_neg hr]
    by_cases hl : ∀ x : Fin 2, (![0, 0] : Fin 2 → ℕ) x ≤ (y x).val ∧ (y x).val < (![0, 0] : Fin 2 → ℕ) x + S1024x256.size x
    · rw [dif_pos hl, dif_pos hl]
    · exfalso
      by_cases hc : (y 1).val < 256
      · refine hl fun x => ?_
        fin_cases x
        · show 0 ≤ (y 0).val ∧ (y 0).val < 0 + 1024; omega
        · show 0 ≤ (y 1).val ∧ (y 1).val < 0 + 256; omega
      · refine hr fun x => ?_
        fin_cases x
        · show 0 ≤ (y 0).val ∧ (y 0).val < 0 + 1024; omega
        · show 256 ≤ (y 1).val ∧ (y 1).val < 256 + 256; omega

end Cert.Kernel4Ideal.Gen

end
-- ==== Proof.FfnForwardRead.lean ====
module

public import proofs.«01_k».proof.Proof.FfnForwardSpec
public import proofs.«01_k».proof.Proof.FfnForwardStep
public import Idealize.ShloMosaic.Lib.Pipeline.ValueKit
public import Idealize.ShloMosaic.Lib.Pointwise

/-! # One grid point's arithmetic, element by element -/

@[expose] public section

set_option maxRecDepth 16384

noncomputable section

namespace Cert.Kernel4Ideal.Gen

open Idealize.ShloMosaic Idealize.ShloMosaic.TcCoe Idealize.ShloMosaic.Tactic Cert.FfnInput Cert.FfnForward
open scoped BigOperators

/-! ## The stored values -/

theorem pay4_read (x : S128x2048.Idx → EReal) (n : S1x2048.Idx → EReal) (i : Fin 128) (d : Fin 2048) :
    k0_pay4 (F := Ideal) x n (ix2 i d) = x (ix2 i d) * (invRms fun e => x (ix2 i e)) * n (ix2 0 d) := by
  unfold invRms width small
  pointwise [k0_pay4]

theorem pay14_read (i : Fin 1024) (d : Fin 2048) : k0_pay14 (F := Ideal) (ix2 i d) = 0 := by pointwise [k0_pay14]

theorem pay18_read (h : S1024x2048.Idx → EReal) (w : S256x2048.Idx → EReal) (i : Fin 1024) (f : Fin 256) :
    k0_pay18 (F := Ideal) h w (ix2 i f) = ∑ e, h (ix2 i e) * w (ix2 f e) := by
  pointwise [k0_pay18, k0_pay16, k0_pay15]

theorem pay19_read (h : S1024x2048.Idx → EReal) (w : S256x2048.Idx → EReal) (i : Fin 1024) (f : Fin 256) :
    k0_pay19 (F := Ideal) h w (ix2 i f) = ∑ e, h (ix2 i e) * w (ix2 f e) := by
  pointwise [k0_pay19, k0_pay17, k0_pay15]

theorem pay20_read (h : S1024x2048.Idx → EReal) (w v : S256x2048.Idx → EReal) (i : Fin 1024) (f : Fin 256) :
    k0_pay20 (F := Ideal) h w v (ix2 i f) = activate (∑ e, h (ix2 i e) * w (ix2 f e)) (∑ e, h (ix2 i e) * v (ix2 f e)) := by
  unfold activate
  pointwise [k0_pay20, k0_pay16, k0_pay17, k0_pay15]

theorem pay23_read (h : S1024x2048.Idx → EReal) (w : S256x2048.Idx → EReal) (i : Fin 1024) (f : Fin 256) :
    k0_pay23 (F := Ideal) h w (ix2 i f) = ∑ e, h (ix2 i e) * w (ix2 f e) := by
  pointwise [k0_pay23, k0_pay21, k0_pay15]

theorem pay24_read (h : S1024x2048.Idx → EReal) (w : S256x2048.Idx → EReal) (i : Fin 1024) (f : Fin 256) :
    k0_pay24 (F := Ideal) h w (ix2 i f) = ∑ e, h (ix2 i e) * w (ix2 f e) := by
  pointwise [k0_pay24, k0_pay22, k0_pay15]

theorem pay1_read (h : S1024x2048.Idx → EReal) (w v : S256x2048.Idx → EReal) (i : Fin 1024) (f : Fin 256) :
    k0_pay1 (F := Ideal) (k0_pay21 (F := Ideal) h w) (k0_pay22 (F := Ideal) h v) (ix2 i f)
      = activate (∑ e, h (ix2 i e) * w (ix2 f e)) (∑ e, h (ix2 i e) * v (ix2 f e)) := by
  unfold activate
  pointwise [k0_pay1, k0_pay21, k0_pay22, k0_pay15]

theorem pay2_read (a : S1024x2048.Idx → EReal) (g : S1024x512.Idx → EReal) (w : S512x2048.Idx → EReal) (i : Fin 1024) (d : Fin 2048) :
    k0_pay2 (F := Ideal) a g w (ix2 i d) = a (ix2 i d) + ∑ f, g (ix2 i f) * w (ix2 f d) := by
  pointwise [k0_pay2]

theorem pay3_read (x a : S1024x2048.Idx → EReal) (i : Fin 1024) (d : Fin 2048) :
    k0_pay3 (F := Ideal) x a (ix2 i d) = x (ix2 i d) + half * a (ix2 i d) := by
  unfold half
  pointwise [k0_pay3]

/-! ## Windows and puts at an index -/

theorem upperHalf_read (x : S512x2048.Idx → EReal) (f : Fin 256) (d : Fin 2048) : upperHalf x (ix2 f d) = x (ix2 ⟨f.val, by omega⟩ d) :=
  congrArg x (funext fun a => Fin.ext (by
    match a with
    | ⟨0, _⟩ => show 0 + 1 * f.val = f.val; omega
    | ⟨1, _⟩ => show 0 + 1 * d.val = d.val; omega))

theorem lowerHalf_read (x : S512x2048.Idx → EReal) (f : Fin 256) (d : Fin 2048) : lowerHalf x (ix2 f d) = x (ix2 ⟨256 + f.val, by omega⟩ d) :=
  congrArg x (funext fun a => Fin.ext (by
    match a with
    | ⟨0, _⟩ => show 256 + 1 * f.val = 256 + f.val; omega
    | ⟨1, _⟩ => show 0 + 1 * d.val = d.val; omega))

theorem gainRow_read (x : S1x2048.Idx → EReal) (d : Fin 2048) : gainRow x (ix2 0 d) = x (ix2 0 d) :=
  congrArg x (funext fun a => Fin.ext (by
    match a with
    | ⟨0, _⟩ => rfl
    | ⟨1, _⟩ => show 0 + 1 * d.val = d.val; omega))

/-- The row of a block that row `i` of its chunk `s` is. -/
def chunkRow (s : Fin 8) (i : Fin 128) : Fin 1024 := ⟨s.val * 128 + i.val, by omega⟩

theorem chunk_read (s : Fin 8) (x : S1024x2048.Idx → EReal) (i : Fin 128) (d : Fin 2048) : chunk s x (ix2 i d) = x (ix2 (chunkRow s i) d) :=
  congrArg x (funext fun a => Fin.ext (by
    match a with
    | ⟨0, _⟩ => show 128 * s.val + 1 * i.val = s.val * 128 + i.val; omega
    | ⟨1, _⟩ => show 0 + 1 * d.val = d.val; omega))

/-- The normalised block. -/
theorem normAll_read (x0 : S1024x2048.Idx → EReal) (x1 : S1x2048.Idx → EReal) (z : S1024x2048.Idx → EReal) (i : Fin 1024) (d : Fin 2048) :
    normAll (F := Ideal) x0 x1 z (ix2 i d) = x0 (ix2 i d) * (invRms fun e => x0 (ix2 i e)) * x1 (ix2 0 d) := by
  refine (normAll_apply (F := Ideal) x0 x1 z (ix2 i d)).trans ?_
  have hrow : chunkRow (chunkOf (ix2 i d)) ⟨i.val % 128, by omega⟩ = i := Fin.ext (by show i.val / 128 * 128 + i.val % 128 = i.val; omega)
  refine Eq.trans (congrArg _ (funext fun a => Fin.ext ?_))
    ((pay4_read (chunk (chunkOf (ix2 i d)) x0) (gainRow x1) ⟨i.val % 128, by omega⟩ d).trans ?_)
  · match a with
    | ⟨0, _⟩ => show i.val - 128 * (i.val / 128) = i.val % 128; omega
    | ⟨1, _⟩ => show d.val - 0 = d.val; omega
  · simp only [chunk_read, gainRow_read, hrow]

/-- Two halves side by side, at an index: the half the column lies in. -/
theorem halves_read (z : S1024x512.Idx → EReal) (w v : S1024x256.Idx → EReal) (y : Fin 1024 → Fin 512 → EReal)
    (hw : ∀ (i : Fin 1024) (f : Fin 256), w (ix2 i f) = y i ⟨f.val, by omega⟩)
    (hv : ∀ (i : Fin 1024) (f : Fin 256), v (ix2 i f) = y i ⟨256 + f.val, by omega⟩) (i : Fin 1024) (f : Fin 512) :
    putHalves z w v (ix2 i f) = y i f := by
  unfold putHalves
  by_cases hf : f.val < 256
  · have hout : ¬∀ a, (![0, 256] : Fin 2 → ℕ) a ≤ ((ix2 i f : S1024x512.Idx) a).val
        ∧ ((ix2 i f : S1024x512.Idx) a).val < (![0, 256] : Fin 2 → ℕ) a + S1024x256.size a := fun h => by
      have h1 : 256 ≤ f.val := (h 1).1
      omega
    have hin : ∀ a, (![0, 0] : Fin 2 → ℕ) a ≤ ((ix2 i f : S1024x512.Idx) a).val
        ∧ ((ix2 i f : S1024x512.Idx) a).val < (![0, 0] : Fin 2 → ℕ) a + S1024x256.size a := fun a => by
      match a with
      | ⟨0, _⟩ => show 0 ≤ i.val ∧ i.val < 0 + 1024; omega
      | ⟨1, _⟩ => show 0 ≤ f.val ∧ f.val < 0 + 256; omega
    refine (dif_neg hout).trans ((dif_pos hin).trans ?_)
    refine Eq.trans (congrArg w (funext fun a => Fin.ext ?_)) (hw i ⟨f.val, hf⟩)
    match a with
    | ⟨0, _⟩ => show i.val - 0 = i.val; omega
    | ⟨1, _⟩ => show f.val - 0 = f.val; omega
  · have hin : ∀ a, (![0, 256] : Fin 2 → ℕ) a ≤ ((ix2 i f : S1024x512.Idx) a).val
        ∧ ((ix2 i f : S1024x512.Idx) a).val < (![0, 256] : Fin 2 → ℕ) a + S1024x256.size a := fun a => by
      match a with
      | ⟨0, _⟩ => show 0 ≤ i.val ∧ i.val < 0 + 1024; omega
      | ⟨1, _⟩ => show 256 ≤ f.val ∧ f.val < 256 + 256; omega
    refine (dif_pos hin).trans ?_
    refine Eq.trans (congrArg v (funext fun a => Fin.ext ?_)) ((hv i ⟨f.val - 256, by omega⟩).trans (congrArg (y i) (Fin.ext ?_)))
    · match a with
      | ⟨0, _⟩ => show i.val - 0 = i.val; omega
      | ⟨1, _⟩ => rfl
    · show 256 + (f.val - 256) = f.val; omega

/-- The gate block. -/
theorem gateStep_read (h : S1024x2048.Idx → EReal) (w : S512x2048.Idx → EReal) (z : S1024x512.Idx → EReal) (i : Fin 1024) (f : Fin 512) :
    gateStep (F := Ideal) h w z (ix2 i f) = ∑ e, h (ix2 i e) * w (ix2 f e) := by
  refine halves_read z _ _ (fun i f => ∑ e, h (ix2 i e) * w (ix2 f e)) (fun i f => ?_) (fun i f => ?_) i f
  · refine (pay18_read _ _ i f).trans ?_
    simp only [upperHalf_read]
  · refine (pay23_read _ _ i f).trans ?_
    simp only [lowerHalf_read]

/-- The up block. -/
theorem upStep_read (h : S1024x2048.Idx → EReal) (w : S512x2048.Idx → EReal) (z : S1024x512.Idx → EReal) (i : Fin 1024) (f : Fin 512) :
    upStep (F := Ideal) h w z (ix2 i f) = ∑ e, h (ix2 i e) * w (ix2 f e) := by
  refine halves_read z _ _ (fun i f => ∑ e, h (ix2 i e) * w (ix2 f e)) (fun i f => ?_) (fun i f => ?_) i f
  · refine (pay19_read _ _ i f).trans ?_
    simp only [upperHalf_read]
  · refine (pay24_read _ _ i f).trans ?_
    simp only [lowerHalf_read]

/-- The activated block. -/
theorem actStep_read (h : S1024x2048.Idx → EReal) (w v : S512x2048.Idx → EReal) (z : S1024x512.Idx → EReal) (i : Fin 1024) (f : Fin 512) :
    actStep (F := Ideal) h w v z (ix2 i f) = activate (∑ e, h (ix2 i e) * w (ix2 f e)) (∑ e, h (ix2 i e) * v (ix2 f e)) := by
  refine halves_read z _ _ (fun i f => activate (∑ e, h (ix2 i e) * w (ix2 f e)) (∑ e, h (ix2 i e) * v (ix2 f e))) (fun i f => ?_) (fun i f => ?_) i f
  · refine (pay20_read _ _ _ i f).trans ?_
    simp only [upperHalf_read]
  · refine (pay1_read _ _ _ i f).trans ?_
    simp only [lowerHalf_read]

end Cert.Kernel4Ideal.Gen

end
-- ==== Proof.FfnForwardBody.lean ====
module

public import proofs.«01_k».proof.Proof.Gen.Kernel4Ideal.Frame
public import proofs.«01_k».proof.Proof.FfnForwardStep

/-! # The body of the forward half step at one grid point

Three cases, by where the point lies in its row block. -/

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The point is the last of its row block. -/
abbrev closes (i : grid0.Coords) : Prop := (Scalar.cmpi .ne (Scalar.extui (Scalar.cmpi .eq (BitVec.ofNat 32 (i 1).val) 10#32)) 0#32) = 1#1

/-- The store of a left half. -/
abbrev leftPiece (a : Vec F S1024x256 .bf16) : View.Piece (Elt F) S1024x512 .bf16 := ⟨Rect.unit ![0, 0] S1024x256.size inb_S1024x512_S1024x256_0_0, a⟩
/-- The store of a right half. -/
abbrev rightPiece (b : Vec F S1024x256 .bf16) : View.Piece (Elt F) S1024x512 .bf16 := ⟨Rect.unit ![0, 256] S1024x256.size inb_S1024x512_S1024x256_0_256, b⟩

/-- Two halves stored, read back. -/
theorem halves_stores {a a' b b' : Vec F S1024x256 .bf16} (d : Vec F S1024x512 .bf16) (v : View sig .tc .vmem S1024x512 .bf16) (f : v.ty.Contents (Elt F))
    (ha : a' = a) (hb : b' = b) : v.read (Elt F) (v.writes (Elt F) f [rightPiece b', leftPiece a']) = putHalves d a b := by
  subst ha hb
  rw [View.read_writes_cons_put v f _ _ _ rfl, View.read_writes_cons_put v f _ _ _ rfl]
  exact putHalves_any _ _ _ _

/-- The same read back by a load of the whole block. -/
theorem halves_cov {a a' b b' : Vec F S1024x256 .bf16} (d : Vec F S1024x512 .bf16) (v : View sig .tc .vmem S1024x512 .bf16) (ha : a' = a) (hb : b' = b) :
    v.readCov [rightPiece b', leftPiece a'] (Rect.unit ![0, 0] S1024x512.size inb_S1024x512_S1024x512_0_0).toLoadRect = putHalves d a b :=
  (View.readAt_full v _ _).trans (halves_stores d v v.junk ha hb)

/-- The store of one normalised chunk. -/
abbrev normPiece (x0 : Vec F S1024x2048 .f32) (x1 : Vec F S1x2048 .f32) (s : Fin 8) : View.Piece (Elt F) S1024x2048 .bf16 :=
  ⟨Rect.unit (chunkOff s) S128x2048.size (chunkOff_inb s), k0_pay4 (chunk s x0) (gainRow x1)⟩

/-- The eight chunks' stores, the last first. -/
abbrev normPieces (x0 : Vec F S1024x2048 .f32) (x1 : Vec F S1x2048 .f32) : List (View.Piece (Elt F) S1024x2048 .bf16) :=
  [normPiece x0 x1 7, normPiece x0 x1 6, normPiece x0 x1 5, normPiece x0 x1 4, normPiece x0 x1 3, normPiece x0 x1 2, normPiece x0 x1 1, normPiece x0 x1 0]

/-- The eight chunks stored, read back. -/
theorem norm_stores (x0 : Vec F S1024x2048 .f32) (x1 : Vec F S1x2048 .f32) (d : Vec F S1024x2048 .bf16) (v : View sig .tc .vmem S1024x2048 .bf16)
    (f : v.ty.Contents (Elt F)) : v.read (Elt F) (v.writes (Elt F) f (normPieces x0 x1)) = normAll x0 x1 d := by
  rw [View.read_writes_cons_put v f _ _ _ rfl, View.read_writes_cons_put v f _ _ _ rfl, View.read_writes_cons_put v f _ _ _ rfl, View.read_writes_cons_put v f _ _ _ rfl,
    View.read_writes_cons_put v f _ _ _ rfl, View.read_writes_cons_put v f _ _ _ rfl, View.read_writes_cons_put v f _ _ _ rfl, View.read_writes_cons_put v f _ _ _ rfl]
  exact normAll_any _ _ _ _

/-- The same read back by a load of the whole block. -/
theorem norm_cov (x0 : Vec F S1024x2048 .f32) (x1 : Vec F S1x2048 .f32) (d : Vec F S1024x2048 .bf16) (v : View sig .tc .vmem S1024x2048 .bf16) :
    v.readCov (normPieces x0 x1) (Rect.unit ![0, 0] S1024x2048.size inb_S1024x2048_S1024x2048_0_0).toLoadRect = normAll x0 x1 d :=
  (View.readAt_full v _ _).trans (norm_stores x0 x1 d v v.junk)

/-- The store of the running sum, whatever stores lie under it. -/
theorem acc_store {acc acc' : Vec F S1024x2048 .f32} {act act' : Vec F S1024x512 .bf16} {w w' : Vec F S512x2048 .bf16}
    {v : View sig .tc .vmem S1024x2048 .f32} {L : List (View.Piece (Elt F) S1024x2048 .f32)}
    (ha : acc' = acc) (hg : act' = act) (hw : w' = w) (f : v.ty.Contents (Elt F)) :
    v.read (Elt F) (v.writes (Elt F) f (⟨Rect.unit ![0, 0] S1024x2048.size inb_S1024x2048_S1024x2048_0_0, k0_pay2 acc' act' w'⟩ :: L)) = k0_pay2 acc act w := by
  subst ha hg hw
  exact View.read_writes_full v f _ _ L

set_option maxHeartbeats 2000000 in
/-- The body at a row block's first point. -/
theorem body_open (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (hc0 : k0_cond1 i = 1#1) (hc1 : ¬closes i)
    (x0 : Vec F S1024x2048 .f32) (x1 : Vec F S1x2048 .f32) (x2 : Vec F S512x2048 .bf16) (x3 : Vec F S512x2048 .bf16) (x4 : Vec F S512x2048 .bf16) (d5 : Vec F S1024x2048 .f32) (d6 : Vec F S1024x2048 .bf16) (d7 : Vec F S1024x512 .bf16) (d8 : Vec F S1024x512 .bf16) (d9 : Vec F S1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 k0_pay14 (actStep (normAll x0 x1 d6) x2 x3 d9) x4) ∗ owns (c : Thread nD τ) arg8 fullShare (normAll x0 x1 d6) ∗ owns (c : Thread nD τ) arg9 fullShare (gateStep (normAll x0 x1 d6) x2 d7) ∗ owns (c : Thread nD τ) arg10 fullShare (upStep (normAll x0 x1 d6) x3 d8) ∗ owns (c : Thread nD τ) arg11 fullShare (actStep (normAll x0 x1 d6) x2 x3 d9)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
    intro E K
    simp only [cc0_ffn_fwd_eq_skeleton]; unfold cc0_ffn_fwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf0 hf1 hf2 hf3 hf4 hf5 hf6 hf7 hf8 hf9
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      exact acc_store (View.readCov_full _ _ _ _ _) (halves_cov (arg11.view.read (Elt F) f9) _ (congrArg (fun z => k0_pay20 z (upperHalf (arg4.view.read (Elt F) f2)) (upperHalf (arg5.view.read (Elt F) f3))) (norm_cov (arg2.view.read (Elt F) f0) (arg3.view.read (Elt F) f1) (arg8.view.read (Elt F) f6) _)) (congrArg (fun z => k0_pay1 (k0_pay21 z (lowerHalf (arg4.view.read (Elt F) f2))) (k0_pay22 z (lowerHalf (arg5.view.read (Elt F) f3)))) (norm_cov (arg2.view.read (Elt F) f0) (arg3.view.read (Elt F) f1) (arg8.view.read (Elt F) f6) _))) (View.readAt_full _ _ _) _
    isplitl [H6]
    · iexists _; isplitr; swap; · iexact H6
      ipureintro
      exact norm_stores (arg2.view.read (Elt F) f0) (arg3.view.read (Elt F) f1) (arg8.view.read (Elt F) f6) _ _
    isplitl [H7]
    · iexists _; isplitr; swap; · iexact H7
      ipureintro
      exact halves_stores (arg9.view.read (Elt F) f7) _ _ (congrArg (fun z => k0_pay18 z (upperHalf (arg4.view.read (Elt F) f2))) (norm_cov (arg2.view.read (Elt F) f0) (arg3.view.read (Elt F) f1) (arg8.view.read (Elt F) f6) _)) (congrArg (fun z => k0_pay23 z (lowerHalf (arg4.view.read (Elt F) f2))) (norm_cov (arg2.view.read (Elt F) f0) (arg3.view.read (Elt F) f1) (arg8.view.read (Elt F) f6) _))
    isplitl [H8]
    · iexists _; isplitr; swap; · iexact H8
      ipureintro
      exact halves_stores (arg10.view.read (Elt F) f8) _ _ (congrArg (fun z => k0_pay19 z (upperHalf (arg5.view.read (Elt F) f3))) (norm_cov (arg2.view.read (Elt F) f0) (arg3.view.read (Elt F) f1) (arg8.view.read (Elt F) f6) _)) (congrArg (fun z => k0_pay24 z (lowerHalf (arg5.view.read (Elt F) f3))) (norm_cov (arg2.view.read (Elt F) f0) (arg3.view.read (Elt F) f1) (arg8.view.read (Elt F) f6) _))
    iexists _; isplitr; swap; · iexact H9
    ipureintro
    exact halves_stores (arg11.view.read (Elt F) f9) _ _ (congrArg (fun z => k0_pay20 z (upperHalf (arg4.view.read (Elt F) f2)) (upperHalf (arg5.view.read (Elt F) f3))) (norm_cov (arg2.view.read (Elt F) f0) (arg3.view.read (Elt F) f1) (arg8.view.read (Elt F) f6) _)) (congrArg (fun z => k0_pay1 (k0_pay21 z (lowerHalf (arg4.view.read (Elt F) f2))) (k0_pay22 z (lowerHalf (arg5.view.read (Elt F) f3)))) (norm_cov (arg2.view.read (Elt F) f0) (arg3.view.read (Elt F) f1) (arg8.view.read (Elt F) f6) _))

set_option maxHeartbeats 2000000 in
/-- The body between a row block's first and last points. -/
theorem body_mid (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (hc0 : ¬k0_cond1 i = 1#1) (hc1 : ¬closes i)
    (x0 : Vec F S1024x2048 .f32) (x1 : Vec F S1x2048 .f32) (x2 : Vec F S512x2048 .bf16) (x3 : Vec F S512x2048 .bf16) (x4 : Vec F S512x2048 .bf16) (d5 : Vec F S1024x2048 .f32) (d6 : Vec F S1024x2048 .bf16) (d7 : Vec F S1024x512 .bf16) (d8 : Vec F S1024x512 .bf16) (d9 : Vec F S1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 d5 (actStep d6 x2 x3 d9) x4) ∗ owns (c : Thread nD τ) arg8 fullShare d6 ∗ owns (c : Thread nD τ) arg9 fullShare (gateStep d6 x2 d7) ∗ owns (c : Thread nD τ) arg10 fullShare (upStep d6 x3 d8) ∗ owns (c : Thread nD τ) arg11 fullShare (actStep d6 x2 x3 d9)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
    intro E K
    simp only [cc0_ffn_fwd_eq_skeleton]; unfold cc0_ffn_fwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf0 hf1 hf2 hf3 hf4 hf5 hf6 hf7 hf8 hf9
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      exact acc_store (View.readAt_full _ _ _) (halves_cov (arg11.view.read (Elt F) f9) _ (congrArg (fun z => k0_pay20 z (upperHalf (arg4.view.read (Elt F) f2)) (upperHalf (arg5.view.read (Elt F) f3))) (View.readAt_full _ _ _)) (congrArg (fun z => k0_pay1 (k0_pay21 z (lowerHalf (arg4.view.read (Elt F) f2))) (k0_pay22 z (lowerHalf (arg5.view.read (Elt F) f3)))) (View.readAt_full _ _ _))) (View.readAt_full _ _ _) _
    isplitl [H6]
    · iexists _; isplitr; swap; · iexact H6
      ipureintro
      rfl
    isplitl [H7]
    · iexists _; isplitr; swap; · iexact H7
      ipureintro
      exact halves_stores (arg9.view.read (Elt F) f7) _ _ (congrArg (fun z => k0_pay18 z (upperHalf (arg4.view.read (Elt F) f2))) (View.readAt_full _ _ _)) (congrArg (fun z => k0_pay23 z (lowerHalf (arg4.view.read (Elt F) f2))) (View.readAt_full _ _ _))
    isplitl [H8]
    · iexists _; isplitr; swap; · iexact H8
      ipureintro
      exact halves_stores (arg10.view.read (Elt F) f8) _ _ (congrArg (fun z => k0_pay19 z (upperHalf (arg5.view.read (Elt F) f3))) (View.readAt_full _ _ _)) (congrArg (fun z => k0_pay24 z (lowerHalf (arg5.view.read (Elt F) f3))) (View.readAt_full _ _ _))
    iexists _; isplitr; swap; · iexact H9
    ipureintro
    exact halves_stores (arg11.view.read (Elt F) f9) _ _ (congrArg (fun z => k0_pay20 z (upperHalf (arg4.view.read (Elt F) f2)) (upperHalf (arg5.view.read (Elt F) f3))) (View.readAt_full _ _ _)) (congrArg (fun z => k0_pay1 (k0_pay21 z (lowerHalf (arg4.view.read (Elt F) f2))) (k0_pay22 z (lowerHalf (arg5.view.read (Elt F) f3)))) (View.readAt_full _ _ _))

set_option maxHeartbeats 2000000 in
/-- The body at a row block's last point. -/
theorem body_close (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (hc0 : ¬k0_cond1 i = 1#1) (hc1 : closes i)
    (x0 : Vec F S1024x2048 .f32) (x1 : Vec F S1x2048 .f32) (x2 : Vec F S512x2048 .bf16) (x3 : Vec F S512x2048 .bf16) (x4 : Vec F S512x2048 .bf16) (d5 : Vec F S1024x2048 .f32) (d6 : Vec F S1024x2048 .bf16) (d7 : Vec F S1024x512 .bf16) (d8 : Vec F S1024x512 .bf16) (d9 : Vec F S1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 (k0_pay2 d5 (actStep d6 x2 x3 d9) x4)) ∗ owns (c : Thread nD τ) arg8 fullShare d6 ∗ owns (c : Thread nD τ) arg9 fullShare (gateStep d6 x2 d7) ∗ owns (c : Thread nD τ) arg10 fullShare (upStep d6 x3 d8) ∗ owns (c : Thread nD τ) arg11 fullShare (actStep d6 x2 x3 d9)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
    intro E K
    simp only [cc0_ffn_fwd_eq_skeleton]; unfold cc0_ffn_fwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf0 hf1 hf2 hf3 hf4 hf5 hf6 hf7 hf8 hf9
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      refine (View.read_writes_full _ _ _ _ _).trans (congrArg₂ k0_pay3 (View.readAt_full _ _ _) ((View.readCov_full _ _ _ _ _).trans ?_))
      exact (congrArg₂ (fun a b => k0_pay2 a b _) (View.readAt_full _ _ _) (halves_cov (arg11.view.read (Elt F) f9) _ (congrArg (fun z => k0_pay20 z (upperHalf (arg4.view.read (Elt F) f2)) (upperHalf (arg5.view.read (Elt F) f3))) (View.readAt_full _ _ _)) (congrArg (fun z => k0_pay1 (k0_pay21 z (lowerHalf (arg4.view.read (Elt F) f2))) (k0_pay22 z (lowerHalf (arg5.view.read (Elt F) f3)))) (View.readAt_full _ _ _)))).trans (congrArg (k0_pay2 _ _) (View.readAt_full _ _ _))
    isplitl [H6]
    · iexists _; isplitr; swap; · iexact H6
      ipureintro
      rfl
    isplitl [H7]
    · iexists _; isplitr; swap; · iexact H7
      ipureintro
      exact halves_stores (arg9.view.read (Elt F) f7) _ _ (congrArg (fun z => k0_pay18 z (upperHalf (arg4.view.read (Elt F) f2))) (View.readAt_full _ _ _)) (congrArg (fun z => k0_pay23 z (lowerHalf (arg4.view.read (Elt F) f2))) (View.readAt_full _ _ _))
    isplitl [H8]
    · iexists _; isplitr; swap; · iexact H8
      ipureintro
      exact halves_stores (arg10.view.read (Elt F) f8) _ _ (congrArg (fun z => k0_pay19 z (upperHalf (arg5.view.read (Elt F) f3))) (View.readAt_full _ _ _)) (congrArg (fun z => k0_pay24 z (lowerHalf (arg5.view.read (Elt F) f3))) (View.readAt_full _ _ _))
    iexists _; isplitr; swap; · iexact H9
    ipureintro
    exact halves_stores (arg11.view.read (Elt F) f9) _ _ (congrArg (fun z => k0_pay20 z (upperHalf (arg4.view.read (Elt F) f2)) (upperHalf (arg5.view.read (Elt F) f3))) (View.readAt_full _ _ _)) (congrArg (fun z => k0_pay1 (k0_pay21 z (lowerHalf (arg4.view.read (Elt F) f2))) (k0_pay22 z (lowerHalf (arg5.view.read (Elt F) f3)))) (View.readAt_full _ _ _))

end Cert.Kernel4Ideal.Gen

end
-- ==== Proof.FfnForwardRun.lean ====
module

public import proofs.«01_k».proof.Proof.FfnForwardBody
public import Idealize.ShloMosaic.Lib.WordCmp
public import Idealize.ShloMosaic.Lib.Claim
public import Idealize.ShloMosaic.Lib.Pipeline.TableIdle

/-! # The run of the forward half step

What the four output buffers hold after each grid point, and the whole run from it. -/

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point opens its row block when its number is divisible by eleven. -/
theorem opens_iff : ∀ t : Fin cfg0.N, k0_cond1 (grid0.coords t) = 1#1 ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- A point closes its row block when its number is ten more than a multiple of eleven. -/
theorem closes_iff : ∀ t : Fin cfg0.N, closes (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [closes, e0, e1]
    word_cmp
   : ∀ t : Fin grid0.N, closes (grid0.coords t) ↔ t.val % 11 = 10)

/-- The scratch buffer of the activated block. -/
abbrev actBuf : Memref sig .tc .vmem S1024x512 .bf16 := Memref.whole cc0_scratch0

/-- What the body keeps besides the windows: the scratch buffer and the generator's register. -/
theorem kept_eq (c : Dev nD) :
    (Pipeline.ΦA spec0 c : sProp 𝕄) = iprop(iprop((∃ d, owns (c : Thread nD τ) actBuf fullShare d)) ∗ (∃ r, prngReg c r)) := by
  unfold Pipeline.ΦA
  rw [scopedRest0_eq]
  simp only [actBuf, owns_whole]
  try rfl

/-- Blocks to put over; nothing of them remains. -/
abbrev blankHn : Vec F S1024x2048 .bf16 := constant S1024x2048 .bf16 0x0000#16
abbrev blankHidden : Vec F S1024x512 .bf16 := constant S1024x512 .bf16 0x0000#16

/-- The normalised block after point `n`: made where a row block opens, left alone after. -/
def hnAt (c : Dev nD) : (n : ℕ) → n < cfg0.N → Vec F S1024x2048 .bf16
  | 0, h => normAll (iblk m c 0 ⟨0, h⟩) (iblk m c 1 ⟨0, h⟩) blankHn
  | n + 1, h => if (n + 1) % 11 = 0 then normAll (iblk m c 0 ⟨n + 1, h⟩) (iblk m c 1 ⟨n + 1, h⟩) blankHn else hnAt c n (Nat.lt_of_succ_lt h)

/-- The gate block after point `t`. -/
def gateAt (c : Dev nD) (t : Fin cfg0.N) : Vec F S1024x512 .bf16 := gateStep (hnAt m c t.val t.isLt) (iblk m c 2 t) blankHidden

/-- The up block after point `t`. -/
def upAt (c : Dev nD) (t : Fin cfg0.N) : Vec F S1024x512 .bf16 := upStep (hnAt m c t.val t.isLt) (iblk m c 3 t) blankHidden

/-- The activated block after point `t`. -/
def actAt (c : Dev nD) (t : Fin cfg0.N) : Vec F S1024x512 .bf16 := actStep (hnAt m c t.val t.isLt) (iblk m c 2 t) (iblk m c 3 t) blankHidden

/-- The running sum after point `n`, from zero where a row block opens. -/
def accAt (c : Dev nD) : (n : ℕ) → n < cfg0.N → Vec F S1024x2048 .f32
  | 0, h => k0_pay2 k0_pay14 (actAt m c ⟨0, h⟩) (iblk m c 4 ⟨0, h⟩)
  | n + 1, h => k0_pay2 (if (n + 1) % 11 = 0 then k0_pay14 else accAt c n (Nat.lt_of_succ_lt h)) (actAt m c ⟨n + 1, h⟩) (iblk m c 4 ⟨n + 1, h⟩)

/-- The output block after point `t`: the sum, halved and added to the input where the row block closes. -/
def xoAt (c : Dev nD) (t : Fin cfg0.N) : Vec F S1024x2048 .f32 :=
  if t.val % 11 = 10 then k0_pay3 (iblk m c 0 t) (accAt m c t.val t.isLt) else accAt m c t.val t.isLt

/-- The proof data: inputs stay at their blocks, outputs end as the functions above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xoAt m c t
    | ⟨6, _⟩ => hnAt m c t.val t.isLt
    | ⟨7, _⟩ => gateAt m c t
    | ⟨8, _⟩ => upAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = xoAt m c t := by dsimp only [dats]
theorem after0_6 (c : Dev nD) (t : Fin cfg0.N) : (dats m 0 c).after 6 t = hnAt m c t.val t.isLt := by dsimp only [dats]
theorem after0_7 (c : Dev nD) (t : Fin cfg0.N) : (dats m 0 c).after 7 t = gateAt m c t := by dsimp only [dats]
theorem after0_8 (c : Dev nD) (t : Fin cfg0.N) : (dats m 0 c).after 8 t = upAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem hnAt_open (c : Dev nD) (t : Fin cfg0.N) (h : t.val % 11 = 0) : hnAt m c t.val t.isLt = normAll (iblk m c 0 t) (iblk m c 1 t) blankHn := by
  obtain ⟨n, hn⟩ := t
  cases n with
  | zero => rfl
  | succ n => unfold hnAt; exact if_pos h

theorem hnAt_rest (c : Dev nD) (n : ℕ) (hn : n + 1 < cfg0.N) (h : ¬(n + 1) % 11 = 0) : hnAt m c (n + 1) hn = hnAt m c n (Nat.lt_of_succ_lt hn) := by
  conv_lhs => unfold hnAt
  exact if_neg h

theorem accAt_open (c : Dev nD) (t : Fin cfg0.N) (h : t.val % 11 = 0) : accAt m c t.val t.isLt = k0_pay2 k0_pay14 (actAt m c t) (iblk m c 4 t) := by
  obtain ⟨n, hn⟩ := t
  cases n with
  | zero => rfl
  | succ n => unfold accAt; rw [if_pos h]

theorem accAt_rest (c : Dev nD) (n : ℕ) (hn : n + 1 < cfg0.N) (h : ¬(n + 1) % 11 = 0) :
    accAt m c (n + 1) hn = k0_pay2 (accAt m c n (Nat.lt_of_succ_lt hn)) (actAt m c ⟨n + 1, hn⟩) (iblk m c 4 ⟨n + 1, hn⟩) := by
  conv_lhs => unfold accAt
  rw [if_neg h]

/-- The normalised block's buffer is left alone except where a row block opens. -/
theorem idle_6 (t : Fin cfg0.N) : cfg0.idle 6 (grid0.coords t) = !decide (t.val % 11 = 0) := by
  show (!(k0_cond1 (grid0.coords t) == 1#1)) = _
  rw [show (k0_cond1 (grid0.coords t) == 1#1) = decide (t.val % 11 = 0) from by
    rw [Bool.eq_iff_iff, beq_iff_eq, decide_eq_true_iff]; exact opens_iff t]

/-- It holds nothing of the body's exactly where a row block opens. -/
theorem fresh_6 (n : ℕ) (hn : n ≤ cfg0.N) : cfg0.fresh 6 n = decide (n % 11 = 0) := by
  refine cfg0.fresh_tab 6 (fun n => decide (n % 11 = 0)) rfl (fun t => ?_) n hn
  rw [show (cfg0.win 6).flush t = decide (t.val % 11 = 10) from by
    rw [Bool.eq_iff_iff, decide_eq_true_iff]; exact flush0_6 t]
  rw [show cfg0.idle 6 (cfg0.grid.coords t) = _ from idle_6 t]
  rw [Bool.eq_iff_iff]
  simp only [Bool.or_eq_true, Bool.and_eq_true, Bool.not_eq_true', decide_eq_true_iff, decide_eq_false_iff_not]
  omega

/-- Between openings the normalised block is found as it was left. -/
theorem before0_6 (c : Dev nD) (t : Fin cfg0.N) (h : ¬t.val % 11 = 0) (d) : (dats m 0 c).before 6 t d = hnAt m c t.val t.isLt := by
  rw [(dats m 0 c).before_out_traj 6 rfl (fun _ _ => rfl) ?_ t.val t rfl d, fresh_6 t.val (Nat.le_of_lt t.isLt), if_neg (by simpa using h)]
  · obtain ⟨n, hn⟩ := t
    cases n with
    | zero => exact absurd rfl h
    | succ n => rw [after0_6]; exact (hnAt_rest m c n hn h).symm
  · intro t ht hi _
    obtain ⟨n, hn⟩ := t
    cases n with
    | zero => exact absurd rfl ht
    | succ n =>
      have h' : ¬(n + 1) % 11 = 0 := by
        have e := (idle_6 ⟨n + 1, hn⟩).symm.trans hi
        simpa using e
      rw [after0_6, after0_6]; exact hnAt_rest m c n hn h'

/-- Within a row block the output is found at the running sum. -/
theorem before0_5 (c : Dev nD) (n : ℕ) (hn : n + 1 < cfg0.N) (h : ¬(n + 1) % 11 = 0) (d) : (dats m 0 c).before 5 ⟨n + 1, hn⟩ d = accAt m c n (Nat.lt_of_succ_lt hn) := by
  rw [(dats m 0 c).before_out_kept 5 rfl ⟨n + 1, hn⟩ (Nat.succ_ne_zero n)
    (Bool.eq_false_iff.mpr fun h' => h (by have := (flush0_5 _).mp h'; change n % 11 = 10 at this; omega)) (fun _ => rfl) (fun _ _ => rfl), after0_5]
  exact if_neg (by show ¬n % 11 = 10; omega)

/-- A buffer at its stated contents is what the pipeline wants back, idle or not. -/
theorem leaves_of_after (c : Dev nD) (w : Fin cfg0.W) (t : Fin cfg0.N)
    (h : cfg0.idle w (grid0.coords t) = true → ∃ d, (dats m 0 c).before w t d = (dats m 0 c).after w t) :
    (owns (c : Thread nD τ) ((cfg0.win w).stage (cfg0.slots t w)) fullShare ((dats m 0 c).after w t) : sProp 𝕄) ⊢ (dats m 0 c).leavesExact w t := by
  unfold Dat.leavesExact
  cases hi : cfg0.idle w (cfg0.grid.coords t) with
  | false => exact .rfl
  | true =>
    cases hf : (cfg0.win w).flush t with
    | true => exact .rfl
    | false =>
      obtain ⟨d, hd⟩ := h hi
      rw [← hd]
      iintro H
      iexists d
      iexact H

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ owns (c : Thread nD τ) (st0_7 t) fullShare ((dats m 0 c).after 7 t)
    ∗ owns (c : Thread nD τ) (st0_8 t) fullShare ((dats m 0 c).after 8 t))

/-- What the body leaves at point `t`, every buffer at its stated contents. -/
def bodyLeft (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem bodyLeft_post (c : Dev nD) (t : Fin cfg0.N) : bodyLeft m c t ⊢ bodyPost m c t := by
  have h6 := leaves_of_after m c 6 t (fun hi => ⟨(dats m 0 c).after 6 t, by
    have e := (idle_6 t).symm.trans hi
    rw [before0_6 m c t (by simpa using e), after0_6]⟩)
  unfold bodyLeft bodyPost
  iintro ⟨HΦ, Ho, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  isplitl [H7]; · iexact H7
  iexact H8

/-- The body at a row block's first point. -/
theorem sound_open (c : Dev nD) (t : Fin cfg0.N) (h : t.val % 11 = 0) :
    bodyPre m c t ⊢ wp frame (wpE (defs₀ (F := F)) Variants.none c none) Set.univ (bodyAt0 t) (fun _ => bodyLeft m c t) := by
  have e6 : ∀ d6 : Vec F S1024x2048 .bf16, hnAt m c t.val t.isLt = (normAll (iblk m c 0 t) (iblk m c 1 t) ((dats m 0 c).before 6 t d6)) := fun d6 => (hnAt_open m c t h).trans (normAll_any _ _ _ _)
  have e7 : ∀ (d6 : Vec F S1024x2048 .bf16) (d7 : Vec F S1024x512 .bf16), gateAt m c t = gateStep (normAll (iblk m c 0 t) (iblk m c 1 t) ((dats m 0 c).before 6 t d6)) (iblk m c 2 t) ((dats m 0 c).before 7 t d7) := fun d6 d7 => by rw [← e6 d6]; exact putHalves_any _ _ _ _
  have e8 : ∀ (d6 : Vec F S1024x2048 .bf16) (d8 : Vec F S1024x512 .bf16), upAt m c t = upStep (normAll (iblk m c 0 t) (iblk m c 1 t) ((dats m 0 c).before 6 t d6)) (iblk m c 3 t) ((dats m 0 c).before 8 t d8) := fun d6 d8 => by rw [← e6 d6]; exact putHalves_any _ _ _ _
  have ea : ∀ (d6 : Vec F S1024x2048 .bf16) (ds : Vec F S1024x512 .bf16), actAt m c t = (actStep (normAll (iblk m c 0 t) (iblk m c 1 t) ((dats m 0 c).before 6 t d6)) (iblk m c 2 t) (iblk m c 3 t) ds) := fun d6 ds => by rw [← e6 d6]; exact putHalves_any _ _ _ _
  have ec : ∀ (d5 : Vec F S1024x2048 .f32) (d6 : Vec F S1024x2048 .bf16) (ds : Vec F S1024x512 .bf16), accAt m c t.val t.isLt = (k0_pay2 k0_pay14 (actStep (normAll (iblk m c 0 t) (iblk m c 1 t) ((dats m 0 c).before 6 t d6)) (iblk m c 2 t) (iblk m c 3 t) ds) (iblk m c 4 t)) := fun d5 d6 ds => by
    rw [← ea d6 ds]
    exact accAt_open m c t h
  have e5 : ∀ (d5 : Vec F S1024x2048 .f32) (d6 : Vec F S1024x2048 .bf16) (ds : Vec F S1024x512 .bf16), xoAt m c t = (k0_pay2 k0_pay14 (actStep (normAll (iblk m c 0 t) (iblk m c 1 t) ((dats m 0 c).before 6 t d6)) (iblk m c 2 t) (iblk m c 3 t) ds) (iblk m c 4 t)) := fun d5 d6 ds => by
    rw [← ec d5 d6 ds]; exact if_neg (by omega)
  unfold bodyPre bodyLeft bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, kept_eq]
  rw [after0_0, after0_1, after0_2, after0_3, after0_4, after0_5, after0_6, after0_7, after0_8]
  iintro ⟨⟨⟨%ds, HS⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [e5 d5 d6 ds, e7 d6 d7, e8 d6 d8, e6 d6]
  iapply (body_open c (grid0.coords t) _ _ _ _ _ _ _ _ _ _ _ _ _ _ _ _ _ _ _ _ ((opens_iff t).mpr h) (mt (closes_iff t).mp (by omega)) (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hp]
  · isplitl [HS]
    · iexists _; iexact HS
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at the points between. -/
theorem sound_mid (c : Dev nD) (t : Fin cfg0.N) (h : ¬t.val % 11 = 0) (h0 : ¬t.val % 11 = 10) :
    bodyPre m c t ⊢ wp frame (wpE (defs₀ (F := F)) Variants.none c none) Set.univ (bodyAt0 t) (fun _ => bodyLeft m c t) := by
  have e6 : ∀ d6 : Vec F S1024x2048 .bf16, hnAt m c t.val t.isLt = ((dats m 0 c).before 6 t d6) := fun d6 => (before0_6 m c t h d6).symm
  have e7 : ∀ (d6 : Vec F S1024x2048 .bf16) (d7 : Vec F S1024x512 .bf16), gateAt m c t = gateStep ((dats m 0 c).before 6 t d6) (iblk m c 2 t) ((dats m 0 c).before 7 t d7) := fun d6 d7 => by rw [← e6 d6]; exact putHalves_any _ _ _ _
  have e8 : ∀ (d6 : Vec F S1024x2048 .bf16) (d8 : Vec F S1024x512 .bf16), upAt m c t = upStep ((dats m 0 c).before 6 t d6) (iblk m c 3 t) ((dats m 0 c).before 8 t d8) := fun d6 d8 => by rw [← e6 d6]; exact putHalves_any _ _ _ _
  have ea : ∀ (d6 : Vec F S1024x2048 .bf16) (ds : Vec F S1024x512 .bf16), actAt m c t = (actStep ((dats m 0 c).before 6 t d6) (iblk m c 2 t) (iblk m c 3 t) ds) := fun d6 ds => by rw [← e6 d6]; exact putHalves_any _ _ _ _
  have ec : ∀ (d5 : Vec F S1024x2048 .f32) (d6 : Vec F S1024x2048 .bf16) (ds : Vec F S1024x512 .bf16), accAt m c t.val t.isLt = (k0_pay2 ((dats m 0 c).before 5 t d5) (actStep ((dats m 0 c).before 6 t d6) (iblk m c 2 t) (iblk m c 3 t) ds) (iblk m c 4 t)) := fun d5 d6 ds => by
    rw [← ea d6 ds]
    obtain ⟨n, hn⟩ := t
    cases n with
    | zero => exact absurd rfl h
    | succ n =>
      have h' : ¬(n + 1) % 11 = 0 := h
      rw [before0_5 m c n hn h']; exact accAt_rest m c n hn h'
  have e5 : ∀ (d5 : Vec F S1024x2048 .f32) (d6 : Vec F S1024x2048 .bf16) (ds : Vec F S1024x512 .bf16), xoAt m c t = (k0_pay2 ((dats m 0 c).before 5 t d5) (actStep ((dats m 0 c).before 6 t d6) (iblk m c 2 t) (iblk m c 3 t) ds) (iblk m c 4 t)) := fun d5 d6 ds => by
    rw [← ec d5 d6 ds]; exact if_neg (by omega)
  unfold bodyPre bodyLeft bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, kept_eq]
  rw [after0_0, after0_1, after0_2, after0_3, after0_4, after0_5, after0_6, after0_7, after0_8]
  iintro ⟨⟨⟨%ds, HS⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [e5 d5 d6 ds, e7 d6 d7, e8 d6 d8, e6 d6]
  iapply (body_mid c (grid0.coords t) _ _ _ _ _ _ _ _ _ _ _ _ _ _ _ _ _ _ _ _ (mt (opens_iff t).mp h) (mt (closes_iff t).mp h0) (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hp]
  · isplitl [HS]
    · iexists _; iexact HS
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a row block's last point. -/
theorem sound_close (c : Dev nD) (t : Fin cfg0.N) (h : t.val % 11 = 10) :
    bodyPre m c t ⊢ wp frame (wpE (defs₀ (F := F)) Variants.none c none) Set.univ (bodyAt0 t) (fun _ => bodyLeft m c t) := by
  have e6 : ∀ d6 : Vec F S1024x2048 .bf16, hnAt m c t.val t.isLt = ((dats m 0 c).before 6 t d6) := fun d6 => (before0_6 m c t (by omega) d6).symm
  have e7 : ∀ (d6 : Vec F S1024x2048 .bf16) (d7 : Vec F S1024x512 .bf16), gateAt m c t = gateStep ((dats m 0 c).before 6 t d6) (iblk m c 2 t) ((dats m 0 c).before 7 t d7) := fun d6 d7 => by rw [← e6 d6]; exact putHalves_any _ _ _ _
  have e8 : ∀ (d6 : Vec F S1024x2048 .bf16) (d8 : Vec F S1024x512 .bf16), upAt m c t = upStep ((dats m 0 c).before 6 t d6) (iblk m c 3 t) ((dats m 0 c).before 8 t d8) := fun d6 d8 => by rw [← e6 d6]; exact putHalves_any _ _ _ _
  have ea : ∀ (d6 : Vec F S1024x2048 .bf16) (ds : Vec F S1024x512 .bf16), actAt m c t = (actStep ((dats m 0 c).before 6 t d6) (iblk m c 2 t) (iblk m c 3 t) ds) := fun d6 ds => by rw [← e6 d6]; exact putHalves_any _ _ _ _
  have ec : ∀ (d5 : Vec F S1024x2048 .f32) (d6 : Vec F S1024x2048 .bf16) (ds : Vec F S1024x512 .bf16), accAt m c t.val t.isLt = (k0_pay2 ((dats m 0 c).before 5 t d5) (actStep ((dats m 0 c).before 6 t d6) (iblk m c 2 t) (iblk m c 3 t) ds) (iblk m c 4 t)) := fun d5 d6 ds => by
    rw [← ea d6 ds]
    obtain ⟨n, hn⟩ := t
    cases n with
    | zero => exact absurd h (by show ¬0 % 11 = 10; decide)
    | succ n =>
      have h' : ¬(n + 1) % 11 = 0 := by change (n + 1) % 11 = 10 at h; omega
      rw [before0_5 m c n hn h']; exact accAt_rest m c n hn h'
  have e5 : ∀ (d5 : Vec F S1024x2048 .f32) (d6 : Vec F S1024x2048 .bf16) (ds : Vec F S1024x512 .bf16), xoAt m c t = (k0_pay3 (iblk m c 0 t) (k0_pay2 ((dats m 0 c).before 5 t d5) (actStep ((dats m 0 c).before 6 t d6) (iblk m c 2 t) (iblk m c 3 t) ds) (iblk m c 4 t))) := fun d5 d6 ds => by
    rw [← ec d5 d6 ds]; exact if_pos h
  unfold bodyPre bodyLeft bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, kept_eq]
  rw [after0_0, after0_1, after0_2, after0_3, after0_4, after0_5, after0_6, after0_7, after0_8]
  iintro ⟨⟨⟨%ds, HS⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [e5 d5 d6 ds, e7 d6 d7, e8 d6 d8, e6 d6]
  iapply (body_close c (grid0.coords t) _ _ _ _ _ _ _ _ _ _ _ _ _ _ _ _ _ _ _ _ (mt (opens_iff t).mp (by omega)) ((closes_iff t).mpr h) (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hp]
  · isplitl [HS]
    · iexists _; iexact HS
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at every point. -/
theorem sound_body (c : Dev nD) (t : Fin cfg0.N) :
    bodyPre m c t ⊢ wp frame (wpE (defs₀ (F := F)) Variants.none c none) Set.univ (bodyAt0 t) (fun _ => bodyPost m c t) := by
  refine BIBase.Entails.trans ?_ (Idealize.SL.Sem.wp_mono _ _ _ fun _ => bodyLeft_post m c t)
  by_cases h : t.val % 11 = 0
  · exact sound_open m c t h
  · by_cases h0 : t.val % 11 = 10
    · exact sound_close m c t h0
    · exact sound_mid m c t h h0

/-- The body's row of the label's table is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the call ends at what the proof data give, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel4Ideal.Gen

end
-- ==== Proof.FfnForwardValue.lean ====
module

public import proofs.«01_k».proof.Proof.FfnForwardRead
public import proofs.«01_k».proof.Proof.FfnForwardRun
public import Idealize.ShloMosaic.Lib.Pipeline.ReadBack

/-! # The forward half step: the run's four arrays

A row block takes eleven points, one for each 512 hidden units; after the eleventh the running sum is the whole product. -/

@[expose] public section

set_option maxRecDepth 16384

noncomputable section

namespace Cert.Kernel4Ideal.Gen

open Idealize.ShloMosaic Idealize.ShloMosaic.TcCoe Idealize.ShloMosaic.Tactic Cert.FfnInput Cert.FfnForward
open scoped BigOperators

variable (m : (ℓ : Loc nD τ sig) → Buf (Elt Ideal) ℓ)

/-! ## The staged blocks -/

/-- The argument arrays. -/
abbrev argX (c : Dev nD) : TokenArr := m ((c.tc : Thread nD τ).loc main_arg0)
abbrev argN (c : Dev nD) : GainArr := m ((c.tc : Thread nD τ).loc main_arg1)
abbrev argWg (c : Dev nD) : WeightArr := m ((c.tc : Thread nD τ).loc main_arg2)
abbrev argWu (c : Dev nD) : WeightArr := m ((c.tc : Thread nD τ).loc main_arg3)
abbrev argWd (c : Dev nD) : WeightArr := m ((c.tc : Thread nD τ).loc main_arg4)

theorem coord0 (t : Fin grid0.N) : (grid0.coords t 0).val = t.val / 11 := by
  have h : (grid0.coords t 0).val = t.val / 11 % 8 := Pipeline.Grid.coords_val t 0 (by decide) rfl
  have := Nat.lt_of_lt_of_eq t.isLt N_0
  omega

theorem coord1 (t : Fin grid0.N) : (grid0.coords t 1).val = t.val % 11 := by
  have h : (grid0.coords t 1).val = t.val / 1 % 11 := Pipeline.Grid.coords_val t 1 (by decide) rfl
  omega

/-- Token `i` of a point's row block, and hidden unit `f` of its block of units. -/
def tokenRow (t : Fin cfg0.N) (i : Fin 1024) : Fin 8192 := ⟨t.val / 11 * 1024 + i.val, by
  have := Nat.lt_of_lt_of_eq t.isLt N_0
  omega⟩
def unitRow (t : Fin cfg0.N) (f : Fin 512) : Fin 5632 := ⟨t.val % 11 * 512 + f.val, by omega⟩

theorem index_0 : ∀ t : Fin grid0.N, win0_0.index t = ![(grid0.coords t 0).val, 0] := by decide +kernel
theorem index_1 : ∀ t : Fin grid0.N, win0_1.index t = ![0, 0] := by decide +kernel
theorem index_2 : ∀ t : Fin grid0.N, win0_2.index t = ![(grid0.coords t 1).val, 0] := by decide +kernel
theorem index_3 : ∀ t : Fin grid0.N, win0_3.index t = ![(grid0.coords t 1).val, 0] := by decide +kernel
theorem index_4 : ∀ t : Fin grid0.N, win0_4.index t = ![(grid0.coords t 1).val, 0] := by decide +kernel
theorem index_5 : ∀ t : Fin grid0.N, win0_5.index t = ![(grid0.coords t 0).val, 0] := by decide +kernel
theorem index_6 : ∀ t : Fin grid0.N, win0_6.index t = ![(grid0.coords t 0).val, 0] := by decide +kernel
theorem index_7 : ∀ t : Fin grid0.N, win0_7.index t = ![(grid0.coords t 0).val, (grid0.coords t 1).val] := by decide +kernel
theorem index_8 : ∀ t : Fin grid0.N, win0_8.index t = ![(grid0.coords t 0).val, (grid0.coords t 1).val] := by decide +kernel

theorem read_0 (c : Dev nD) (t : Fin cfg0.N) (i : Fin 1024) (d : Fin 2048) : iblk m c 0 t (ix2 i d) = argX m c (ix2 (tokenRow t i) d) := by
  show V m c main_arg0 _ = _
  rw [V_main_arg0]
  refine congrArg (argX m c) (funext fun a => Fin.ext ?_)
  have h0 := coord0 t
  have h1 := coord1 t
  match a with
  | ⟨0, _⟩ => blk_simp [index_0]; show (grid0.coords t 0).val * 1024 + i.val = t.val / 11 * 1024 + i.val; rw [h0]
  | ⟨1, _⟩ => blk_simp [index_0]

theorem read_1 (c : Dev nD) (t : Fin cfg0.N) (d : Fin 2048) : iblk m c 1 t (ix2 0 d) = argN m c (ix2 0 d) := by
  show V m c main_arg1 _ = _
  rw [V_main_arg1]
  refine congrArg (argN m c) (funext fun a => Fin.ext ?_)
  have h0 := coord0 t
  have h1 := coord1 t
  match a with
  | ⟨0, _⟩ => blk_simp [index_1]
  | ⟨1, _⟩ => blk_simp [index_1]

theorem read_2 (c : Dev nD) (t : Fin cfg0.N) (f : Fin 512) (d : Fin 2048) : iblk m c 2 t (ix2 f d) = argWg m c (ix2 (unitRow t f) d) := by
  show V m c main_arg2 _ = _
  rw [V_main_arg2]
  refine congrArg (argWg m c) (funext fun a => Fin.ext ?_)
  have h0 := coord0 t
  have h1 := coord1 t
  match a with
  | ⟨0, _⟩ => blk_simp [index_2]; show (grid0.coords t 1).val * 512 + f.val = t.val % 11 * 512 + f.val; rw [h1]
  | ⟨1, _⟩ => blk_simp [index_2]

theorem read_3 (c : Dev nD) (t : Fin cfg0.N) (f : Fin 512) (d : Fin 2048) : iblk m c 3 t (ix2 f d) = argWu m c (ix2 (unitRow t f) d) := by
  show V m c main_arg3 _ = _
  rw [V_main_arg3]
  refine congrArg (argWu m c) (funext fun a => Fin.ext ?_)
  have h0 := coord0 t
  have h1 := coord1 t
  match a with
  | ⟨0, _⟩ => blk_simp [index_3]; show (grid0.coords t 1).val * 512 + f.val = t.val % 11 * 512 + f.val; rw [h1]
  | ⟨1, _⟩ => blk_simp [index_3]

theorem read_4 (c : Dev nD) (t : Fin cfg0.N) (f : Fin 512) (d : Fin 2048) : iblk m c 4 t (ix2 f d) = argWd m c (ix2 (unitRow t f) d) := by
  show V m c main_arg4 _ = _
  rw [V_main_arg4]
  refine congrArg (argWd m c) (funext fun a => Fin.ext ?_)
  have h0 := coord0 t
  have h1 := coord1 t
  match a with
  | ⟨0, _⟩ => blk_simp [index_4]; show (grid0.coords t 1).val * 512 + f.val = t.val % 11 * 512 + f.val; rw [h1]
  | ⟨1, _⟩ => blk_simp [index_4]

/-! ## From point to point -/

/-- The results. -/
def outHn (c : Dev nD) : TokenArr := hnArr (argX m c) (argN m c)
def outGate (c : Dev nD) : HiddenArr := hiddenArr (outHn m c) (argWg m c)
def outUp (c : Dev nD) : HiddenArr := hiddenArr (outHn m c) (argWu m c)
def outX (c : Dev nD) : TokenArr := outArr (argX m c) (argN m c) (argWg m c) (argWu m c) (argWd m c)

/-- The hidden activations and what they come to, taken back to the features. -/
def actOf (c : Dev nD) : HiddenArr := actArr (outHn m c) (argWg m c) (argWu m c)
def downOf (c : Dev nD) : TokenArr := downArr (actOf m c) (argWd m c)

theorem hn_open_read (c : Dev nD) (t : Fin cfg0.N) (h : t.val % 11 = 0) (i : Fin 1024) (d : Fin 2048) :
    hnAt (F := Ideal) m c t.val t.isLt (ix2 i d) = outHn m c (ix2 (tokenRow t i) d) := by
  rw [hnAt_open m c t h]
  refine (normAll_read _ _ _ i d).trans ?_
  simp only [read_0, read_1]
  rfl

/-- The normalised block is the same at every point of a row block. -/
theorem hnAt_read (c : Dev nD) (n : ℕ) (hn : n < cfg0.N) (i : Fin 1024) (d : Fin 2048) :
    hnAt (F := Ideal) m c n hn (ix2 i d) = outHn m c (ix2 (tokenRow ⟨n, hn⟩ i) d) := by
  induction n with
  | zero => exact hn_open_read m c ⟨0, hn⟩ rfl i d
  | succ n ih =>
    by_cases h : (n + 1) % 11 = 0
    · exact hn_open_read m c ⟨n + 1, hn⟩ h i d
    · rw [hnAt_rest m c n hn h, ih (Nat.lt_of_succ_lt hn)]
      have e : tokenRow ⟨n, Nat.lt_of_succ_lt hn⟩ i = tokenRow ⟨n + 1, hn⟩ i := Fin.ext (by
        show n / 11 * 1024 + i.val = (n + 1) / 11 * 1024 + i.val
        omega)
      rw [e]

theorem gateAt_read (c : Dev nD) (t : Fin cfg0.N) (i : Fin 1024) (f : Fin 512) :
    gateAt (F := Ideal) m c t (ix2 i f) = outGate m c (ix2 (tokenRow t i) (unitRow t f)) := by
  unfold gateAt
  refine (gateStep_read _ _ _ i f).trans ?_
  simp only [hnAt_read, read_2]
  rfl

theorem upAt_read (c : Dev nD) (t : Fin cfg0.N) (i : Fin 1024) (f : Fin 512) :
    upAt (F := Ideal) m c t (ix2 i f) = outUp m c (ix2 (tokenRow t i) (unitRow t f)) := by
  unfold upAt
  refine (upStep_read _ _ _ i f).trans ?_
  simp only [hnAt_read, read_3]
  rfl

theorem actAt_read (c : Dev nD) (t : Fin cfg0.N) (i : Fin 1024) (f : Fin 512) :
    actAt (F := Ideal) m c t (ix2 i f) = actOf m c (ix2 (tokenRow t i) (unitRow t f)) := by
  unfold actAt
  refine (actStep_read _ _ _ _ i f).trans ?_
  simp only [hnAt_read, read_2, read_3]
  rfl

/-- What a point adds to the running sum. -/
def partDown (c : Dev nD) (t : Fin cfg0.N) (i : Fin 1024) (d : Fin 2048) : EReal :=
  ∑ f : Fin 512, actOf m c (ix2 (tokenRow t i) (unitRow t f)) * argWd m c (ix2 (unitRow t f) d)

theorem acc_first (c : Dev nD) (t : Fin cfg0.N) (h : t.val % 11 = 0) (i : Fin 1024) (d : Fin 2048) :
    accAt (F := Ideal) m c t.val t.isLt (ix2 i d) = 0 + partDown m c t i d := by
  rw [accAt_open m c t h]
  refine (pay2_read _ _ _ i d).trans (congrArg₂ (· + ·) (pay14_read i d) ?_)
  simp only [actAt_read, read_4]
  rfl

theorem acc_next (c : Dev nD) (t : Fin cfg0.N) (h : ¬t.val % 11 = 0) (i : Fin 1024) (d : Fin 2048) :
    accAt (F := Ideal) m c t.val t.isLt (ix2 i d)
      = accAt (F := Ideal) m c (t.val - 1) (Nat.lt_of_le_of_lt (Nat.sub_le _ _) t.isLt) (ix2 i d) + partDown m c t i d := by
  obtain ⟨n, hn⟩ := t
  cases n with
  | zero => exact absurd rfl h
  | succ n =>
    refine (congrFun (accAt_rest m c n hn h) (ix2 i d)).trans ((pay2_read _ _ _ i d).trans (congrArg (_ + ·) ?_))
    simp only [actAt_read, read_4]
    rfl

/-- The eleven points of a row block take all hidden units. -/
theorem acc_total (c : Dev nD) (t : Fin cfg0.N) (h : t.val % 11 = 10) (i : Fin 1024) (d : Fin 2048) :
    accAt (F := Ideal) m c t.val t.isLt (ix2 i d) = downOf m c (ix2 (tokenRow t i) d) := by
  rw [Pipeline.eq_sum_fin_of_reset_step_apply_of_flush (ι := Fin 1024 × Fin 2048) (M := EReal)
    (fun n h y => accAt (F := Ideal) m c n h (ix2 y.1 y.2)) 11 (fun _ => 0) (fun t y => partDown m c t y.1 y.2)
    (fun t h y => acc_first m c t h y.1 y.2) (fun t h y => acc_next m c t h y.1 y.2) t h (i, d)]
  refine (zero_add _).trans ?_
  unfold partDown
  have row : ∀ s : Fin 11, tokenRow ⟨11 * (t.val / 11) + s.val, Pipeline.run_point_lt_of_flush t h s⟩ i = tokenRow t i := fun s =>
    Fin.ext (by unfold tokenRow; dsimp only; omega)
  have unit : ∀ (s : Fin 11) (f : Fin 512) (hl : s.val * 512 + f.val < 5632),
      unitRow ⟨11 * (t.val / 11) + s.val, Pipeline.run_point_lt_of_flush t h s⟩ f = ⟨s.val * 512 + f.val, hl⟩ := fun s f hl =>
    Fin.ext (by unfold unitRow; dsimp only; omega)
  refine Fin.sum_mul_add_congr fun s f hl => ?_
  rw [row, unit s f hl]
  rfl

theorem xoAt_read (c : Dev nD) (t : Fin cfg0.N) (h : t.val % 11 = 10) (i : Fin 1024) (d : Fin 2048) :
    xoAt (F := Ideal) m c t (ix2 i d) = outX m c (ix2 (tokenRow t i) d) := by
  unfold xoAt
  rw [if_pos h]
  refine (pay3_read _ _ i d).trans ?_
  rw [read_0, acc_total m c t h]
  rfl

/-! ## The arrays after the run -/

/-- The half step's output after the run. -/
theorem arr_x (c : Dev nD) : (dats (F := Ideal) m 0 c).arrAt 5 cfg0.N = outX m c := by
  refine (dats (F := Ideal) m 0 c).arrAt_eq_of_covers 5 _ (by decide +kernel) fun t hf y => ?_
  have h7 : t.val % 11 = 10 := (flush0_5 t).mp hf
  blk_simp
  rw [after0_5]
  obtain ⟨i, d, rfl⟩ : ∃ (i : Fin 1024) (d : Fin 2048), y = ix2 i d := ⟨y 0, y 1, eq_ix2 y⟩
  refine (xoAt_read m c t h7 i d).trans ?_
  refine congrArg (outX m c) (funext fun a => Fin.ext ?_)
  have h0 := coord0 t
  have h1 := coord1 t
  match a with
  | ⟨0, _⟩ => blk_simp [index_5]; show t.val / 11 * 1024 + i.val = (grid0.coords t 0).val * 1024 + i.val; rw [h0]
  | ⟨1, _⟩ => blk_simp [index_5]

/-- The normalised rows after the run. -/
theorem arr_hn (c : Dev nD) : (dats (F := Ideal) m 0 c).arrAt 6 cfg0.N = outHn m c := by
  refine (dats (F := Ideal) m 0 c).arrAt_eq_of_covers 6 _ (by decide +kernel) fun t hf y => ?_
  blk_simp
  rw [after0_6]
  obtain ⟨i, d, rfl⟩ : ∃ (i : Fin 1024) (d : Fin 2048), y = ix2 i d := ⟨y 0, y 1, eq_ix2 y⟩
  refine (hnAt_read m c t.val t.isLt i d).trans ?_
  refine congrArg (outHn m c) (funext fun a => Fin.ext ?_)
  have h0 := coord0 t
  have h1 := coord1 t
  match a with
  | ⟨0, _⟩ => blk_simp [index_6]; show t.val / 11 * 1024 + i.val = (grid0.coords t 0).val * 1024 + i.val; rw [h0]
  | ⟨1, _⟩ => blk_simp [index_6]

/-- The gate after the run. -/
theorem arr_gate (c : Dev nD) : (dats (F := Ideal) m 0 c).arrAt 7 cfg0.N = outGate m c := by
  refine (dats (F := Ideal) m 0 c).arrAt_eq_of_covers 7 _ (by decide +kernel) fun t hf y => ?_
  blk_simp
  rw [after0_7]
  obtain ⟨i, f, rfl⟩ : ∃ (i : Fin 1024) (f : Fin 512), y = ix2 i f := ⟨y 0, y 1, eq_ix2 y⟩
  refine (gateAt_read m c t i f).trans ?_
  refine congrArg (outGate m c) (funext fun a => Fin.ext ?_)
  have h0 := coord0 t
  have h1 := coord1 t
  match a with
  | ⟨0, _⟩ => blk_simp [index_7]; show t.val / 11 * 1024 + i.val = (grid0.coords t 0).val * 1024 + i.val; rw [h0]
  | ⟨1, _⟩ => blk_simp [index_7]; show t.val % 11 * 512 + f.val = (grid0.coords t 1).val * 512 + f.val; rw [h1]

/-- The second factor after the run. -/
theorem arr_up (c : Dev nD) : (dats (F := Ideal) m 0 c).arrAt 8 cfg0.N = outUp m c := by
  refine (dats (F := Ideal) m 0 c).arrAt_eq_of_covers 8 _ (by decide +kernel) fun t hf y => ?_
  blk_simp
  rw [after0_8]
  obtain ⟨i, f, rfl⟩ : ∃ (i : Fin 1024) (f : Fin 512), y = ix2 i f := ⟨y 0, y 1, eq_ix2 y⟩
  refine (upAt_read m c t i f).trans ?_
  refine congrArg (outUp m c) (funext fun a => Fin.ext ?_)
  have h0 := coord0 t
  have h1 := coord1 t
  match a with
  | ⟨0, _⟩ => blk_simp [index_8]; show t.val / 11 * 1024 + i.val = (grid0.coords t 0).val * 1024 + i.val; rw [h0]
  | ⟨1, _⟩ => blk_simp [index_8]; show t.val % 11 * 512 + f.val = (grid0.coords t 1).val * 512 + f.val; rw [h1]

end Cert.Kernel4Ideal.Gen

end
-- ==== Proof.FfnForwardClaim.lean ====
module

public import proofs.«01_k».proof.Defs
public import proofs.«01_k».proof.Proof.Gen.Reference4Ideal.Run
public import proofs.«01_k».proof.Proof.FfnForwardRef
public import proofs.«01_k».proof.Proof.FfnForwardValue

/-! # The forward half step: the claims

The kernel's four results are the reference's over the extended reals, with no condition. -/

@[expose] public section

set_option maxRecDepth 16384

noncomputable section

namespace Cert.FfnForward

open Idealize.ShloMosaic Idealize.SL.Sem
open Cert.Kernel4Ideal.Gen (outX outHn outGate outUp arr_x arr_hn arr_gate arr_up)

variable (m : (ℓ : Loc Cert.Kernel4Ideal.nD Cert.Kernel4Ideal.τ Cert.Kernel4Ideal.sig) → Buf (Elt Ideal) ℓ)

/-- The reference leaves its arguments as they were; it declares no semaphore. -/
theorem reference_frame : Cert.quiescent_Reference4Ideal (hReference4Ideal := Cert.Reference4Ideal.Gen.facts) := fun m g _ =>
  (θ_run _ _ _).mono (fun r h => ⟨fun c => (h c).2.2.2.2, sem_eq_zero_of_no_sems (by decide) r.2⟩) (Cert.Reference4Ideal.Value.run m g)

/-- The kernel ends at the four arrays. -/
theorem kernel_run (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩
      (fun r => (∀ c : Dev Cert.Kernel4Ideal.nD,
        r.2.mem ((c.tc : Thread Cert.Kernel4Ideal.nD Cert.Kernel4Ideal.τ).loc Cert.Kernel4Ideal.main_v0_0) = outX m c
        ∧ r.2.mem ((c.tc : Thread Cert.Kernel4Ideal.nD Cert.Kernel4Ideal.τ).loc Cert.Kernel4Ideal.main_v0_1) = outHn m c
        ∧ r.2.mem ((c.tc : Thread Cert.Kernel4Ideal.nD Cert.Kernel4Ideal.τ).loc Cert.Kernel4Ideal.main_v0_2) = outGate m c
        ∧ r.2.mem ((c.tc : Thread Cert.Kernel4Ideal.nD Cert.Kernel4Ideal.τ).loc Cert.Kernel4Ideal.main_v0_3) = outUp m c)) :=
  (θ_run _ _ _).mono (fun _ h c => ⟨((h c).1 5).trans (arr_x m c), ((h c).1 6).trans (arr_hn m c), ((h c).1 7).trans (arr_gate m c),
    ((h c).1 8).trans (arr_up m c)⟩) (Cert.Kernel4Ideal.Gen.run_main m g)

/-- The kernel's results are the reference's. -/
theorem results_equal : Cert.algebraic_Kernel4Ideal_Reference4Ideal (hKernel4Ideal := Cert.Kernel4Ideal.Gen.facts)
    (hReference4Ideal := Cert.Reference4Ideal.Gen.facts) := by
  intro m g m' g' _ hagree
  refine ⟨outX m, outHn m, outGate m, outUp m, ?_, ?_⟩
  · refine (θ_run _ _ _).mono (fun r h c => ?_) (θ_run_and (kernel_run m g) (Cert.Kernel4Ideal.Gen.frame m g))
    exact ⟨(h.1 c).1, (h.1 c).2.1, (h.1 c).2.2.1, (h.1 c).2.2.2, h.2.1 c⟩
  · refine (θ_run _ _ _).mono (fun r h c => ?_) (Cert.Reference4Ideal.Value.run m' g')
    obtain ⟨e0, e1, e2, e3, e4⟩ := hagree c
    obtain ⟨h0, h1, h2, h3, h4⟩ := h c
    refine ⟨h0.trans ?_, h1.trans ?_, h2.trans ?_, h3.trans ?_, h4⟩
    · rw [Cert.Reference4Ideal.Read.val_main_v24_eq, e0, e1, e2, e3, e4]
      exact Cert.Reference4Ideal.Read.out_ref _ _ _ _ _
    · rw [Cert.Reference4Ideal.Read.val_main_v25_eq, e0, e1]
      exact Cert.Reference4Ideal.Read.hn_ref _ _
    · rw [Cert.Reference4Ideal.Read.val_main_v26_eq, e0, e1, e2]
      exact Cert.Reference4Ideal.Read.gate_ref _ _ _
    · rw [Cert.Reference4Ideal.Read.val_main_v27_eq, e0, e1, e3]
      exact Cert.Reference4Ideal.Read.up_ref _ _ _

end Cert.FfnForward

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.PrintedRun
public import proofs.«01_k».proof.Proof.Pair
public import proofs.«01_k».proof.Proof.Gen.Kernel2.Frame
public import proofs.«01_k».proof.Proof.FfnWeightsClaim
public import proofs.«01_k».proof.Proof.PrintedFfnInputRun
public import proofs.«01_k».proof.Proof.FfnInputClaim
public import proofs.«01_k».proof.Proof.PrintedFfnForwardRun
public import proofs.«01_k».proof.Proof.FfnForwardClaim

/-! # The gradients of chunked attention and of the feed-forward half step, and the half step itself: the claim

The printed kernel and its idealization run and leave their arguments and counters as they were; so does the reference; and over the extended
reals the kernel's three gradients are the reference's, where the queries, the keys and the table are finite. The same of the feed-forward
weights' gradients, with no condition, of the half step's input gradient, where its arguments are finite, and of the half step's own results,
with no condition. -/

@[expose] public section

set_option maxRecDepth 16384

noncomputable section

namespace Cert.Proof

open Idealize.ShloMosaic Idealize.SL.Sem Cert.AttnGrad
open Cert.KernelIdeal.Gen (outQ outK outV argQ argK argV argT argO)

/-- The kernel ends at the three sums, with its arguments unchanged. -/
theorem kernel_run (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite (hPre_finite := finiteFacts) m) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v155_0) = outQ m c
        ∧ r.2.mem ((c.tc : Thread Cert.KernelIdeal.nD Cert.KernelIdeal.τ).loc Cert.KernelIdeal.main_v155_1) = outK m c
        ∧ r.2.mem ((c.tc : Thread Cert.KernelIdeal.nD Cert.KernelIdeal.τ).loc Cert.KernelIdeal.main_v155_2) = outV m c)) :=
  (θ_run _ _ _).mono (fun _ h c => by
    obtain ⟨hq, hk, ht⟩ := finite_of_pre m hpre c
    exact ⟨((h c).1 5).trans (Cert.KernelIdeal.Gen.arr_dq c hq hk ht), ((h c).1 6).trans (Cert.KernelIdeal.Gen.arr_dk c hq hk ht),
      ((h c).1 7).trans (Cert.KernelIdeal.Gen.arr_dv c hq hk ht)⟩) (Cert.KernelIdeal.Gen.run_main m g)

/-- The reference leaves its arguments as they were; it declares no semaphore. -/
theorem reference_frame : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩) (Cert.ReferenceIdeal.Value.run m g)

/-- The kernel's results are the reference's. -/
theorem gradients_equal : Cert.algebraic_KernelIdeal_ReferenceIdeal_pre_finite (hKernelIdeal := Cert.KernelIdeal.Gen.facts)
    (hReferenceIdeal := Cert.ReferenceIdeal.Gen.facts) (hPre_finite := finiteFacts) := by
  intro m g m' g' hpre hagree
  refine ⟨outQ m, outK m, outV m, ?_, ?_⟩
  · refine (θ_run _ _ _).mono (fun r h c => ?_) (θ_run_and (kernel_run m g hpre) (Cert.KernelIdeal.Gen.frame m g))
    exact ⟨(h.1 c).1, (h.1 c).2.1, (h.1 c).2.2, h.2.1 c⟩
  · refine (θ_run _ _ _).mono (fun r h c => ?_) (Cert.ReferenceIdeal.Value.run m' g')
    obtain ⟨e0, e1, e2, e3, e4⟩ := hagree c
    obtain ⟨h0, h1, h2, h3⟩ := h c
    refine ⟨h0.trans ?_, h1.trans ?_, h2.trans ?_, h3⟩
    · rw [Cert.ReferenceIdeal.Read.val_main_v97_eq, e0, e1, e2, e3, e4]; exact pair_dq m c
    · rw [Cert.ReferenceIdeal.Read.val_main_v96_eq, e0, e1, e2, e3, e4]; exact pair_dk m c
    · rw [Cert.ReferenceIdeal.Read.val_main_v95_eq, e0, e1, e3, e4]; exact pair_dv m c

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, finiteFacts, Cert.FfnInput.finiteFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  Cert.FfnWeights.reference_frame,
  fun m ρ _ => Cert.Kernel3.Gen.frame m ρ,
  fun m ρ _ => Cert.Kernel3Ideal.Gen.frame m ρ,
  fun m ρ _ => Cert.Kernel3Ideal.Gen.frame m ρ,
  Cert.FfnInput.reference_frame,
  fun m ρ _ => Cert.FfnInput.reference_frame m ρ trivial,
  fun m ρ _ => Cert.Kernel4.Gen.frame m ρ,
  fun m ρ _ => Cert.Kernel4Ideal.Gen.frame m ρ,
  Cert.FfnForward.reference_frame,
  IdealRules.named_const.statement Cert.KernelIdeal.κ "mask" .f32 0xF149F2CA#32 ⊥ rfl,
  gradients_equal,
  trivial,
  Cert.FfnWeights.gradients_equal,
  trivial,
  Cert.FfnInput.gradients_equal,
  trivial,
  Cert.FfnForward.results_equal⟩

end Cert.Proof

end
